-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x16x64 : Shape := ⟨4, ![2, 2048, 16, 64]⟩
abbrev S_ : Shape := ⟨0, ![]⟩

class Facts : Prop where
  bcast_S_S2x2048x16x64 : S_.BroadcastsInDim S2x2048x16x64 (![] : Fin 0 → Fin S2x2048x16x64.rank)

variable [Facts]

def fn {F : FTy → Type} [FloatOps F] (main_arg0 : FVec F S2x2048x16x64 .f32) (main_arg1 : FVec F S2x2048x16x64 .f32) (main_arg2 : FVec F S2x2048x16x64 .f32) : IVec S2x2048x16x64 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_v3 : FVec F S2x2048x16x64 .f32 := Host.absf main_arg1
  let main_cst_0 : FVec F S_ .f32 := constant S_ .f32 0x7F800000#32
  let main_v4 : FVec F S2x2048x16x64 .f32 := broadcastInDim S2x2048x16x64 ![] bcast_S_S2x2048x16x64 main_cst_0
  let main_v5 : IVec S2x2048x16x64 1 := cmpf .olt main_v3 main_v4
  let main_v6 : IVec S2x2048x16x64 1 := andi main_v2 main_v5
  main_v6
-- ==== Kernel.lean ====
abbrev S2x2048x16x64 : Shape := ⟨4, ![2, 2048, 16, 64]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S2048x40 : Shape := ⟨2, ![2048, 40]⟩
abbrev S2048x2048 : Shape := ⟨2, ![2048, 2048]⟩
abbrev S2048 : Shape := ⟨1, ![2048]⟩
abbrev S2048x1 : Shape := ⟨2, ![2048, 1]⟩
abbrev S2048x40x1 : Shape := ⟨3, ![2048, 40, 1]⟩
abbrev S2048x40x2 : Shape := ⟨3, ![2048, 40, 2]⟩
abbrev S2x2048x1024 : Shape := ⟨3, ![2, 2048, 1024]⟩
abbrev S1x2048x128 : Shape := ⟨3, ![1, 2048, 128]⟩
abbrev S1x2048 : Shape := ⟨2, ![1, 2048]⟩
abbrev S40x2048 : Shape := ⟨2, ![40, 2048]⟩
abbrev S256x256 : Shape := ⟨2, ![256, 256]⟩
abbrev S1x128 : Shape := ⟨2, ![1, 128]⟩
abbrev S1x256x128 : Shape := ⟨3, ![1, 256, 128]⟩
abbrev S256x128 : Shape := ⟨2, ![256, 128]⟩
abbrev S40x40 : Shape := ⟨2, ![40, 40]⟩
abbrev S1x2048x64 : Shape := ⟨3, ![1, 2048, 64]⟩
abbrev S2048x64 : Shape := ⟨2, ![2048, 64]⟩
abbrev S1x1024x64 : Shape := ⟨3, ![1, 1024, 64]⟩
abbrev S1024x64 : Shape := ⟨2, ![1024, 64]⟩
abbrev S2048x1024 : Shape := ⟨2, ![2048, 1024]⟩
abbrev S1024 : Shape := ⟨1, ![1024]⟩
abbrev S1x1024 : Shape := ⟨2, ![1, 1024]⟩
abbrev S1x1x2048 : Shape := ⟨3, ![1, 1, 2048]⟩
abbrev S1x1x1 : Shape := ⟨3, ![1, 1, 1]⟩
abbrev S40x64 : Shape := ⟨2, ![40, 64]⟩
abbrev S1x40x64 : Shape := ⟨3, ![1, 40, 64]⟩
abbrev S40 : Shape := ⟨1, ![40]⟩
abbrev S40x1 : Shape := ⟨2, ![40, 1]⟩
abbrev S40x63 : Shape := ⟨2, ![40, 63]⟩
abbrev S40x128 : Shape := ⟨2, ![40, 128]⟩
abbrev S2048x128 : Shape := ⟨2, ![2048, 128]⟩

abbrev nBuf : Space → Nat
  | .hbm => 817
  | .vmem => 11
  | .smem => 0
  | _ => 0

abbrev hbmTy0_0 (i : Nat) : BufTy := match i % 128 with
  | 0 => ⟨S2x2048x16x64, .f32⟩
  | 1 => ⟨S2x2048x16x64, .f32⟩
  | 2 => ⟨S2x2048x16x64, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S1x1, .i32⟩
  | 32 => ⟨S1x1, .i32⟩
  | 33 => ⟨S1, .i32⟩
  | 34 => ⟨S_, .i32⟩
  | 35 => ⟨S1, .i32⟩
  | 36 => ⟨S_, .i32⟩
  | 37 => ⟨S2, .i64⟩
  | 38 => ⟨S_, .i64⟩
  | 39 => ⟨S2, .i64⟩
  | 40 => ⟨S2, .i64⟩
  | 41 => ⟨S_, .i64⟩
  | 42 => ⟨S2, .i64⟩
  | 43 => ⟨S2, .i64⟩
  | 44 => ⟨S2, .i32⟩
  | 45 => ⟨S2, .i32⟩
  | 46 => ⟨S_, .i32⟩
  | 47 => ⟨S_, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S2x2048x16x64, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S2x2048x16x64, .f32⟩

abbrev hbmTy0_2 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2x1, .i32⟩
  | 13 => ⟨S2x1, .i32⟩
  | 14 => ⟨S2x2, .i32⟩
  | 15 => ⟨S1x2, .i32⟩
  | 16 => ⟨S2, .i32⟩
  | 17 => ⟨S1x2, .i32⟩
  | 18 => ⟨S2, .i32⟩
  | 19 => ⟨S1, .i32⟩
  | 20 => ⟨S_, .i32⟩
  | 21 => ⟨S1, .i32⟩
  | 22 => ⟨S_, .i32⟩
  | 23 => ⟨S2048x40, .i64⟩
  | 24 => ⟨S2048x40, .i64⟩
  | 25 => ⟨S_, .i64⟩
  | 26 => ⟨S2048x40, .i64⟩
  | 27 => ⟨S2048x40, .i64⟩
  | 28 => ⟨S_, .i64⟩
  | 29 => ⟨S2048x40, .i64⟩
  | 30 => ⟨S2048x40, .i64⟩
  | 31 => ⟨S2048x40, .i64⟩
  | 32 => ⟨S_, .i64⟩
  | 33 => ⟨S2048x40, .i64⟩
  | 34 => ⟨S2048x40, .i64⟩
  | 35 => ⟨S2048x40, .i32⟩
  | 36 => ⟨S2048x40, .i32⟩
  | 37 => ⟨S_, .i32⟩
  | 38 => ⟨S_, .i32⟩
  | 39 => ⟨S_, .i32⟩
  | 40 => ⟨S2048x40, .i32⟩
  | 41 => ⟨S2048x40, .i32⟩
  | 42 => ⟨S2048x40, .i32⟩
  | 43 => ⟨S2048x40, .i32⟩
  | 44 => ⟨S2048x40, .i32⟩
  | 45 => ⟨S_, .i32⟩
  | 46 => ⟨S2048x40, .i32⟩
  | 47 => ⟨S2048x40, .i32⟩
  | 48 => ⟨S_, .i32⟩
  | 49 => ⟨S2048x40, .i32⟩
  | 50 => ⟨S2048x40, .i32⟩
  | 51 => ⟨S2048x40, .i32⟩
  | 52 => ⟨S2048x40, .i32⟩
  | 53 => ⟨S2048x40, .i32⟩
  | 54 => ⟨S_, .i32⟩
  | 55 => ⟨S2048x40, .i32⟩
  | 56 => ⟨S2048x40, .i32⟩
  | 57 => ⟨S_, .i32⟩
  | 58 => ⟨S2048x40, .i32⟩
  | 59 => ⟨S2048x40, .i32⟩
  | 60 => ⟨S2048x40, .i32⟩
  | 61 => ⟨S2048x40, .i32⟩
  | 62 => ⟨S2048x40, .i32⟩
  | 63 => ⟨S_, .i32⟩
  | 64 => ⟨S2048x40, .i32⟩
  | 65 => ⟨S2048x40, .i32⟩
  | 66 => ⟨S_, .i32⟩
  | 67 => ⟨S2048x40, .i32⟩
  | 68 => ⟨S2048x40, .i32⟩
  | 69 => ⟨S2048x40, .i32⟩
  | 70 => ⟨S2048x40, .i32⟩
  | 71 => ⟨S2048x40, .i32⟩
  | 72 => ⟨S_, .i32⟩
  | 73 => ⟨S2048x40, .i32⟩
  | 74 => ⟨S2048x40, .i32⟩
  | 75 => ⟨S_, .i32⟩
  | 76 => ⟨S2048x40, .i32⟩
  | 77 => ⟨S2048x40, .i32⟩
  | 78 => ⟨S2048x40, .i32⟩
  | 79 => ⟨S2048x40, .i32⟩
  | 80 => ⟨S2048x40, .i32⟩
  | 81 => ⟨S2048x40, .i32⟩
  | 82 => ⟨S2048x40, .i32⟩
  | 83 => ⟨S2048x40, .i32⟩
  | 84 => ⟨S_, .i32⟩
  | 85 => ⟨S2048x40, .i32⟩
  | 86 => ⟨S2048x40, .i32⟩
  | 87 => ⟨S2048x40, .i32⟩
  | 88 => ⟨S_, .i32⟩
  | 89 => ⟨S2048x40, .i32⟩
  | 90 => ⟨S2048x40, .i32⟩
  | 91 => ⟨S_, .i32⟩
  | 92 => ⟨S2048x40, .i32⟩
  | 93 => ⟨S2048x40, .i32⟩
  | 94 => ⟨S2048x40, .i32⟩
  | 95 => ⟨S2048x40, .i32⟩
  | 96 => ⟨S2048x40, .i32⟩
  | 97 => ⟨S_, .i32⟩
  | 98 => ⟨S2048x40, .i32⟩
  | 99 => ⟨S2048x40, .i32⟩
  | 100 => ⟨S_, .i32⟩
  | 101 => ⟨S2048x40, .i32⟩
  | 102 => ⟨S2048x40, .i32⟩
  | 103 => ⟨S2048x40, .i32⟩
  | 104 => ⟨S2048x40, .i32⟩
  | 105 => ⟨S2048x40, .i32⟩
  | 106 => ⟨S_, .i32⟩
  | 107 => ⟨S2048x40, .i32⟩
  | 108 => ⟨S2048x40, .i32⟩
  | 109 => ⟨S_, .i32⟩
  | 110 => ⟨S2048x40, .i32⟩
  | 111 => ⟨S2048x40, .i32⟩
  | 112 => ⟨S2048x40, .i32⟩
  | 113 => ⟨S2048x40, .i32⟩
  | 114 => ⟨S2048x40, .i32⟩
  | 115 => ⟨S_, .i32⟩
  | 116 => ⟨S2048x40, .i32⟩
  | 117 => ⟨S2048x40, .i32⟩
  | 118 => ⟨S_, .i32⟩
  | 119 => ⟨S2048x40, .i32⟩
  | 120 => ⟨S2048x40, .i32⟩
  | 121 => ⟨S2048x40, .i32⟩
  | 122 => ⟨S2048x40, .i32⟩
  | 123 => ⟨S2048x40, .i32⟩
  | 124 => ⟨S2048x40, .i32⟩
  | 125 => ⟨S2048x40, .i32⟩
  | 126 => ⟨S2048x40, .i32⟩
  | 127 => ⟨S_, .i32⟩
  | _ => ⟨S2x2048x16x64, .f32⟩

abbrev hbmTy0_3 (i : Nat) : BufTy := match i % 128 with
  | 0 => ⟨S2048x40, .i32⟩
  | 1 => ⟨S2048x40, .i32⟩
  | 2 => ⟨S2048x40, .i32⟩
  | 3 => ⟨S_, .i32⟩
  | 4 => ⟨S2048x40, .i32⟩
  | 5 => ⟨S2048x40, .i32⟩
  | 6 => ⟨S_, .i32⟩
  | 7 => ⟨S2048x40, .i32⟩
  | 8 => ⟨S2048x40, .i32⟩
  | 9 => ⟨S2048x40, .i32⟩
  | 10 => ⟨S2048x40, .i32⟩
  | 11 => ⟨S2048x40, .i32⟩
  | 12 => ⟨S_, .i32⟩
  | 13 => ⟨S2048x40, .i32⟩
  | 14 => ⟨S2048x40, .i32⟩
  | 15 => ⟨S_, .i32⟩
  | 16 => ⟨S2048x40, .i32⟩
  | 17 => ⟨S2048x40, .i32⟩
  | 18 => ⟨S2048x40, .i32⟩
  | 19 => ⟨S2048x40, .i32⟩
  | 20 => ⟨S2048x40, .i32⟩
  | 21 => ⟨S_, .i32⟩
  | 22 => ⟨S2048x40, .i32⟩
  | 23 => ⟨S2048x40, .i32⟩
  | 24 => ⟨S_, .i32⟩
  | 25 => ⟨S2048x40, .i32⟩
  | 26 => ⟨S2048x40, .i32⟩
  | 27 => ⟨S2048x40, .i32⟩
  | 28 => ⟨S2048x40, .i32⟩
  | 29 => ⟨S2048x40, .i32⟩
  | 30 => ⟨S_, .i32⟩
  | 31 => ⟨S2048x40, .i32⟩
  | 32 => ⟨S2048x40, .i32⟩
  | 33 => ⟨S_, .i32⟩
  | 34 => ⟨S2048x40, .i32⟩
  | 35 => ⟨S2048x40, .i32⟩
  | 36 => ⟨S2048x40, .i32⟩
  | 37 => ⟨S2048x40, .i32⟩
  | 38 => ⟨S2048x40, .i32⟩
  | 39 => ⟨S2048x40, .i32⟩
  | 40 => ⟨S2048x40, .i32⟩
  | 41 => ⟨S2048x40, .i32⟩
  | 42 => ⟨S_, .i32⟩
  | 43 => ⟨S2048x40, .i32⟩
  | 44 => ⟨S2048x40, .i32⟩
  | 45 => ⟨S2048x40, .i32⟩
  | 46 => ⟨S_, .i32⟩
  | 47 => ⟨S2048x40, .i32⟩
  | 48 => ⟨S2048x40, .i32⟩
  | 49 => ⟨S_, .i32⟩
  | 50 => ⟨S2048x40, .i32⟩
  | 51 => ⟨S2048x40, .i32⟩
  | 52 => ⟨S2048x40, .i32⟩
  | 53 => ⟨S2048x40, .i32⟩
  | 54 => ⟨S2048x40, .i32⟩
  | 55 => ⟨S_, .i32⟩
  | 56 => ⟨S2048x40, .i32⟩
  | 57 => ⟨S2048x40, .i32⟩
  | 58 => ⟨S_, .i32⟩
  | 59 => ⟨S2048x40, .i32⟩
  | 60 => ⟨S2048x40, .i32⟩
  | 61 => ⟨S2048x40, .i32⟩
  | 62 => ⟨S2048x40, .i32⟩
  | 63 => ⟨S2048x40, .i32⟩
  | 64 => ⟨S_, .i32⟩
  | 65 => ⟨S2048x40, .i32⟩
  | 66 => ⟨S2048x40, .i32⟩
  | 67 => ⟨S_, .i32⟩
  | 68 => ⟨S2048x40, .i32⟩
  | 69 => ⟨S2048x40, .i32⟩
  | 70 => ⟨S2048x40, .i32⟩
  | 71 => ⟨S2048x40, .i32⟩
  | 72 => ⟨S2048x40, .i32⟩
  | 73 => ⟨S_, .i32⟩
  | 74 => ⟨S2048x40, .i32⟩
  | 75 => ⟨S2048x40, .i32⟩
  | 76 => ⟨S_, .i32⟩
  | 77 => ⟨S2048x40, .i32⟩
  | 78 => ⟨S2048x40, .i32⟩
  | 79 => ⟨S2048x40, .i32⟩
  | 80 => ⟨S2048x40, .i32⟩
  | 81 => ⟨S2048x40, .i32⟩
  | 82 => ⟨S2048x40, .i32⟩
  | 83 => ⟨S2048x40, .i32⟩
  | 84 => ⟨S2048x40, .i32⟩
  | 85 => ⟨S_, .i32⟩
  | 86 => ⟨S2048x40, .i32⟩
  | 87 => ⟨S2048x40, .i32⟩
  | 88 => ⟨S2048x40, .i32⟩
  | 89 => ⟨S_, .i32⟩
  | 90 => ⟨S2048x40, .i32⟩
  | 91 => ⟨S2048x40, .i32⟩
  | 92 => ⟨S_, .i32⟩
  | 93 => ⟨S2048x40, .i32⟩
  | 94 => ⟨S2048x40, .i32⟩
  | 95 => ⟨S2048x40, .i32⟩
  | 96 => ⟨S2048x40, .i32⟩
  | 97 => ⟨S2048x40, .i32⟩
  | 98 => ⟨S_, .i32⟩
  | 99 => ⟨S2048x40, .i32⟩
  | 100 => ⟨S2048x40, .i32⟩
  | 101 => ⟨S_, .i32⟩
  | 102 => ⟨S2048x40, .i32⟩
  | 103 => ⟨S2048x40, .i32⟩
  | 104 => ⟨S2048x40, .i32⟩
  | 105 => ⟨S2048x40, .i32⟩
  | 106 => ⟨S2048x40, .i32⟩
  | 107 => ⟨S_, .i32⟩
  | 108 => ⟨S2048x40, .i32⟩
  | 109 => ⟨S2048x40, .i32⟩
  | 110 => ⟨S_, .i32⟩
  | 111 => ⟨S2048x40, .i32⟩
  | 112 => ⟨S2048x40, .i32⟩
  | 113 => ⟨S2048x40, .i32⟩
  | 114 => ⟨S2048x40, .i32⟩
  | 115 => ⟨S2048x40, .i32⟩
  | 116 => ⟨S_, .i32⟩
  | 117 => ⟨S2048x40, .i32⟩
  | 118 => ⟨S2048x40, .i32⟩
  | 119 => ⟨S_, .i32⟩
  | 120 => ⟨S2048x40, .i32⟩
  | 121 => ⟨S2048x40, .i32⟩
  | 122 => ⟨S2048x40, .i32⟩
  | 123 => ⟨S2048x40, .i32⟩
  | 124 => ⟨S2048x40, .i32⟩
  | 125 => ⟨S2048x40, .i32⟩
  | 126 => ⟨S2048x40, .i32⟩
  | 127 => ⟨S2048x40, .i32⟩
  | _ => ⟨S2x2048x16x64, .f32⟩

abbrev hbmTy0_4 (i : Nat) : BufTy := match i % 128 with
  | 0 => ⟨S_, .i32⟩
  | 1 => ⟨S2048x40, .i32⟩
  | 2 => ⟨S2048x40, .i32⟩
  | 3 => ⟨S2048x40, .i32⟩
  | 4 => ⟨S1, .i32⟩
  | 5 => ⟨S_, .i32⟩
  | 6 => ⟨S1, .i32⟩
  | 7 => ⟨S_, .i32⟩
  | 8 => ⟨S2048x40, .i64⟩
  | 9 => ⟨S2048x40, .i64⟩
  | 10 => ⟨S_, .i64⟩
  | 11 => ⟨S2048x40, .i64⟩
  | 12 => ⟨S2048x40, .i64⟩
  | 13 => ⟨S_, .i64⟩
  | 14 => ⟨S2048x40, .i64⟩
  | 15 => ⟨S2048x40, .i64⟩
  | 16 => ⟨S2048x40, .i64⟩
  | 17 => ⟨S_, .i64⟩
  | 18 => ⟨S2048x40, .i64⟩
  | 19 => ⟨S2048x40, .i64⟩
  | 20 => ⟨S2048x40, .i32⟩
  | 21 => ⟨S2048x40, .i32⟩
  | 22 => ⟨S_, .i32⟩
  | 23 => ⟨S_, .i32⟩
  | 24 => ⟨S_, .i32⟩
  | 25 => ⟨S2048x40, .i32⟩
  | 26 => ⟨S2048x40, .i32⟩
  | 27 => ⟨S2048x40, .i32⟩
  | 28 => ⟨S2048x40, .i32⟩
  | 29 => ⟨S2048x40, .i32⟩
  | 30 => ⟨S_, .i32⟩
  | 31 => ⟨S2048x40, .i32⟩
  | 32 => ⟨S2048x40, .i32⟩
  | 33 => ⟨S_, .i32⟩
  | 34 => ⟨S2048x40, .i32⟩
  | 35 => ⟨S2048x40, .i32⟩
  | 36 => ⟨S2048x40, .i32⟩
  | 37 => ⟨S2048x40, .i32⟩
  | 38 => ⟨S2048x40, .i32⟩
  | 39 => ⟨S_, .i32⟩
  | 40 => ⟨S2048x40, .i32⟩
  | 41 => ⟨S2048x40, .i32⟩
  | 42 => ⟨S_, .i32⟩
  | 43 => ⟨S2048x40, .i32⟩
  | 44 => ⟨S2048x40, .i32⟩
  | 45 => ⟨S2048x40, .i32⟩
  | 46 => ⟨S2048x40, .i32⟩
  | 47 => ⟨S2048x40, .i32⟩
  | 48 => ⟨S_, .i32⟩
  | 49 => ⟨S2048x40, .i32⟩
  | 50 => ⟨S2048x40, .i32⟩
  | 51 => ⟨S_, .i32⟩
  | 52 => ⟨S2048x40, .i32⟩
  | 53 => ⟨S2048x40, .i32⟩
  | 54 => ⟨S2048x40, .i32⟩
  | 55 => ⟨S2048x40, .i32⟩
  | 56 => ⟨S2048x40, .i32⟩
  | 57 => ⟨S_, .i32⟩
  | 58 => ⟨S2048x40, .i32⟩
  | 59 => ⟨S2048x40, .i32⟩
  | 60 => ⟨S_, .i32⟩
  | 61 => ⟨S2048x40, .i32⟩
  | 62 => ⟨S2048x40, .i32⟩
  | 63 => ⟨S2048x40, .i32⟩
  | 64 => ⟨S2048x40, .i32⟩
  | 65 => ⟨S2048x40, .i32⟩
  | 66 => ⟨S2048x40, .i32⟩
  | 67 => ⟨S2048x40, .i32⟩
  | 68 => ⟨S2048x40, .i32⟩
  | 69 => ⟨S_, .i32⟩
  | 70 => ⟨S2048x40, .i32⟩
  | 71 => ⟨S2048x40, .i32⟩
  | 72 => ⟨S2048x40, .i32⟩
  | 73 => ⟨S_, .i32⟩
  | 74 => ⟨S2048x40, .i32⟩
  | 75 => ⟨S2048x40, .i32⟩
  | 76 => ⟨S_, .i32⟩
  | 77 => ⟨S2048x40, .i32⟩
  | 78 => ⟨S2048x40, .i32⟩
  | 79 => ⟨S2048x40, .i32⟩
  | 80 => ⟨S2048x40, .i32⟩
  | 81 => ⟨S2048x40, .i32⟩
  | 82 => ⟨S_, .i32⟩
  | 83 => ⟨S2048x40, .i32⟩
  | 84 => ⟨S2048x40, .i32⟩
  | 85 => ⟨S_, .i32⟩
  | 86 => ⟨S2048x40, .i32⟩
  | 87 => ⟨S2048x40, .i32⟩
  | 88 => ⟨S2048x40, .i32⟩
  | 89 => ⟨S2048x40, .i32⟩
  | 90 => ⟨S2048x40, .i32⟩
  | 91 => ⟨S_, .i32⟩
  | 92 => ⟨S2048x40, .i32⟩
  | 93 => ⟨S2048x40, .i32⟩
  | 94 => ⟨S_, .i32⟩
  | 95 => ⟨S2048x40, .i32⟩
  | 96 => ⟨S2048x40, .i32⟩
  | 97 => ⟨S2048x40, .i32⟩
  | 98 => ⟨S2048x40, .i32⟩
  | 99 => ⟨S2048x40, .i32⟩
  | 100 => ⟨S_, .i32⟩
  | 101 => ⟨S2048x40, .i32⟩
  | 102 => ⟨S2048x40, .i32⟩
  | 103 => ⟨S_, .i32⟩
  | 104 => ⟨S2048x40, .i32⟩
  | 105 => ⟨S2048x40, .i32⟩
  | 106 => ⟨S2048x40, .i32⟩
  | 107 => ⟨S2048x40, .i32⟩
  | 108 => ⟨S2048x40, .i32⟩
  | 109 => ⟨S2048x40, .i32⟩
  | 110 => ⟨S2048x40, .i32⟩
  | 111 => ⟨S2048x40, .i32⟩
  | 112 => ⟨S_, .i32⟩
  | 113 => ⟨S2048x40, .i32⟩
  | 114 => ⟨S2048x40, .i32⟩
  | 115 => ⟨S2048x40, .i32⟩
  | 116 => ⟨S_, .i32⟩
  | 117 => ⟨S2048x40, .i32⟩
  | 118 => ⟨S2048x40, .i32⟩
  | 119 => ⟨S_, .i32⟩
  | 120 => ⟨S2048x40, .i32⟩
  | 121 => ⟨S2048x40, .i32⟩
  | 122 => ⟨S2048x40, .i32⟩
  | 123 => ⟨S2048x40, .i32⟩
  | 124 => ⟨S2048x40, .i32⟩
  | 125 => ⟨S_, .i32⟩
  | 126 => ⟨S2048x40, .i32⟩
  | 127 => ⟨S2048x40, .i32⟩
  | _ => ⟨S2x2048x16x64, .f32⟩

abbrev hbmTy0_5 (i : Nat) : BufTy := match i % 128 with
  | 0 => ⟨S_, .i32⟩
  | 1 => ⟨S2048x40, .i32⟩
  | 2 => ⟨S2048x40, .i32⟩
  | 3 => ⟨S2048x40, .i32⟩
  | 4 => ⟨S2048x40, .i32⟩
  | 5 => ⟨S2048x40, .i32⟩
  | 6 => ⟨S_, .i32⟩
  | 7 => ⟨S2048x40, .i32⟩
  | 8 => ⟨S2048x40, .i32⟩
  | 9 => ⟨S_, .i32⟩
  | 10 => ⟨S2048x40, .i32⟩
  | 11 => ⟨S2048x40, .i32⟩
  | 12 => ⟨S2048x40, .i32⟩
  | 13 => ⟨S2048x40, .i32⟩
  | 14 => ⟨S2048x40, .i32⟩
  | 15 => ⟨S_, .i32⟩
  | 16 => ⟨S2048x40, .i32⟩
  | 17 => ⟨S2048x40, .i32⟩
  | 18 => ⟨S_, .i32⟩
  | 19 => ⟨S2048x40, .i32⟩
  | 20 => ⟨S2048x40, .i32⟩
  | 21 => ⟨S2048x40, .i32⟩
  | 22 => ⟨S2048x40, .i32⟩
  | 23 => ⟨S2048x40, .i32⟩
  | 24 => ⟨S2048x40, .i32⟩
  | 25 => ⟨S2048x40, .i32⟩
  | 26 => ⟨S2048x40, .i32⟩
  | 27 => ⟨S_, .i32⟩
  | 28 => ⟨S2048x40, .i32⟩
  | 29 => ⟨S2048x40, .i32⟩
  | 30 => ⟨S2048x40, .i32⟩
  | 31 => ⟨S_, .i32⟩
  | 32 => ⟨S2048x40, .i32⟩
  | 33 => ⟨S2048x40, .i32⟩
  | 34 => ⟨S_, .i32⟩
  | 35 => ⟨S2048x40, .i32⟩
  | 36 => ⟨S2048x40, .i32⟩
  | 37 => ⟨S2048x40, .i32⟩
  | 38 => ⟨S2048x40, .i32⟩
  | 39 => ⟨S2048x40, .i32⟩
  | 40 => ⟨S_, .i32⟩
  | 41 => ⟨S2048x40, .i32⟩
  | 42 => ⟨S2048x40, .i32⟩
  | 43 => ⟨S_, .i32⟩
  | 44 => ⟨S2048x40, .i32⟩
  | 45 => ⟨S2048x40, .i32⟩
  | 46 => ⟨S2048x40, .i32⟩
  | 47 => ⟨S2048x40, .i32⟩
  | 48 => ⟨S2048x40, .i32⟩
  | 49 => ⟨S_, .i32⟩
  | 50 => ⟨S2048x40, .i32⟩
  | 51 => ⟨S2048x40, .i32⟩
  | 52 => ⟨S_, .i32⟩
  | 53 => ⟨S2048x40, .i32⟩
  | 54 => ⟨S2048x40, .i32⟩
  | 55 => ⟨S2048x40, .i32⟩
  | 56 => ⟨S2048x40, .i32⟩
  | 57 => ⟨S2048x40, .i32⟩
  | 58 => ⟨S_, .i32⟩
  | 59 => ⟨S2048x40, .i32⟩
  | 60 => ⟨S2048x40, .i32⟩
  | 61 => ⟨S_, .i32⟩
  | 62 => ⟨S2048x40, .i32⟩
  | 63 => ⟨S2048x40, .i32⟩
  | 64 => ⟨S2048x40, .i32⟩
  | 65 => ⟨S2048x40, .i32⟩
  | 66 => ⟨S2048x40, .i32⟩
  | 67 => ⟨S2048x40, .i32⟩
  | 68 => ⟨S2048x40, .i32⟩
  | 69 => ⟨S2048x40, .i32⟩
  | 70 => ⟨S_, .i32⟩
  | 71 => ⟨S2048x40, .i32⟩
  | 72 => ⟨S2048x40, .i32⟩
  | 73 => ⟨S2048x40, .i32⟩
  | 74 => ⟨S_, .i32⟩
  | 75 => ⟨S2048x40, .i32⟩
  | 76 => ⟨S2048x40, .i32⟩
  | 77 => ⟨S_, .i32⟩
  | 78 => ⟨S2048x40, .i32⟩
  | 79 => ⟨S2048x40, .i32⟩
  | 80 => ⟨S2048x40, .i32⟩
  | 81 => ⟨S2048x40, .i32⟩
  | 82 => ⟨S2048x40, .i32⟩
  | 83 => ⟨S_, .i32⟩
  | 84 => ⟨S2048x40, .i32⟩
  | 85 => ⟨S2048x40, .i32⟩
  | 86 => ⟨S_, .i32⟩
  | 87 => ⟨S2048x40, .i32⟩
  | 88 => ⟨S2048x40, .i32⟩
  | 89 => ⟨S2048x40, .i32⟩
  | 90 => ⟨S2048x40, .i32⟩
  | 91 => ⟨S2048x40, .i32⟩
  | 92 => ⟨S_, .i32⟩
  | 93 => ⟨S2048x40, .i32⟩
  | 94 => ⟨S2048x40, .i32⟩
  | 95 => ⟨S_, .i32⟩
  | 96 => ⟨S2048x40, .i32⟩
  | 97 => ⟨S2048x40, .i32⟩
  | 98 => ⟨S2048x40, .i32⟩
  | 99 => ⟨S2048x40, .i32⟩
  | 100 => ⟨S2048x40, .i32⟩
  | 101 => ⟨S_, .i32⟩
  | 102 => ⟨S2048x40, .i32⟩
  | 103 => ⟨S2048x40, .i32⟩
  | 104 => ⟨S_, .i32⟩
  | 105 => ⟨S2048x40, .i32⟩
  | 106 => ⟨S2048x40, .i32⟩
  | 107 => ⟨S2048x40, .i32⟩
  | 108 => ⟨S2048x40, .i32⟩
  | 109 => ⟨S2048x40, .i32⟩
  | 110 => ⟨S2048x40, .i32⟩
  | 111 => ⟨S2048x40, .i32⟩
  | 112 => ⟨S2048x40, .i32⟩
  | 113 => ⟨S_, .i32⟩
  | 114 => ⟨S2048x40, .i32⟩
  | 115 => ⟨S2048x40, .i32⟩
  | 116 => ⟨S2048x40, .i32⟩
  | 117 => ⟨S1x1, .i32⟩
  | 118 => ⟨S1x1, .i32⟩
  | 119 => ⟨S1x1, .i1⟩
  | 120 => ⟨S_, .i32⟩
  | 121 => ⟨S1x1, .i32⟩
  | 122 => ⟨S1x1, .i32⟩
  | 123 => ⟨S1x1, .i1⟩
  | 124 => ⟨S1x1, .i1⟩
  | 125 => ⟨S1x1, .i1⟩
  | 126 => ⟨S_, .i32⟩
  | 127 => ⟨S1x1, .i32⟩
  | _ => ⟨S2x2048x16x64, .f32⟩

abbrev hbmTy0_6 (i : Nat) : BufTy := match i % 128 with
  | 0 => ⟨S1x1, .i32⟩
  | 1 => ⟨S1x1, .i32⟩
  | 2 => ⟨S_, .i32⟩
  | 3 => ⟨S1x1, .i32⟩
  | 4 => ⟨S1x1, .i32⟩
  | 5 => ⟨S1x1, .i32⟩
  | 6 => ⟨S1x1, .i32⟩
  | 7 => ⟨S2048x40, .i32⟩
  | 8 => ⟨S2048x40, .i32⟩
  | 9 => ⟨S2048x40, .i32⟩
  | 10 => ⟨S2048x40, .i32⟩
  | 11 => ⟨S2048x40, .i32⟩
  | 12 => ⟨S2048x40, .i32⟩
  | 13 => ⟨S2048x40, .i32⟩
  | 14 => ⟨S2048x40, .i32⟩
  | 15 => ⟨S2048x40, .i32⟩
  | 16 => ⟨S2048x40, .i32⟩
  | 17 => ⟨S2048x40, .i32⟩
  | 18 => ⟨S2048x40, .i32⟩
  | 19 => ⟨S_, .f32⟩
  | 20 => ⟨S2048x2048, .f32⟩
  | 21 => ⟨S2048, .i32⟩
  | 22 => ⟨S2048x1, .i32⟩
  | 23 => ⟨S_, .i32⟩
  | 24 => ⟨S2048x40, .i32⟩
  | 25 => ⟨S2048x40, .i1⟩
  | 26 => ⟨S_, .i32⟩
  | 27 => ⟨S2048x40, .i32⟩
  | 28 => ⟨S2048x40, .i32⟩
  | 29 => ⟨S2048x40, .i32⟩
  | 30 => ⟨S_, .i32⟩
  | 31 => ⟨S2048x1, .i32⟩
  | 32 => ⟨S2048x1, .i1⟩
  | 33 => ⟨S_, .i32⟩
  | 34 => ⟨S2048x1, .i32⟩
  | 35 => ⟨S2048x1, .i32⟩
  | 36 => ⟨S2048x1, .i32⟩
  | 37 => ⟨S2048x40, .i32⟩
  | 38 => ⟨S2048x40x1, .i32⟩
  | 39 => ⟨S2048x40x1, .i32⟩
  | 40 => ⟨S2048x40x2, .i32⟩
  | 41 => ⟨S_, .f32⟩
  | 42 => ⟨S2048x40, .f32⟩
  | 43 => ⟨S2048x2048, .f32⟩
  | 44 => ⟨S2x2048x1024, .f32⟩
  | 45 => ⟨S2x2048x1024, .f32⟩
  | 46 => ⟨S2x2048x1024, .f32⟩
  | 47 => ⟨S2x2048x1024, .f32⟩
  | 48 => ⟨S2x2048x16x64, .f32⟩
  | _ => ⟨S2x2048x16x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x2048x16x64, .f32⟩

abbrev bufTy : (tb : Table) → Fin (tcTables nBuf tb) → BufTy
  | .hbm, ⟨i, _⟩ => hbmTy i
  | .local _ .vmem, ⟨0, _⟩ => ⟨S2048x2048, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048, .f32⟩
  | .local _ .vmem, ⟨10, _⟩ => ⟨S40x2048, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_c_3 : Ref sig .tc := ⟨.hbm, 14, rfl⟩
abbrev main_call0_c : Ref sig .tc := ⟨.hbm, 15, rfl⟩
abbrev main_call0_c_0 : Ref sig .tc := ⟨.hbm, 16, rfl⟩
abbrev main_call0_c_1 : Ref sig .tc := ⟨.hbm, 17, rfl⟩
abbrev main_call0_call0_v0 : Ref sig .tc := ⟨.hbm, 18, rfl⟩
abbrev main_call0_v0 : Ref sig .tc := ⟨.hbm, 19, rfl⟩
abbrev main_call0_v1 : Ref sig .tc := ⟨.hbm, 20, rfl⟩
abbrev main_call0_c_2 : Ref sig .tc := ⟨.hbm, 21, rfl⟩
abbrev main_call0_c_3 : Ref sig .tc := ⟨.hbm, 22, rfl⟩
abbrev main_call0_call1_v0 : Ref sig .tc := ⟨.hbm, 23, rfl⟩
abbrev main_call0_v2 : Ref sig .tc := ⟨.hbm, 24, rfl⟩
abbrev main_call0_v3 : Ref sig .tc := ⟨.hbm, 25, rfl⟩
abbrev main_call0_c_4 : Ref sig .tc := ⟨.hbm, 26, rfl⟩
abbrev main_call0_c_5 : Ref sig .tc := ⟨.hbm, 27, rfl⟩
abbrev main_call0_call2_v0 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_call3_v0 : Ref sig .tc := ⟨.hbm, 33, rfl⟩
abbrev main_call0_call3_v1 : Ref sig .tc := ⟨.hbm, 34, rfl⟩
abbrev main_call0_call3_v2 : Ref sig .tc := ⟨.hbm, 35, rfl⟩
abbrev main_call0_call3_v3 : Ref sig .tc := ⟨.hbm, 36, rfl⟩
abbrev main_call0_call3_v4 : Ref sig .tc := ⟨.hbm, 37, rfl⟩
abbrev main_call0_call3_c : Ref sig .tc := ⟨.hbm, 38, rfl⟩
abbrev main_call0_call3_v5 : Ref sig .tc := ⟨.hbm, 39, rfl⟩
abbrev main_call0_call3_v6 : Ref sig .tc := ⟨.hbm, 40, rfl⟩
abbrev main_call0_call3_c_0 : Ref sig .tc := ⟨.hbm, 41, rfl⟩
abbrev main_call0_call3_v7 : Ref sig .tc := ⟨.hbm, 42, rfl⟩
abbrev main_call0_call3_v8 : Ref sig .tc := ⟨.hbm, 43, rfl⟩
abbrev main_call0_call3_v9 : Ref sig .tc := ⟨.hbm, 44, rfl⟩
abbrev main_call0_call3_v10 : Ref sig .tc := ⟨.hbm, 45, rfl⟩
abbrev main_call0_call3_call0_v0 : Ref sig .tc := ⟨.hbm, 46, rfl⟩
abbrev main_call0_call3_call0_c : Ref sig .tc := ⟨.hbm, 47, rfl⟩
abbrev main_call0_call3_call0_v1 : Ref sig .tc := ⟨.hbm, 48, rfl⟩
abbrev main_call0_call3_call0_v2 : Ref sig .tc := ⟨.hbm, 49, rfl⟩
abbrev main_call0_call3_call0_v3 : Ref sig .tc := ⟨.hbm, 50, rfl⟩
abbrev main_call0_call3_call0_v4 : Ref sig .tc := ⟨.hbm, 51, rfl⟩
abbrev main_call0_call3_call0_v5 : Ref sig .tc := ⟨.hbm, 52, rfl⟩
abbrev main_call0_call3_call0_v6 : Ref sig .tc := ⟨.hbm, 53, rfl⟩
abbrev main_call0_call3_call0_c_0 : Ref sig .tc := ⟨.hbm, 54, rfl⟩
abbrev main_call0_call3_call0_v7 : Ref sig .tc := ⟨.hbm, 55, rfl⟩
abbrev main_call0_call3_call0_v8 : Ref sig .tc := ⟨.hbm, 56, rfl⟩
abbrev main_call0_call3_call0_c_1 : Ref sig .tc := ⟨.hbm, 57, rfl⟩
abbrev main_call0_call3_call0_v9 : Ref sig .tc := ⟨.hbm, 58, rfl⟩
abbrev main_call0_call3_call0_v10 : Ref sig .tc := ⟨.hbm, 59, rfl⟩
abbrev main_call0_call3_call0_v11 : Ref sig .tc := ⟨.hbm, 60, rfl⟩
abbrev main_call0_call3_call0_v12 : Ref sig .tc := ⟨.hbm, 61, rfl⟩
abbrev main_call0_call3_call0_v13 : Ref sig .tc := ⟨.hbm, 62, rfl⟩
abbrev main_call0_call3_call0_c_2 : Ref sig .tc := ⟨.hbm, 63, rfl⟩
abbrev main_call0_call3_call0_v14 : Ref sig .tc := ⟨.hbm, 64, rfl⟩
abbrev main_call0_call3_call0_v15 : Ref sig .tc := ⟨.hbm, 65, rfl⟩
abbrev main_call0_call3_call0_c_3 : Ref sig .tc := ⟨.hbm, 66, rfl⟩
abbrev main_call0_call3_call0_v16 : Ref sig .tc := ⟨.hbm, 67, rfl⟩
abbrev main_call0_call3_call0_v17 : Ref sig .tc := ⟨.hbm, 68, rfl⟩
abbrev main_call0_call3_call0_v18 : Ref sig .tc := ⟨.hbm, 69, rfl⟩
abbrev main_call0_call3_call0_v19 : Ref sig .tc := ⟨.hbm, 70, rfl⟩
abbrev main_call0_call3_call0_v20 : Ref sig .tc := ⟨.hbm, 71, rfl⟩
abbrev main_call0_call3_call0_c_4 : Ref sig .tc := ⟨.hbm, 72, rfl⟩
abbrev main_call0_call3_call0_v21 : Ref sig .tc := ⟨.hbm, 73, rfl⟩
abbrev main_call0_call3_call0_v22 : Ref sig .tc := ⟨.hbm, 74, rfl⟩
abbrev main_call0_call3_call0_c_5 : Ref sig .tc := ⟨.hbm, 75, rfl⟩
abbrev main_call0_call3_call0_v23 : Ref sig .tc := ⟨.hbm, 76, rfl⟩
abbrev main_call0_call3_call0_v24 : Ref sig .tc := ⟨.hbm, 77, rfl⟩
abbrev main_call0_call3_call0_v25 : Ref sig .tc := ⟨.hbm, 78, rfl⟩
abbrev main_call0_call3_call0_v26 : Ref sig .tc := ⟨.hbm, 79, rfl⟩
abbrev main_call0_call3_call0_v27 : Ref sig .tc := ⟨.hbm, 80, rfl⟩
abbrev main_call0_call3_call0_c_6 : Ref sig .tc := ⟨.hbm, 81, rfl⟩
abbrev main_call0_call3_call0_v28 : Ref sig .tc := ⟨.hbm, 82, rfl⟩
abbrev main_call0_call3_call0_v29 : Ref sig .tc := ⟨.hbm, 83, rfl⟩
abbrev main_call0_call3_call0_c_7 : Ref sig .tc := ⟨.hbm, 84, rfl⟩
abbrev main_call0_call3_call0_v30 : Ref sig .tc := ⟨.hbm, 85, rfl⟩
abbrev main_call0_call3_call0_v31 : Ref sig .tc := ⟨.hbm, 86, rfl⟩
abbrev main_call0_call3_call0_v32 : Ref sig .tc := ⟨.hbm, 87, rfl⟩
abbrev main_call0_call3_call0_v33 : Ref sig .tc := ⟨.hbm, 88, rfl⟩
abbrev main_call0_call3_call0_v34 : Ref sig .tc := ⟨.hbm, 89, rfl⟩
abbrev main_call0_call3_call0_v35 : Ref sig .tc := ⟨.hbm, 90, rfl⟩
abbrev main_call0_call3_call0_v36 : Ref sig .tc := ⟨.hbm, 91, rfl⟩
abbrev main_call0_call3_call0_v37 : Ref sig .tc := ⟨.hbm, 92, rfl⟩
abbrev main_call0_call3_call0_c_8 : Ref sig .tc := ⟨.hbm, 93, rfl⟩
abbrev main_call0_call3_call0_v38 : Ref sig .tc := ⟨.hbm, 94, rfl⟩
abbrev main_call0_call3_call0_v39 : Ref sig .tc := ⟨.hbm, 95, rfl⟩
abbrev main_call0_call3_call0_v40 : Ref sig .tc := ⟨.hbm, 96, rfl⟩
abbrev main_call0_call3_call0_c_9 : Ref sig .tc := ⟨.hbm, 97, rfl⟩
abbrev main_call0_call3_call0_v41 : Ref sig .tc := ⟨.hbm, 98, rfl⟩
abbrev main_call0_call3_call0_v42 : Ref sig .tc := ⟨.hbm, 99, rfl⟩
abbrev main_call0_call3_call0_c_10 : Ref sig .tc := ⟨.hbm, 100, rfl⟩
abbrev main_call0_call3_call0_v43 : Ref sig .tc := ⟨.hbm, 101, rfl⟩
abbrev main_call0_call3_call0_v44 : Ref sig .tc := ⟨.hbm, 102, rfl⟩
abbrev main_call0_call3_call0_v45 : Ref sig .tc := ⟨.hbm, 103, rfl⟩
abbrev main_call0_call3_call0_v46 : Ref sig .tc := ⟨.hbm, 104, rfl⟩
abbrev main_call0_call3_call0_v47 : Ref sig .tc := ⟨.hbm, 105, rfl⟩
abbrev main_call0_call3_call0_c_11 : Ref sig .tc := ⟨.hbm, 106, rfl⟩
abbrev main_call0_call3_call0_v48 : Ref sig .tc := ⟨.hbm, 107, rfl⟩
abbrev main_call0_call3_call0_v49 : Ref sig .tc := ⟨.hbm, 108, rfl⟩
abbrev main_call0_call3_call0_c_12 : Ref sig .tc := ⟨.hbm, 109, rfl⟩
abbrev main_call0_call3_call0_v50 : Ref sig .tc := ⟨.hbm, 110, rfl⟩
abbrev main_call0_call3_call0_v51 : Ref sig .tc := ⟨.hbm, 111, rfl⟩
abbrev main_call0_call3_call0_v52 : Ref sig .tc := ⟨.hbm, 112, rfl⟩
abbrev main_call0_call3_call0_v53 : Ref sig .tc := ⟨.hbm, 113, rfl⟩
abbrev main_call0_call3_call0_v54 : Ref sig .tc := ⟨.hbm, 114, rfl⟩
abbrev main_call0_call3_call0_c_13 : Ref sig .tc := ⟨.hbm, 115, rfl⟩
abbrev main_call0_call3_call0_v55 : Ref sig .tc := ⟨.hbm, 116, rfl⟩
abbrev main_call0_call3_call0_v56 : Ref sig .tc := ⟨.hbm, 117, rfl⟩
abbrev main_call0_call3_call0_c_14 : Ref sig .tc := ⟨.hbm, 118, rfl⟩
abbrev main_call0_call3_call0_v57 : Ref sig .tc := ⟨.hbm, 119, rfl⟩
abbrev main_call0_call3_call0_v58 : Ref sig .tc := ⟨.hbm, 120, rfl⟩
abbrev main_call0_call3_call0_v59 : Ref sig .tc := ⟨.hbm, 121, rfl⟩
abbrev main_call0_call3_call0_v60 : Ref sig .tc := ⟨.hbm, 122, rfl⟩
abbrev main_call0_call3_call0_v61 : Ref sig .tc := ⟨.hbm, 123, rfl⟩
abbrev main_call0_call3_call0_c_15 : Ref sig .tc := ⟨.hbm, 124, rfl⟩
abbrev main_call0_call3_call0_v62 : Ref sig .tc := ⟨.hbm, 125, rfl⟩
abbrev main_call0_call3_call0_v63 : Ref sig .tc := ⟨.hbm, 126, rfl⟩
abbrev main_call0_call3_call0_c_16 : Ref sig .tc := ⟨.hbm, 127, rfl⟩
abbrev main_call0_call3_call0_v64 : Ref sig .tc := ⟨.hbm, 128, rfl⟩
abbrev main_call0_call3_call0_v65 : Ref sig .tc := ⟨.hbm, 129, rfl⟩
abbrev main_call0_call3_call0_v66 : Ref sig .tc := ⟨.hbm, 130, rfl⟩
abbrev main_call0_call3_call0_v67 : Ref sig .tc := ⟨.hbm, 131, rfl⟩
abbrev main_call0_call3_call0_v68 : Ref sig .tc := ⟨.hbm, 132, rfl⟩
abbrev main_call0_call3_call0_v69 : Ref sig .tc := ⟨.hbm, 133, rfl⟩
abbrev main_call0_call3_call0_v70 : Ref sig .tc := ⟨.hbm, 134, rfl⟩
abbrev main_call0_call3_call0_v71 : Ref sig .tc := ⟨.hbm, 135, rfl⟩
abbrev main_call0_call3_call0_c_17 : Ref sig .tc := ⟨.hbm, 136, rfl⟩
abbrev main_call0_call3_call0_v72 : Ref sig .tc := ⟨.hbm, 137, rfl⟩
abbrev main_call0_call3_call0_v73 : Ref sig .tc := ⟨.hbm, 138, rfl⟩
abbrev main_call0_call3_call0_v74 : Ref sig .tc := ⟨.hbm, 139, rfl⟩
abbrev main_call0_call3_call0_c_18 : Ref sig .tc := ⟨.hbm, 140, rfl⟩
abbrev main_call0_call3_call0_v75 : Ref sig .tc := ⟨.hbm, 141, rfl⟩
abbrev main_call0_call3_call0_v76 : Ref sig .tc := ⟨.hbm, 142, rfl⟩
abbrev main_call0_call3_call0_c_19 : Ref sig .tc := ⟨.hbm, 143, rfl⟩
abbrev main_call0_call3_call0_v77 : Ref sig .tc := ⟨.hbm, 144, rfl⟩
abbrev main_call0_call3_call0_v78 : Ref sig .tc := ⟨.hbm, 145, rfl⟩
abbrev main_call0_call3_call0_v79 : Ref sig .tc := ⟨.hbm, 146, rfl⟩
abbrev main_call0_call3_call0_v80 : Ref sig .tc := ⟨.hbm, 147, rfl⟩
abbrev main_call0_call3_call0_v81 : Ref sig .tc := ⟨.hbm, 148, rfl⟩
abbrev main_call0_call3_call0_c_20 : Ref sig .tc := ⟨.hbm, 149, rfl⟩
abbrev main_call0_call3_call0_v82 : Ref sig .tc := ⟨.hbm, 150, rfl⟩
abbrev main_call0_call3_call0_v83 : Ref sig .tc := ⟨.hbm, 151, rfl⟩
abbrev main_call0_call3_call0_c_21 : Ref sig .tc := ⟨.hbm, 152, rfl⟩
abbrev main_call0_call3_call0_v84 : Ref sig .tc := ⟨.hbm, 153, rfl⟩
abbrev main_call0_call3_call0_v85 : Ref sig .tc := ⟨.hbm, 154, rfl⟩
abbrev main_call0_call3_call0_v86 : Ref sig .tc := ⟨.hbm, 155, rfl⟩
abbrev main_call0_call3_call0_v87 : Ref sig .tc := ⟨.hbm, 156, rfl⟩
abbrev main_call0_call3_call0_v88 : Ref sig .tc := ⟨.hbm, 157, rfl⟩
abbrev main_call0_call3_call0_c_22 : Ref sig .tc := ⟨.hbm, 158, rfl⟩
abbrev main_call0_call3_call0_v89 : Ref sig .tc := ⟨.hbm, 159, rfl⟩
abbrev main_call0_call3_call0_v90 : Ref sig .tc := ⟨.hbm, 160, rfl⟩
abbrev main_call0_call3_call0_c_23 : Ref sig .tc := ⟨.hbm, 161, rfl⟩
abbrev main_call0_call3_call0_v91 : Ref sig .tc := ⟨.hbm, 162, rfl⟩
abbrev main_call0_call3_call0_v92 : Ref sig .tc := ⟨.hbm, 163, rfl⟩
abbrev main_call0_call3_call0_v93 : Ref sig .tc := ⟨.hbm, 164, rfl⟩
abbrev main_call0_call3_call0_v94 : Ref sig .tc := ⟨.hbm, 165, rfl⟩
abbrev main_call0_call3_call0_v95 : Ref sig .tc := ⟨.hbm, 166, rfl⟩
abbrev main_call0_call3_call0_c_24 : Ref sig .tc := ⟨.hbm, 167, rfl⟩
abbrev main_call0_call3_call0_v96 : Ref sig .tc := ⟨.hbm, 168, rfl⟩
abbrev main_call0_call3_call0_v97 : Ref sig .tc := ⟨.hbm, 169, rfl⟩
abbrev main_call0_call3_call0_c_25 : Ref sig .tc := ⟨.hbm, 170, rfl⟩
abbrev main_call0_call3_call0_v98 : Ref sig .tc := ⟨.hbm, 171, rfl⟩
abbrev main_call0_call3_call0_v99 : Ref sig .tc := ⟨.hbm, 172, rfl⟩
abbrev main_call0_call3_call0_v100 : Ref sig .tc := ⟨.hbm, 173, rfl⟩
abbrev main_call0_call3_call0_v101 : Ref sig .tc := ⟨.hbm, 174, rfl⟩
abbrev main_call0_call3_call0_v102 : Ref sig .tc := ⟨.hbm, 175, rfl⟩
abbrev main_call0_call3_call0_v103 : Ref sig .tc := ⟨.hbm, 176, rfl⟩
abbrev main_call0_call3_call0_v104 : Ref sig .tc := ⟨.hbm, 177, rfl⟩
abbrev main_call0_call3_call0_v105 : Ref sig .tc := ⟨.hbm, 178, rfl⟩
abbrev main_call0_call3_call0_c_26 : Ref sig .tc := ⟨.hbm, 179, rfl⟩
abbrev main_call0_call3_call0_v106 : Ref sig .tc := ⟨.hbm, 180, rfl⟩
abbrev main_call0_call3_call0_v107 : Ref sig .tc := ⟨.hbm, 181, rfl⟩
abbrev main_call0_call3_call0_v108 : Ref sig .tc := ⟨.hbm, 182, rfl⟩
abbrev main_call0_call3_call0_c_27 : Ref sig .tc := ⟨.hbm, 183, rfl⟩
abbrev main_call0_call3_call0_v109 : Ref sig .tc := ⟨.hbm, 184, rfl⟩
abbrev main_call0_call3_call0_v110 : Ref sig .tc := ⟨.hbm, 185, rfl⟩
abbrev main_call0_call3_call0_c_28 : Ref sig .tc := ⟨.hbm, 186, rfl⟩
abbrev main_call0_call3_call0_v111 : Ref sig .tc := ⟨.hbm, 187, rfl⟩
abbrev main_call0_call3_call0_v112 : Ref sig .tc := ⟨.hbm, 188, rfl⟩
abbrev main_call0_call3_call0_v113 : Ref sig .tc := ⟨.hbm, 189, rfl⟩
abbrev main_call0_call3_call0_v114 : Ref sig .tc := ⟨.hbm, 190, rfl⟩
abbrev main_call0_call3_call0_v115 : Ref sig .tc := ⟨.hbm, 191, rfl⟩
abbrev main_call0_call3_call0_c_29 : Ref sig .tc := ⟨.hbm, 192, rfl⟩
abbrev main_call0_call3_call0_v116 : Ref sig .tc := ⟨.hbm, 193, rfl⟩
abbrev main_call0_call3_call0_v117 : Ref sig .tc := ⟨.hbm, 194, rfl⟩
abbrev main_call0_call3_call0_c_30 : Ref sig .tc := ⟨.hbm, 195, rfl⟩
abbrev main_call0_call3_call0_v118 : Ref sig .tc := ⟨.hbm, 196, rfl⟩
abbrev main_call0_call3_call0_v119 : Ref sig .tc := ⟨.hbm, 197, rfl⟩
abbrev main_call0_call3_call0_v120 : Ref sig .tc := ⟨.hbm, 198, rfl⟩
abbrev main_call0_call3_call0_v121 : Ref sig .tc := ⟨.hbm, 199, rfl⟩
abbrev main_call0_call3_call0_v122 : Ref sig .tc := ⟨.hbm, 200, rfl⟩
abbrev main_call0_call3_call0_c_31 : Ref sig .tc := ⟨.hbm, 201, rfl⟩
abbrev main_call0_call3_call0_v123 : Ref sig .tc := ⟨.hbm, 202, rfl⟩
abbrev main_call0_call3_call0_v124 : Ref sig .tc := ⟨.hbm, 203, rfl⟩
abbrev main_call0_call3_call0_c_32 : Ref sig .tc := ⟨.hbm, 204, rfl⟩
abbrev main_call0_call3_call0_v125 : Ref sig .tc := ⟨.hbm, 205, rfl⟩
abbrev main_call0_call3_call0_v126 : Ref sig .tc := ⟨.hbm, 206, rfl⟩
abbrev main_call0_call3_call0_v127 : Ref sig .tc := ⟨.hbm, 207, rfl⟩
abbrev main_call0_call3_call0_v128 : Ref sig .tc := ⟨.hbm, 208, rfl⟩
abbrev main_call0_call3_call0_v129 : Ref sig .tc := ⟨.hbm, 209, rfl⟩
abbrev main_call0_call3_call0_c_33 : Ref sig .tc := ⟨.hbm, 210, rfl⟩
abbrev main_call0_call3_call0_v130 : Ref sig .tc := ⟨.hbm, 211, rfl⟩
abbrev main_call0_call3_call0_v131 : Ref sig .tc := ⟨.hbm, 212, rfl⟩
abbrev main_call0_call3_call0_c_34 : Ref sig .tc := ⟨.hbm, 213, rfl⟩
abbrev main_call0_call3_call0_v132 : Ref sig .tc := ⟨.hbm, 214, rfl⟩
abbrev main_call0_call3_call0_v133 : Ref sig .tc := ⟨.hbm, 215, rfl⟩
abbrev main_call0_call3_call0_v134 : Ref sig .tc := ⟨.hbm, 216, rfl⟩
abbrev main_call0_call3_call0_v135 : Ref sig .tc := ⟨.hbm, 217, rfl⟩
abbrev main_call0_call3_call0_v136 : Ref sig .tc := ⟨.hbm, 218, rfl⟩
abbrev main_call0_call3_call0_v137 : Ref sig .tc := ⟨.hbm, 219, rfl⟩
abbrev main_call0_call3_call0_v138 : Ref sig .tc := ⟨.hbm, 220, rfl⟩
abbrev main_call0_call3_call0_v139 : Ref sig .tc := ⟨.hbm, 221, rfl⟩
abbrev main_call0_call3_call0_c_35 : Ref sig .tc := ⟨.hbm, 222, rfl⟩
abbrev main_call0_call3_call0_v140 : Ref sig .tc := ⟨.hbm, 223, rfl⟩
abbrev main_call0_call3_call0_v141 : Ref sig .tc := ⟨.hbm, 224, rfl⟩
abbrev main_call0_call3_call0_v142 : Ref sig .tc := ⟨.hbm, 225, rfl⟩
abbrev main_call0_call3_call0_c_36 : Ref sig .tc := ⟨.hbm, 226, rfl⟩
abbrev main_call0_call3_call0_v143 : Ref sig .tc := ⟨.hbm, 227, rfl⟩
abbrev main_call0_call3_call0_v144 : Ref sig .tc := ⟨.hbm, 228, rfl⟩
abbrev main_call0_call3_call0_c_37 : Ref sig .tc := ⟨.hbm, 229, rfl⟩
abbrev main_call0_call3_call0_v145 : Ref sig .tc := ⟨.hbm, 230, rfl⟩
abbrev main_call0_call3_call0_v146 : Ref sig .tc := ⟨.hbm, 231, rfl⟩
abbrev main_call0_call3_call0_v147 : Ref sig .tc := ⟨.hbm, 232, rfl⟩
abbrev main_call0_call3_call0_v148 : Ref sig .tc := ⟨.hbm, 233, rfl⟩
abbrev main_call0_call3_call0_v149 : Ref sig .tc := ⟨.hbm, 234, rfl⟩
abbrev main_call0_call3_call0_c_38 : Ref sig .tc := ⟨.hbm, 235, rfl⟩
abbrev main_call0_call3_call0_v150 : Ref sig .tc := ⟨.hbm, 236, rfl⟩
abbrev main_call0_call3_call0_v151 : Ref sig .tc := ⟨.hbm, 237, rfl⟩
abbrev main_call0_call3_call0_c_39 : Ref sig .tc := ⟨.hbm, 238, rfl⟩
abbrev main_call0_call3_call0_v152 : Ref sig .tc := ⟨.hbm, 239, rfl⟩
abbrev main_call0_call3_call0_v153 : Ref sig .tc := ⟨.hbm, 240, rfl⟩
abbrev main_call0_call3_call0_v154 : Ref sig .tc := ⟨.hbm, 241, rfl⟩
abbrev main_call0_call3_call0_v155 : Ref sig .tc := ⟨.hbm, 242, rfl⟩
abbrev main_call0_call3_call0_v156 : Ref sig .tc := ⟨.hbm, 243, rfl⟩
abbrev main_call0_call3_call0_c_40 : Ref sig .tc := ⟨.hbm, 244, rfl⟩
abbrev main_call0_call3_call0_v157 : Ref sig .tc := ⟨.hbm, 245, rfl⟩
abbrev main_call0_call3_call0_v158 : Ref sig .tc := ⟨.hbm, 246, rfl⟩
abbrev main_call0_call3_call0_c_41 : Ref sig .tc := ⟨.hbm, 247, rfl⟩
abbrev main_call0_call3_call0_v159 : Ref sig .tc := ⟨.hbm, 248, rfl⟩
abbrev main_call0_call3_call0_v160 : Ref sig .tc := ⟨.hbm, 249, rfl⟩
abbrev main_call0_call3_call0_v161 : Ref sig .tc := ⟨.hbm, 250, rfl⟩
abbrev main_call0_call3_call0_v162 : Ref sig .tc := ⟨.hbm, 251, rfl⟩
abbrev main_call0_call3_call0_v163 : Ref sig .tc := ⟨.hbm, 252, rfl⟩
abbrev main_call0_call3_call0_c_42 : Ref sig .tc := ⟨.hbm, 253, rfl⟩
abbrev main_call0_call3_call0_v164 : Ref sig .tc := ⟨.hbm, 254, rfl⟩
abbrev main_call0_call3_call0_v165 : Ref sig .tc := ⟨.hbm, 255, rfl⟩
abbrev main_call0_call3_call0_c_43 : Ref sig .tc := ⟨.hbm, 256, rfl⟩
abbrev main_call0_call3_call0_v166 : Ref sig .tc := ⟨.hbm, 257, rfl⟩
abbrev main_call0_call3_call0_v167 : Ref sig .tc := ⟨.hbm, 258, rfl⟩
abbrev main_call0_call3_call0_v168 : Ref sig .tc := ⟨.hbm, 259, rfl⟩
abbrev main_call0_call3_call0_v169 : Ref sig .tc := ⟨.hbm, 260, rfl⟩
abbrev main_call0_call3_call0_v170 : Ref sig .tc := ⟨.hbm, 261, rfl⟩
abbrev main_call0_call3_v11_0 : Ref sig .tc := ⟨.hbm, 262, rfl⟩
abbrev main_call0_call3_call0_v172 : Ref sig .tc := ⟨.hbm, 263, rfl⟩
abbrev main_call0_call3_call0_v173 : Ref sig .tc := ⟨.hbm, 264, rfl⟩
abbrev main_call0_call3_call0_c_44 : Ref sig .tc := ⟨.hbm, 265, rfl⟩
abbrev main_call0_call3_call0_v174 : Ref sig .tc := ⟨.hbm, 266, rfl⟩
abbrev main_call0_call3_v11_1 : Ref sig .tc := ⟨.hbm, 267, rfl⟩
abbrev main_call0_call3_v12 : Ref sig .tc := ⟨.hbm, 268, rfl⟩
abbrev main_call0_call3_v13 : Ref sig .tc := ⟨.hbm, 269, rfl⟩
abbrev main_call0_v8 : Ref sig .tc := ⟨.hbm, 270, rfl⟩
abbrev main_call0_v9 : Ref sig .tc := ⟨.hbm, 271, rfl⟩
abbrev main_call0_v10 : Ref sig .tc := ⟨.hbm, 272, rfl⟩
abbrev main_call0_v11 : Ref sig .tc := ⟨.hbm, 273, rfl⟩
abbrev main_call0_v12 : Ref sig .tc := ⟨.hbm, 274, rfl⟩
abbrev main_call0_v13 : Ref sig .tc := ⟨.hbm, 275, rfl⟩
abbrev main_call0_v14 : Ref sig .tc := ⟨.hbm, 276, rfl⟩
abbrev main_call0_v15 : Ref sig .tc := ⟨.hbm, 277, rfl⟩
abbrev main_call0_v16 : Ref sig .tc := ⟨.hbm, 278, rfl⟩
abbrev main_call0_v17 : Ref sig .tc := ⟨.hbm, 279, rfl⟩
abbrev main_call0_v18 : Ref sig .tc := ⟨.hbm, 280, rfl⟩
abbrev main_call0_c_6 : Ref sig .tc := ⟨.hbm, 281, rfl⟩
abbrev main_call0_v19 : Ref sig .tc := ⟨.hbm, 282, rfl⟩
abbrev main_call0_v20 : Ref sig .tc := ⟨.hbm, 283, rfl⟩
abbrev main_call0_c_7 : Ref sig .tc := ⟨.hbm, 284, rfl⟩
abbrev main_call0_v21 : Ref sig .tc := ⟨.hbm, 285, rfl⟩
abbrev main_call0_v22 : Ref sig .tc := ⟨.hbm, 286, rfl⟩
abbrev main_call0_v23 : Ref sig .tc := ⟨.hbm, 287, rfl⟩
abbrev main_call0_c_8 : Ref sig .tc := ⟨.hbm, 288, rfl⟩
abbrev main_call0_v24 : Ref sig .tc := ⟨.hbm, 289, rfl⟩
abbrev main_call0_v25 : Ref sig .tc := ⟨.hbm, 290, rfl⟩
abbrev main_call0_v26 : Ref sig .tc := ⟨.hbm, 291, rfl⟩
abbrev main_call0_v27 : Ref sig .tc := ⟨.hbm, 292, rfl⟩
abbrev main_call0_call4_v0 : Ref sig .tc := ⟨.hbm, 293, rfl⟩
abbrev main_call0_call4_c : Ref sig .tc := ⟨.hbm, 294, rfl⟩
abbrev main_call0_call4_v1 : Ref sig .tc := ⟨.hbm, 295, rfl⟩
abbrev main_call0_call4_v2 : Ref sig .tc := ⟨.hbm, 296, rfl⟩
abbrev main_call0_call4_v3 : Ref sig .tc := ⟨.hbm, 297, rfl⟩
abbrev main_call0_call4_v4 : Ref sig .tc := ⟨.hbm, 298, rfl⟩
abbrev main_call0_call4_v5 : Ref sig .tc := ⟨.hbm, 299, rfl⟩
abbrev main_call0_call4_v6 : Ref sig .tc := ⟨.hbm, 300, rfl⟩
abbrev main_call0_call4_c_0 : Ref sig .tc := ⟨.hbm, 301, rfl⟩
abbrev main_call0_call4_v7 : Ref sig .tc := ⟨.hbm, 302, rfl⟩
abbrev main_call0_call4_v8 : Ref sig .tc := ⟨.hbm, 303, rfl⟩
abbrev main_call0_call4_c_1 : Ref sig .tc := ⟨.hbm, 304, rfl⟩
abbrev main_call0_call4_v9 : Ref sig .tc := ⟨.hbm, 305, rfl⟩
abbrev main_call0_call4_v10 : Ref sig .tc := ⟨.hbm, 306, rfl⟩
abbrev main_call0_call4_v11 : Ref sig .tc := ⟨.hbm, 307, rfl⟩
abbrev main_call0_call4_v12 : Ref sig .tc := ⟨.hbm, 308, rfl⟩
abbrev main_call0_call4_v13 : Ref sig .tc := ⟨.hbm, 309, rfl⟩
abbrev main_call0_call4_c_2 : Ref sig .tc := ⟨.hbm, 310, rfl⟩
abbrev main_call0_call4_v14 : Ref sig .tc := ⟨.hbm, 311, rfl⟩
abbrev main_call0_call4_v15 : Ref sig .tc := ⟨.hbm, 312, rfl⟩
abbrev main_call0_call4_c_3 : Ref sig .tc := ⟨.hbm, 313, rfl⟩
abbrev main_call0_call4_v16 : Ref sig .tc := ⟨.hbm, 314, rfl⟩
abbrev main_call0_call4_v17 : Ref sig .tc := ⟨.hbm, 315, rfl⟩
abbrev main_call0_call4_v18 : Ref sig .tc := ⟨.hbm, 316, rfl⟩
abbrev main_call0_call4_v19 : Ref sig .tc := ⟨.hbm, 317, rfl⟩
abbrev main_call0_call4_v20 : Ref sig .tc := ⟨.hbm, 318, rfl⟩
abbrev main_call0_call4_c_4 : Ref sig .tc := ⟨.hbm, 319, rfl⟩
abbrev main_call0_call4_v21 : Ref sig .tc := ⟨.hbm, 320, rfl⟩
abbrev main_call0_call4_v22 : Ref sig .tc := ⟨.hbm, 321, rfl⟩
abbrev main_call0_call4_c_5 : Ref sig .tc := ⟨.hbm, 322, rfl⟩
abbrev main_call0_call4_v23 : Ref sig .tc := ⟨.hbm, 323, rfl⟩
abbrev main_call0_call4_v24 : Ref sig .tc := ⟨.hbm, 324, rfl⟩
abbrev main_call0_call4_v25 : Ref sig .tc := ⟨.hbm, 325, rfl⟩
abbrev main_call0_call4_v26 : Ref sig .tc := ⟨.hbm, 326, rfl⟩
abbrev main_call0_call4_v27 : Ref sig .tc := ⟨.hbm, 327, rfl⟩
abbrev main_call0_call4_c_6 : Ref sig .tc := ⟨.hbm, 328, rfl⟩
abbrev main_call0_call4_v28 : Ref sig .tc := ⟨.hbm, 329, rfl⟩
abbrev main_call0_call4_v29 : Ref sig .tc := ⟨.hbm, 330, rfl⟩
abbrev main_call0_call4_c_7 : Ref sig .tc := ⟨.hbm, 331, rfl⟩
abbrev main_call0_call4_v30 : Ref sig .tc := ⟨.hbm, 332, rfl⟩
abbrev main_call0_call4_v31 : Ref sig .tc := ⟨.hbm, 333, rfl⟩
abbrev main_call0_call4_v32 : Ref sig .tc := ⟨.hbm, 334, rfl⟩
abbrev main_call0_call4_v33 : Ref sig .tc := ⟨.hbm, 335, rfl⟩
abbrev main_call0_call4_v34 : Ref sig .tc := ⟨.hbm, 336, rfl⟩
abbrev main_call0_call4_v35 : Ref sig .tc := ⟨.hbm, 337, rfl⟩
abbrev main_call0_call4_v36 : Ref sig .tc := ⟨.hbm, 338, rfl⟩
abbrev main_call0_call4_v37 : Ref sig .tc := ⟨.hbm, 339, rfl⟩
abbrev main_call0_call4_c_8 : Ref sig .tc := ⟨.hbm, 340, rfl⟩
abbrev main_call0_call4_v38 : Ref sig .tc := ⟨.hbm, 341, rfl⟩
abbrev main_call0_call4_v39 : Ref sig .tc := ⟨.hbm, 342, rfl⟩
abbrev main_call0_call4_v40 : Ref sig .tc := ⟨.hbm, 343, rfl⟩
abbrev main_call0_call4_c_9 : Ref sig .tc := ⟨.hbm, 344, rfl⟩
abbrev main_call0_call4_v41 : Ref sig .tc := ⟨.hbm, 345, rfl⟩
abbrev main_call0_call4_v42 : Ref sig .tc := ⟨.hbm, 346, rfl⟩
abbrev main_call0_call4_c_10 : Ref sig .tc := ⟨.hbm, 347, rfl⟩
abbrev main_call0_call4_v43 : Ref sig .tc := ⟨.hbm, 348, rfl⟩
abbrev main_call0_call4_v44 : Ref sig .tc := ⟨.hbm, 349, rfl⟩
abbrev main_call0_call4_v45 : Ref sig .tc := ⟨.hbm, 350, rfl⟩
abbrev main_call0_call4_v46 : Ref sig .tc := ⟨.hbm, 351, rfl⟩
abbrev main_call0_call4_v47 : Ref sig .tc := ⟨.hbm, 352, rfl⟩
abbrev main_call0_call4_c_11 : Ref sig .tc := ⟨.hbm, 353, rfl⟩
abbrev main_call0_call4_v48 : Ref sig .tc := ⟨.hbm, 354, rfl⟩
abbrev main_call0_call4_v49 : Ref sig .tc := ⟨.hbm, 355, rfl⟩
abbrev main_call0_call4_c_12 : Ref sig .tc := ⟨.hbm, 356, rfl⟩
abbrev main_call0_call4_v50 : Ref sig .tc := ⟨.hbm, 357, rfl⟩
abbrev main_call0_call4_v51 : Ref sig .tc := ⟨.hbm, 358, rfl⟩
abbrev main_call0_call4_v52 : Ref sig .tc := ⟨.hbm, 359, rfl⟩
abbrev main_call0_call4_v53 : Ref sig .tc := ⟨.hbm, 360, rfl⟩
abbrev main_call0_call4_v54 : Ref sig .tc := ⟨.hbm, 361, rfl⟩
abbrev main_call0_call4_c_13 : Ref sig .tc := ⟨.hbm, 362, rfl⟩
abbrev main_call0_call4_v55 : Ref sig .tc := ⟨.hbm, 363, rfl⟩
abbrev main_call0_call4_v56 : Ref sig .tc := ⟨.hbm, 364, rfl⟩
abbrev main_call0_call4_c_14 : Ref sig .tc := ⟨.hbm, 365, rfl⟩
abbrev main_call0_call4_v57 : Ref sig .tc := ⟨.hbm, 366, rfl⟩
abbrev main_call0_call4_v58 : Ref sig .tc := ⟨.hbm, 367, rfl⟩
abbrev main_call0_call4_v59 : Ref sig .tc := ⟨.hbm, 368, rfl⟩
abbrev main_call0_call4_v60 : Ref sig .tc := ⟨.hbm, 369, rfl⟩
abbrev main_call0_call4_v61 : Ref sig .tc := ⟨.hbm, 370, rfl⟩
abbrev main_call0_call4_c_15 : Ref sig .tc := ⟨.hbm, 371, rfl⟩
abbrev main_call0_call4_v62 : Ref sig .tc := ⟨.hbm, 372, rfl⟩
abbrev main_call0_call4_v63 : Ref sig .tc := ⟨.hbm, 373, rfl⟩
abbrev main_call0_call4_c_16 : Ref sig .tc := ⟨.hbm, 374, rfl⟩
abbrev main_call0_call4_v64 : Ref sig .tc := ⟨.hbm, 375, rfl⟩
abbrev main_call0_call4_v65 : Ref sig .tc := ⟨.hbm, 376, rfl⟩
abbrev main_call0_call4_v66 : Ref sig .tc := ⟨.hbm, 377, rfl⟩
abbrev main_call0_call4_v67 : Ref sig .tc := ⟨.hbm, 378, rfl⟩
abbrev main_call0_call4_v68 : Ref sig .tc := ⟨.hbm, 379, rfl⟩
abbrev main_call0_call4_v69 : Ref sig .tc := ⟨.hbm, 380, rfl⟩
abbrev main_call0_call4_v70 : Ref sig .tc := ⟨.hbm, 381, rfl⟩
abbrev main_call0_call4_v71 : Ref sig .tc := ⟨.hbm, 382, rfl⟩
abbrev main_call0_call4_c_17 : Ref sig .tc := ⟨.hbm, 383, rfl⟩
abbrev main_call0_call4_v72 : Ref sig .tc := ⟨.hbm, 384, rfl⟩
abbrev main_call0_call4_v73 : Ref sig .tc := ⟨.hbm, 385, rfl⟩
abbrev main_call0_call4_v74 : Ref sig .tc := ⟨.hbm, 386, rfl⟩
abbrev main_call0_call4_c_18 : Ref sig .tc := ⟨.hbm, 387, rfl⟩
abbrev main_call0_call4_v75 : Ref sig .tc := ⟨.hbm, 388, rfl⟩
abbrev main_call0_call4_v76 : Ref sig .tc := ⟨.hbm, 389, rfl⟩
abbrev main_call0_call4_c_19 : Ref sig .tc := ⟨.hbm, 390, rfl⟩
abbrev main_call0_call4_v77 : Ref sig .tc := ⟨.hbm, 391, rfl⟩
abbrev main_call0_call4_v78 : Ref sig .tc := ⟨.hbm, 392, rfl⟩
abbrev main_call0_call4_v79 : Ref sig .tc := ⟨.hbm, 393, rfl⟩
abbrev main_call0_call4_v80 : Ref sig .tc := ⟨.hbm, 394, rfl⟩
abbrev main_call0_call4_v81 : Ref sig .tc := ⟨.hbm, 395, rfl⟩
abbrev main_call0_call4_c_20 : Ref sig .tc := ⟨.hbm, 396, rfl⟩
abbrev main_call0_call4_v82 : Ref sig .tc := ⟨.hbm, 397, rfl⟩
abbrev main_call0_call4_v83 : Ref sig .tc := ⟨.hbm, 398, rfl⟩
abbrev main_call0_call4_c_21 : Ref sig .tc := ⟨.hbm, 399, rfl⟩
abbrev main_call0_call4_v84 : Ref sig .tc := ⟨.hbm, 400, rfl⟩
abbrev main_call0_call4_v85 : Ref sig .tc := ⟨.hbm, 401, rfl⟩
abbrev main_call0_call4_v86 : Ref sig .tc := ⟨.hbm, 402, rfl⟩
abbrev main_call0_call4_v87 : Ref sig .tc := ⟨.hbm, 403, rfl⟩
abbrev main_call0_call4_v88 : Ref sig .tc := ⟨.hbm, 404, rfl⟩
abbrev main_call0_call4_c_22 : Ref sig .tc := ⟨.hbm, 405, rfl⟩
abbrev main_call0_call4_v89 : Ref sig .tc := ⟨.hbm, 406, rfl⟩
abbrev main_call0_call4_v90 : Ref sig .tc := ⟨.hbm, 407, rfl⟩
abbrev main_call0_call4_c_23 : Ref sig .tc := ⟨.hbm, 408, rfl⟩
abbrev main_call0_call4_v91 : Ref sig .tc := ⟨.hbm, 409, rfl⟩
abbrev main_call0_call4_v92 : Ref sig .tc := ⟨.hbm, 410, rfl⟩
abbrev main_call0_call4_v93 : Ref sig .tc := ⟨.hbm, 411, rfl⟩
abbrev main_call0_call4_v94 : Ref sig .tc := ⟨.hbm, 412, rfl⟩
abbrev main_call0_call4_v95 : Ref sig .tc := ⟨.hbm, 413, rfl⟩
abbrev main_call0_call4_c_24 : Ref sig .tc := ⟨.hbm, 414, rfl⟩
abbrev main_call0_call4_v96 : Ref sig .tc := ⟨.hbm, 415, rfl⟩
abbrev main_call0_call4_v97 : Ref sig .tc := ⟨.hbm, 416, rfl⟩
abbrev main_call0_call4_c_25 : Ref sig .tc := ⟨.hbm, 417, rfl⟩
abbrev main_call0_call4_v98 : Ref sig .tc := ⟨.hbm, 418, rfl⟩
abbrev main_call0_call4_v99 : Ref sig .tc := ⟨.hbm, 419, rfl⟩
abbrev main_call0_call4_v100 : Ref sig .tc := ⟨.hbm, 420, rfl⟩
abbrev main_call0_call4_v101 : Ref sig .tc := ⟨.hbm, 421, rfl⟩
abbrev main_call0_call4_v102 : Ref sig .tc := ⟨.hbm, 422, rfl⟩
abbrev main_call0_call4_v103 : Ref sig .tc := ⟨.hbm, 423, rfl⟩
abbrev main_call0_call4_v104 : Ref sig .tc := ⟨.hbm, 424, rfl⟩
abbrev main_call0_call4_v105 : Ref sig .tc := ⟨.hbm, 425, rfl⟩
abbrev main_call0_call4_c_26 : Ref sig .tc := ⟨.hbm, 426, rfl⟩
abbrev main_call0_call4_v106 : Ref sig .tc := ⟨.hbm, 427, rfl⟩
abbrev main_call0_call4_v107 : Ref sig .tc := ⟨.hbm, 428, rfl⟩
abbrev main_call0_call4_v108 : Ref sig .tc := ⟨.hbm, 429, rfl⟩
abbrev main_call0_call4_c_27 : Ref sig .tc := ⟨.hbm, 430, rfl⟩
abbrev main_call0_call4_v109 : Ref sig .tc := ⟨.hbm, 431, rfl⟩
abbrev main_call0_call4_v110 : Ref sig .tc := ⟨.hbm, 432, rfl⟩
abbrev main_call0_call4_c_28 : Ref sig .tc := ⟨.hbm, 433, rfl⟩
abbrev main_call0_call4_v111 : Ref sig .tc := ⟨.hbm, 434, rfl⟩
abbrev main_call0_call4_v112 : Ref sig .tc := ⟨.hbm, 435, rfl⟩
abbrev main_call0_call4_v113 : Ref sig .tc := ⟨.hbm, 436, rfl⟩
abbrev main_call0_call4_v114 : Ref sig .tc := ⟨.hbm, 437, rfl⟩
abbrev main_call0_call4_v115 : Ref sig .tc := ⟨.hbm, 438, rfl⟩
abbrev main_call0_call4_c_29 : Ref sig .tc := ⟨.hbm, 439, rfl⟩
abbrev main_call0_call4_v116 : Ref sig .tc := ⟨.hbm, 440, rfl⟩
abbrev main_call0_call4_v117 : Ref sig .tc := ⟨.hbm, 441, rfl⟩
abbrev main_call0_call4_c_30 : Ref sig .tc := ⟨.hbm, 442, rfl⟩
abbrev main_call0_call4_v118 : Ref sig .tc := ⟨.hbm, 443, rfl⟩
abbrev main_call0_call4_v119 : Ref sig .tc := ⟨.hbm, 444, rfl⟩
abbrev main_call0_call4_v120 : Ref sig .tc := ⟨.hbm, 445, rfl⟩
abbrev main_call0_call4_v121 : Ref sig .tc := ⟨.hbm, 446, rfl⟩
abbrev main_call0_call4_v122 : Ref sig .tc := ⟨.hbm, 447, rfl⟩
abbrev main_call0_call4_c_31 : Ref sig .tc := ⟨.hbm, 448, rfl⟩
abbrev main_call0_call4_v123 : Ref sig .tc := ⟨.hbm, 449, rfl⟩
abbrev main_call0_call4_v124 : Ref sig .tc := ⟨.hbm, 450, rfl⟩
abbrev main_call0_call4_c_32 : Ref sig .tc := ⟨.hbm, 451, rfl⟩
abbrev main_call0_call4_v125 : Ref sig .tc := ⟨.hbm, 452, rfl⟩
abbrev main_call0_call4_v126 : Ref sig .tc := ⟨.hbm, 453, rfl⟩
abbrev main_call0_call4_v127 : Ref sig .tc := ⟨.hbm, 454, rfl⟩
abbrev main_call0_call4_v128 : Ref sig .tc := ⟨.hbm, 455, rfl⟩
abbrev main_call0_call4_v129 : Ref sig .tc := ⟨.hbm, 456, rfl⟩
abbrev main_call0_call4_c_33 : Ref sig .tc := ⟨.hbm, 457, rfl⟩
abbrev main_call0_call4_v130 : Ref sig .tc := ⟨.hbm, 458, rfl⟩
abbrev main_call0_call4_v131 : Ref sig .tc := ⟨.hbm, 459, rfl⟩
abbrev main_call0_call4_c_34 : Ref sig .tc := ⟨.hbm, 460, rfl⟩
abbrev main_call0_call4_v132 : Ref sig .tc := ⟨.hbm, 461, rfl⟩
abbrev main_call0_call4_v133 : Ref sig .tc := ⟨.hbm, 462, rfl⟩
abbrev main_call0_call4_v134 : Ref sig .tc := ⟨.hbm, 463, rfl⟩
abbrev main_call0_call4_v135 : Ref sig .tc := ⟨.hbm, 464, rfl⟩
abbrev main_call0_call4_v136 : Ref sig .tc := ⟨.hbm, 465, rfl⟩
abbrev main_call0_call4_v137 : Ref sig .tc := ⟨.hbm, 466, rfl⟩
abbrev main_call0_call4_v138 : Ref sig .tc := ⟨.hbm, 467, rfl⟩
abbrev main_call0_call4_v139 : Ref sig .tc := ⟨.hbm, 468, rfl⟩
abbrev main_call0_call4_c_35 : Ref sig .tc := ⟨.hbm, 469, rfl⟩
abbrev main_call0_call4_v140 : Ref sig .tc := ⟨.hbm, 470, rfl⟩
abbrev main_call0_call4_v141 : Ref sig .tc := ⟨.hbm, 471, rfl⟩
abbrev main_call0_call4_v142 : Ref sig .tc := ⟨.hbm, 472, rfl⟩
abbrev main_call0_call4_c_36 : Ref sig .tc := ⟨.hbm, 473, rfl⟩
abbrev main_call0_call4_v143 : Ref sig .tc := ⟨.hbm, 474, rfl⟩
abbrev main_call0_call4_v144 : Ref sig .tc := ⟨.hbm, 475, rfl⟩
abbrev main_call0_call4_c_37 : Ref sig .tc := ⟨.hbm, 476, rfl⟩
abbrev main_call0_call4_v145 : Ref sig .tc := ⟨.hbm, 477, rfl⟩
abbrev main_call0_call4_v146 : Ref sig .tc := ⟨.hbm, 478, rfl⟩
abbrev main_call0_call4_v147 : Ref sig .tc := ⟨.hbm, 479, rfl⟩
abbrev main_call0_call4_v148 : Ref sig .tc := ⟨.hbm, 480, rfl⟩
abbrev main_call0_call4_v149 : Ref sig .tc := ⟨.hbm, 481, rfl⟩
abbrev main_call0_call4_c_38 : Ref sig .tc := ⟨.hbm, 482, rfl⟩
abbrev main_call0_call4_v150 : Ref sig .tc := ⟨.hbm, 483, rfl⟩
abbrev main_call0_call4_v151 : Ref sig .tc := ⟨.hbm, 484, rfl⟩
abbrev main_call0_call4_c_39 : Ref sig .tc := ⟨.hbm, 485, rfl⟩
abbrev main_call0_call4_v152 : Ref sig .tc := ⟨.hbm, 486, rfl⟩
abbrev main_call0_call4_v153 : Ref sig .tc := ⟨.hbm, 487, rfl⟩
abbrev main_call0_call4_v154 : Ref sig .tc := ⟨.hbm, 488, rfl⟩
abbrev main_call0_call4_v155 : Ref sig .tc := ⟨.hbm, 489, rfl⟩
abbrev main_call0_call4_v156 : Ref sig .tc := ⟨.hbm, 490, rfl⟩
abbrev main_call0_call4_c_40 : Ref sig .tc := ⟨.hbm, 491, rfl⟩
abbrev main_call0_call4_v157 : Ref sig .tc := ⟨.hbm, 492, rfl⟩
abbrev main_call0_call4_v158 : Ref sig .tc := ⟨.hbm, 493, rfl⟩
abbrev main_call0_call4_c_41 : Ref sig .tc := ⟨.hbm, 494, rfl⟩
abbrev main_call0_call4_v159 : Ref sig .tc := ⟨.hbm, 495, rfl⟩
abbrev main_call0_call4_v160 : Ref sig .tc := ⟨.hbm, 496, rfl⟩
abbrev main_call0_call4_v161 : Ref sig .tc := ⟨.hbm, 497, rfl⟩
abbrev main_call0_call4_v162 : Ref sig .tc := ⟨.hbm, 498, rfl⟩
abbrev main_call0_call4_v163 : Ref sig .tc := ⟨.hbm, 499, rfl⟩
abbrev main_call0_call4_c_42 : Ref sig .tc := ⟨.hbm, 500, rfl⟩
abbrev main_call0_call4_v164 : Ref sig .tc := ⟨.hbm, 501, rfl⟩
abbrev main_call0_call4_v165 : Ref sig .tc := ⟨.hbm, 502, rfl⟩
abbrev main_call0_call4_c_43 : Ref sig .tc := ⟨.hbm, 503, rfl⟩
abbrev main_call0_call4_v166 : Ref sig .tc := ⟨.hbm, 504, rfl⟩
abbrev main_call0_call4_v167 : Ref sig .tc := ⟨.hbm, 505, rfl⟩
abbrev main_call0_call4_v168 : Ref sig .tc := ⟨.hbm, 506, rfl⟩
abbrev main_call0_call4_v169 : Ref sig .tc := ⟨.hbm, 507, rfl⟩
abbrev main_call0_call4_v170 : Ref sig .tc := ⟨.hbm, 508, rfl⟩
abbrev main_call0_v28_0 : Ref sig .tc := ⟨.hbm, 509, rfl⟩
abbrev main_call0_call4_v172 : Ref sig .tc := ⟨.hbm, 510, rfl⟩
abbrev main_call0_call4_v173 : Ref sig .tc := ⟨.hbm, 511, rfl⟩
abbrev main_call0_call4_c_44 : Ref sig .tc := ⟨.hbm, 512, rfl⟩
abbrev main_call0_call4_v174 : Ref sig .tc := ⟨.hbm, 513, rfl⟩
abbrev main_call0_v28_1 : Ref sig .tc := ⟨.hbm, 514, rfl⟩
abbrev main_call0_v29 : Ref sig .tc := ⟨.hbm, 515, rfl⟩
abbrev main_call0_v30 : Ref sig .tc := ⟨.hbm, 516, rfl⟩
abbrev main_call0_v31 : Ref sig .tc := ⟨.hbm, 517, rfl⟩
abbrev main_call0_v32 : Ref sig .tc := ⟨.hbm, 518, rfl⟩
abbrev main_call0_v33 : Ref sig .tc := ⟨.hbm, 519, rfl⟩
abbrev main_call0_v34 : Ref sig .tc := ⟨.hbm, 520, rfl⟩
abbrev main_call0_v35 : Ref sig .tc := ⟨.hbm, 521, rfl⟩
abbrev main_call0_c_9 : Ref sig .tc := ⟨.hbm, 522, rfl⟩
abbrev main_call0_v36 : Ref sig .tc := ⟨.hbm, 523, rfl⟩
abbrev main_call0_v37 : Ref sig .tc := ⟨.hbm, 524, rfl⟩
abbrev main_call0_c_10 : Ref sig .tc := ⟨.hbm, 525, rfl⟩
abbrev main_call0_v38 : Ref sig .tc := ⟨.hbm, 526, rfl⟩
abbrev main_call0_v39 : Ref sig .tc := ⟨.hbm, 527, rfl⟩
abbrev main_call0_v40 : Ref sig .tc := ⟨.hbm, 528, rfl⟩
abbrev main_call0_c_11 : Ref sig .tc := ⟨.hbm, 529, rfl⟩
abbrev main_call0_v41 : Ref sig .tc := ⟨.hbm, 530, rfl⟩
abbrev main_call0_v42 : Ref sig .tc := ⟨.hbm, 531, rfl⟩
abbrev main_call0_v43 : Ref sig .tc := ⟨.hbm, 532, rfl⟩
abbrev main_call0_v44 : Ref sig .tc := ⟨.hbm, 533, rfl⟩
abbrev main_call0_call5_v0 : Ref sig .tc := ⟨.hbm, 534, rfl⟩
abbrev main_call0_call5_c : Ref sig .tc := ⟨.hbm, 535, rfl⟩
abbrev main_call0_call5_v1 : Ref sig .tc := ⟨.hbm, 536, rfl⟩
abbrev main_call0_call5_v2 : Ref sig .tc := ⟨.hbm, 537, rfl⟩
abbrev main_call0_call5_v3 : Ref sig .tc := ⟨.hbm, 538, rfl⟩
abbrev main_call0_call5_v4 : Ref sig .tc := ⟨.hbm, 539, rfl⟩
abbrev main_call0_call5_v5 : Ref sig .tc := ⟨.hbm, 540, rfl⟩
abbrev main_call0_call5_v6 : Ref sig .tc := ⟨.hbm, 541, rfl⟩
abbrev main_call0_call5_c_0 : Ref sig .tc := ⟨.hbm, 542, rfl⟩
abbrev main_call0_call5_v7 : Ref sig .tc := ⟨.hbm, 543, rfl⟩
abbrev main_call0_call5_v8 : Ref sig .tc := ⟨.hbm, 544, rfl⟩
abbrev main_call0_call5_c_1 : Ref sig .tc := ⟨.hbm, 545, rfl⟩
abbrev main_call0_call5_v9 : Ref sig .tc := ⟨.hbm, 546, rfl⟩
abbrev main_call0_call5_v10 : Ref sig .tc := ⟨.hbm, 547, rfl⟩
abbrev main_call0_call5_v11 : Ref sig .tc := ⟨.hbm, 548, rfl⟩
abbrev main_call0_call5_v12 : Ref sig .tc := ⟨.hbm, 549, rfl⟩
abbrev main_call0_call5_v13 : Ref sig .tc := ⟨.hbm, 550, rfl⟩
abbrev main_call0_call5_c_2 : Ref sig .tc := ⟨.hbm, 551, rfl⟩
abbrev main_call0_call5_v14 : Ref sig .tc := ⟨.hbm, 552, rfl⟩
abbrev main_call0_call5_v15 : Ref sig .tc := ⟨.hbm, 553, rfl⟩
abbrev main_call0_call5_c_3 : Ref sig .tc := ⟨.hbm, 554, rfl⟩
abbrev main_call0_call5_v16 : Ref sig .tc := ⟨.hbm, 555, rfl⟩
abbrev main_call0_call5_v17 : Ref sig .tc := ⟨.hbm, 556, rfl⟩
abbrev main_call0_call5_v18 : Ref sig .tc := ⟨.hbm, 557, rfl⟩
abbrev main_call0_call5_v19 : Ref sig .tc := ⟨.hbm, 558, rfl⟩
abbrev main_call0_call5_v20 : Ref sig .tc := ⟨.hbm, 559, rfl⟩
abbrev main_call0_call5_c_4 : Ref sig .tc := ⟨.hbm, 560, rfl⟩
abbrev main_call0_call5_v21 : Ref sig .tc := ⟨.hbm, 561, rfl⟩
abbrev main_call0_call5_v22 : Ref sig .tc := ⟨.hbm, 562, rfl⟩
abbrev main_call0_call5_c_5 : Ref sig .tc := ⟨.hbm, 563, rfl⟩
abbrev main_call0_call5_v23 : Ref sig .tc := ⟨.hbm, 564, rfl⟩
abbrev main_call0_call5_v24 : Ref sig .tc := ⟨.hbm, 565, rfl⟩
abbrev main_call0_call5_v25 : Ref sig .tc := ⟨.hbm, 566, rfl⟩
abbrev main_call0_call5_v26 : Ref sig .tc := ⟨.hbm, 567, rfl⟩
abbrev main_call0_call5_v27 : Ref sig .tc := ⟨.hbm, 568, rfl⟩
abbrev main_call0_call5_c_6 : Ref sig .tc := ⟨.hbm, 569, rfl⟩
abbrev main_call0_call5_v28 : Ref sig .tc := ⟨.hbm, 570, rfl⟩
abbrev main_call0_call5_v29 : Ref sig .tc := ⟨.hbm, 571, rfl⟩
abbrev main_call0_call5_c_7 : Ref sig .tc := ⟨.hbm, 572, rfl⟩
abbrev main_call0_call5_v30 : Ref sig .tc := ⟨.hbm, 573, rfl⟩
abbrev main_call0_call5_v31 : Ref sig .tc := ⟨.hbm, 574, rfl⟩
abbrev main_call0_call5_v32 : Ref sig .tc := ⟨.hbm, 575, rfl⟩
abbrev main_call0_call5_v33 : Ref sig .tc := ⟨.hbm, 576, rfl⟩
abbrev main_call0_call5_v34 : Ref sig .tc := ⟨.hbm, 577, rfl⟩
abbrev main_call0_call5_v35 : Ref sig .tc := ⟨.hbm, 578, rfl⟩
abbrev main_call0_call5_v36 : Ref sig .tc := ⟨.hbm, 579, rfl⟩
abbrev main_call0_call5_v37 : Ref sig .tc := ⟨.hbm, 580, rfl⟩
abbrev main_call0_call5_c_8 : Ref sig .tc := ⟨.hbm, 581, rfl⟩
abbrev main_call0_call5_v38 : Ref sig .tc := ⟨.hbm, 582, rfl⟩
abbrev main_call0_call5_v39 : Ref sig .tc := ⟨.hbm, 583, rfl⟩
abbrev main_call0_call5_v40 : Ref sig .tc := ⟨.hbm, 584, rfl⟩
abbrev main_call0_call5_c_9 : Ref sig .tc := ⟨.hbm, 585, rfl⟩
abbrev main_call0_call5_v41 : Ref sig .tc := ⟨.hbm, 586, rfl⟩
abbrev main_call0_call5_v42 : Ref sig .tc := ⟨.hbm, 587, rfl⟩
abbrev main_call0_call5_c_10 : Ref sig .tc := ⟨.hbm, 588, rfl⟩
abbrev main_call0_call5_v43 : Ref sig .tc := ⟨.hbm, 589, rfl⟩
abbrev main_call0_call5_v44 : Ref sig .tc := ⟨.hbm, 590, rfl⟩
abbrev main_call0_call5_v45 : Ref sig .tc := ⟨.hbm, 591, rfl⟩
abbrev main_call0_call5_v46 : Ref sig .tc := ⟨.hbm, 592, rfl⟩
abbrev main_call0_call5_v47 : Ref sig .tc := ⟨.hbm, 593, rfl⟩
abbrev main_call0_call5_c_11 : Ref sig .tc := ⟨.hbm, 594, rfl⟩
abbrev main_call0_call5_v48 : Ref sig .tc := ⟨.hbm, 595, rfl⟩
abbrev main_call0_call5_v49 : Ref sig .tc := ⟨.hbm, 596, rfl⟩
abbrev main_call0_call5_c_12 : Ref sig .tc := ⟨.hbm, 597, rfl⟩
abbrev main_call0_call5_v50 : Ref sig .tc := ⟨.hbm, 598, rfl⟩
abbrev main_call0_call5_v51 : Ref sig .tc := ⟨.hbm, 599, rfl⟩
abbrev main_call0_call5_v52 : Ref sig .tc := ⟨.hbm, 600, rfl⟩
abbrev main_call0_call5_v53 : Ref sig .tc := ⟨.hbm, 601, rfl⟩
abbrev main_call0_call5_v54 : Ref sig .tc := ⟨.hbm, 602, rfl⟩
abbrev main_call0_call5_c_13 : Ref sig .tc := ⟨.hbm, 603, rfl⟩
abbrev main_call0_call5_v55 : Ref sig .tc := ⟨.hbm, 604, rfl⟩
abbrev main_call0_call5_v56 : Ref sig .tc := ⟨.hbm, 605, rfl⟩
abbrev main_call0_call5_c_14 : Ref sig .tc := ⟨.hbm, 606, rfl⟩
abbrev main_call0_call5_v57 : Ref sig .tc := ⟨.hbm, 607, rfl⟩
abbrev main_call0_call5_v58 : Ref sig .tc := ⟨.hbm, 608, rfl⟩
abbrev main_call0_call5_v59 : Ref sig .tc := ⟨.hbm, 609, rfl⟩
abbrev main_call0_call5_v60 : Ref sig .tc := ⟨.hbm, 610, rfl⟩
abbrev main_call0_call5_v61 : Ref sig .tc := ⟨.hbm, 611, rfl⟩
abbrev main_call0_call5_c_15 : Ref sig .tc := ⟨.hbm, 612, rfl⟩
abbrev main_call0_call5_v62 : Ref sig .tc := ⟨.hbm, 613, rfl⟩
abbrev main_call0_call5_v63 : Ref sig .tc := ⟨.hbm, 614, rfl⟩
abbrev main_call0_call5_c_16 : Ref sig .tc := ⟨.hbm, 615, rfl⟩
abbrev main_call0_call5_v64 : Ref sig .tc := ⟨.hbm, 616, rfl⟩
abbrev main_call0_call5_v65 : Ref sig .tc := ⟨.hbm, 617, rfl⟩
abbrev main_call0_call5_v66 : Ref sig .tc := ⟨.hbm, 618, rfl⟩
abbrev main_call0_call5_v67 : Ref sig .tc := ⟨.hbm, 619, rfl⟩
abbrev main_call0_call5_v68 : Ref sig .tc := ⟨.hbm, 620, rfl⟩
abbrev main_call0_call5_v69 : Ref sig .tc := ⟨.hbm, 621, rfl⟩
abbrev main_call0_call5_v70 : Ref sig .tc := ⟨.hbm, 622, rfl⟩
abbrev main_call0_call5_v71 : Ref sig .tc := ⟨.hbm, 623, rfl⟩
abbrev main_call0_call5_c_17 : Ref sig .tc := ⟨.hbm, 624, rfl⟩
abbrev main_call0_call5_v72 : Ref sig .tc := ⟨.hbm, 625, rfl⟩
abbrev main_call0_call5_v73 : Ref sig .tc := ⟨.hbm, 626, rfl⟩
abbrev main_call0_call5_v74 : Ref sig .tc := ⟨.hbm, 627, rfl⟩
abbrev main_call0_call5_c_18 : Ref sig .tc := ⟨.hbm, 628, rfl⟩
abbrev main_call0_call5_v75 : Ref sig .tc := ⟨.hbm, 629, rfl⟩
abbrev main_call0_call5_v76 : Ref sig .tc := ⟨.hbm, 630, rfl⟩
abbrev main_call0_call5_c_19 : Ref sig .tc := ⟨.hbm, 631, rfl⟩
abbrev main_call0_call5_v77 : Ref sig .tc := ⟨.hbm, 632, rfl⟩
abbrev main_call0_call5_v78 : Ref sig .tc := ⟨.hbm, 633, rfl⟩
abbrev main_call0_call5_v79 : Ref sig .tc := ⟨.hbm, 634, rfl⟩
abbrev main_call0_call5_v80 : Ref sig .tc := ⟨.hbm, 635, rfl⟩
abbrev main_call0_call5_v81 : Ref sig .tc := ⟨.hbm, 636, rfl⟩
abbrev main_call0_call5_c_20 : Ref sig .tc := ⟨.hbm, 637, rfl⟩
abbrev main_call0_call5_v82 : Ref sig .tc := ⟨.hbm, 638, rfl⟩
abbrev main_call0_call5_v83 : Ref sig .tc := ⟨.hbm, 639, rfl⟩
abbrev main_call0_call5_c_21 : Ref sig .tc := ⟨.hbm, 640, rfl⟩
abbrev main_call0_call5_v84 : Ref sig .tc := ⟨.hbm, 641, rfl⟩
abbrev main_call0_call5_v85 : Ref sig .tc := ⟨.hbm, 642, rfl⟩
abbrev main_call0_call5_v86 : Ref sig .tc := ⟨.hbm, 643, rfl⟩
abbrev main_call0_call5_v87 : Ref sig .tc := ⟨.hbm, 644, rfl⟩
abbrev main_call0_call5_v88 : Ref sig .tc := ⟨.hbm, 645, rfl⟩
abbrev main_call0_call5_c_22 : Ref sig .tc := ⟨.hbm, 646, rfl⟩
abbrev main_call0_call5_v89 : Ref sig .tc := ⟨.hbm, 647, rfl⟩
abbrev main_call0_call5_v90 : Ref sig .tc := ⟨.hbm, 648, rfl⟩
abbrev main_call0_call5_c_23 : Ref sig .tc := ⟨.hbm, 649, rfl⟩
abbrev main_call0_call5_v91 : Ref sig .tc := ⟨.hbm, 650, rfl⟩
abbrev main_call0_call5_v92 : Ref sig .tc := ⟨.hbm, 651, rfl⟩
abbrev main_call0_call5_v93 : Ref sig .tc := ⟨.hbm, 652, rfl⟩
abbrev main_call0_call5_v94 : Ref sig .tc := ⟨.hbm, 653, rfl⟩
abbrev main_call0_call5_v95 : Ref sig .tc := ⟨.hbm, 654, rfl⟩
abbrev main_call0_call5_c_24 : Ref sig .tc := ⟨.hbm, 655, rfl⟩
abbrev main_call0_call5_v96 : Ref sig .tc := ⟨.hbm, 656, rfl⟩
abbrev main_call0_call5_v97 : Ref sig .tc := ⟨.hbm, 657, rfl⟩
abbrev main_call0_call5_c_25 : Ref sig .tc := ⟨.hbm, 658, rfl⟩
abbrev main_call0_call5_v98 : Ref sig .tc := ⟨.hbm, 659, rfl⟩
abbrev main_call0_call5_v99 : Ref sig .tc := ⟨.hbm, 660, rfl⟩
abbrev main_call0_call5_v100 : Ref sig .tc := ⟨.hbm, 661, rfl⟩
abbrev main_call0_call5_v101 : Ref sig .tc := ⟨.hbm, 662, rfl⟩
abbrev main_call0_call5_v102 : Ref sig .tc := ⟨.hbm, 663, rfl⟩
abbrev main_call0_call5_v103 : Ref sig .tc := ⟨.hbm, 664, rfl⟩
abbrev main_call0_call5_v104 : Ref sig .tc := ⟨.hbm, 665, rfl⟩
abbrev main_call0_call5_v105 : Ref sig .tc := ⟨.hbm, 666, rfl⟩
abbrev main_call0_call5_c_26 : Ref sig .tc := ⟨.hbm, 667, rfl⟩
abbrev main_call0_call5_v106 : Ref sig .tc := ⟨.hbm, 668, rfl⟩
abbrev main_call0_call5_v107 : Ref sig .tc := ⟨.hbm, 669, rfl⟩
abbrev main_call0_call5_v108 : Ref sig .tc := ⟨.hbm, 670, rfl⟩
abbrev main_call0_call5_c_27 : Ref sig .tc := ⟨.hbm, 671, rfl⟩
abbrev main_call0_call5_v109 : Ref sig .tc := ⟨.hbm, 672, rfl⟩
abbrev main_call0_call5_v110 : Ref sig .tc := ⟨.hbm, 673, rfl⟩
abbrev main_call0_call5_c_28 : Ref sig .tc := ⟨.hbm, 674, rfl⟩
abbrev main_call0_call5_v111 : Ref sig .tc := ⟨.hbm, 675, rfl⟩
abbrev main_call0_call5_v112 : Ref sig .tc := ⟨.hbm, 676, rfl⟩
abbrev main_call0_call5_v113 : Ref sig .tc := ⟨.hbm, 677, rfl⟩
abbrev main_call0_call5_v114 : Ref sig .tc := ⟨.hbm, 678, rfl⟩
abbrev main_call0_call5_v115 : Ref sig .tc := ⟨.hbm, 679, rfl⟩
abbrev main_call0_call5_c_29 : Ref sig .tc := ⟨.hbm, 680, rfl⟩
abbrev main_call0_call5_v116 : Ref sig .tc := ⟨.hbm, 681, rfl⟩
abbrev main_call0_call5_v117 : Ref sig .tc := ⟨.hbm, 682, rfl⟩
abbrev main_call0_call5_c_30 : Ref sig .tc := ⟨.hbm, 683, rfl⟩
abbrev main_call0_call5_v118 : Ref sig .tc := ⟨.hbm, 684, rfl⟩
abbrev main_call0_call5_v119 : Ref sig .tc := ⟨.hbm, 685, rfl⟩
abbrev main_call0_call5_v120 : Ref sig .tc := ⟨.hbm, 686, rfl⟩
abbrev main_call0_call5_v121 : Ref sig .tc := ⟨.hbm, 687, rfl⟩
abbrev main_call0_call5_v122 : Ref sig .tc := ⟨.hbm, 688, rfl⟩
abbrev main_call0_call5_c_31 : Ref sig .tc := ⟨.hbm, 689, rfl⟩
abbrev main_call0_call5_v123 : Ref sig .tc := ⟨.hbm, 690, rfl⟩
abbrev main_call0_call5_v124 : Ref sig .tc := ⟨.hbm, 691, rfl⟩
abbrev main_call0_call5_c_32 : Ref sig .tc := ⟨.hbm, 692, rfl⟩
abbrev main_call0_call5_v125 : Ref sig .tc := ⟨.hbm, 693, rfl⟩
abbrev main_call0_call5_v126 : Ref sig .tc := ⟨.hbm, 694, rfl⟩
abbrev main_call0_call5_v127 : Ref sig .tc := ⟨.hbm, 695, rfl⟩
abbrev main_call0_call5_v128 : Ref sig .tc := ⟨.hbm, 696, rfl⟩
abbrev main_call0_call5_v129 : Ref sig .tc := ⟨.hbm, 697, rfl⟩
abbrev main_call0_call5_c_33 : Ref sig .tc := ⟨.hbm, 698, rfl⟩
abbrev main_call0_call5_v130 : Ref sig .tc := ⟨.hbm, 699, rfl⟩
abbrev main_call0_call5_v131 : Ref sig .tc := ⟨.hbm, 700, rfl⟩
abbrev main_call0_call5_c_34 : Ref sig .tc := ⟨.hbm, 701, rfl⟩
abbrev main_call0_call5_v132 : Ref sig .tc := ⟨.hbm, 702, rfl⟩
abbrev main_call0_call5_v133 : Ref sig .tc := ⟨.hbm, 703, rfl⟩
abbrev main_call0_call5_v134 : Ref sig .tc := ⟨.hbm, 704, rfl⟩
abbrev main_call0_call5_v135 : Ref sig .tc := ⟨.hbm, 705, rfl⟩
abbrev main_call0_call5_v136 : Ref sig .tc := ⟨.hbm, 706, rfl⟩
abbrev main_call0_call5_v137 : Ref sig .tc := ⟨.hbm, 707, rfl⟩
abbrev main_call0_call5_v138 : Ref sig .tc := ⟨.hbm, 708, rfl⟩
abbrev main_call0_call5_v139 : Ref sig .tc := ⟨.hbm, 709, rfl⟩
abbrev main_call0_call5_c_35 : Ref sig .tc := ⟨.hbm, 710, rfl⟩
abbrev main_call0_call5_v140 : Ref sig .tc := ⟨.hbm, 711, rfl⟩
abbrev main_call0_call5_v141 : Ref sig .tc := ⟨.hbm, 712, rfl⟩
abbrev main_call0_call5_v142 : Ref sig .tc := ⟨.hbm, 713, rfl⟩
abbrev main_call0_call5_c_36 : Ref sig .tc := ⟨.hbm, 714, rfl⟩
abbrev main_call0_call5_v143 : Ref sig .tc := ⟨.hbm, 715, rfl⟩
abbrev main_call0_call5_v144 : Ref sig .tc := ⟨.hbm, 716, rfl⟩
abbrev main_call0_call5_c_37 : Ref sig .tc := ⟨.hbm, 717, rfl⟩
abbrev main_call0_call5_v145 : Ref sig .tc := ⟨.hbm, 718, rfl⟩
abbrev main_call0_call5_v146 : Ref sig .tc := ⟨.hbm, 719, rfl⟩
abbrev main_call0_call5_v147 : Ref sig .tc := ⟨.hbm, 720, rfl⟩
abbrev main_call0_call5_v148 : Ref sig .tc := ⟨.hbm, 721, rfl⟩
abbrev main_call0_call5_v149 : Ref sig .tc := ⟨.hbm, 722, rfl⟩
abbrev main_call0_call5_c_38 : Ref sig .tc := ⟨.hbm, 723, rfl⟩
abbrev main_call0_call5_v150 : Ref sig .tc := ⟨.hbm, 724, rfl⟩
abbrev main_call0_call5_v151 : Ref sig .tc := ⟨.hbm, 725, rfl⟩
abbrev main_call0_call5_c_39 : Ref sig .tc := ⟨.hbm, 726, rfl⟩
abbrev main_call0_call5_v152 : Ref sig .tc := ⟨.hbm, 727, rfl⟩
abbrev main_call0_call5_v153 : Ref sig .tc := ⟨.hbm, 728, rfl⟩
abbrev main_call0_call5_v154 : Ref sig .tc := ⟨.hbm, 729, rfl⟩
abbrev main_call0_call5_v155 : Ref sig .tc := ⟨.hbm, 730, rfl⟩
abbrev main_call0_call5_v156 : Ref sig .tc := ⟨.hbm, 731, rfl⟩
abbrev main_call0_call5_c_40 : Ref sig .tc := ⟨.hbm, 732, rfl⟩
abbrev main_call0_call5_v157 : Ref sig .tc := ⟨.hbm, 733, rfl⟩
abbrev main_call0_call5_v158 : Ref sig .tc := ⟨.hbm, 734, rfl⟩
abbrev main_call0_call5_c_41 : Ref sig .tc := ⟨.hbm, 735, rfl⟩
abbrev main_call0_call5_v159 : Ref sig .tc := ⟨.hbm, 736, rfl⟩
abbrev main_call0_call5_v160 : Ref sig .tc := ⟨.hbm, 737, rfl⟩
abbrev main_call0_call5_v161 : Ref sig .tc := ⟨.hbm, 738, rfl⟩
abbrev main_call0_call5_v162 : Ref sig .tc := ⟨.hbm, 739, rfl⟩
abbrev main_call0_call5_v163 : Ref sig .tc := ⟨.hbm, 740, rfl⟩
abbrev main_call0_call5_c_42 : Ref sig .tc := ⟨.hbm, 741, rfl⟩
abbrev main_call0_call5_v164 : Ref sig .tc := ⟨.hbm, 742, rfl⟩
abbrev main_call0_call5_v165 : Ref sig .tc := ⟨.hbm, 743, rfl⟩
abbrev main_call0_call5_c_43 : Ref sig .tc := ⟨.hbm, 744, rfl⟩
abbrev main_call0_call5_v166 : Ref sig .tc := ⟨.hbm, 745, rfl⟩
abbrev main_call0_call5_v167 : Ref sig .tc := ⟨.hbm, 746, rfl⟩
abbrev main_call0_call5_v168 : Ref sig .tc := ⟨.hbm, 747, rfl⟩
abbrev main_call0_call5_v169 : Ref sig .tc := ⟨.hbm, 748, rfl⟩
abbrev main_call0_call5_v170 : Ref sig .tc := ⟨.hbm, 749, rfl⟩
abbrev main_call0_v45_0 : Ref sig .tc := ⟨.hbm, 750, rfl⟩
abbrev main_call0_call5_v172 : Ref sig .tc := ⟨.hbm, 751, rfl⟩
abbrev main_call0_call5_v173 : Ref sig .tc := ⟨.hbm, 752, rfl⟩
abbrev main_call0_call5_c_44 : Ref sig .tc := ⟨.hbm, 753, rfl⟩
abbrev main_call0_call5_v174 : Ref sig .tc := ⟨.hbm, 754, rfl⟩
abbrev main_call0_v45_1 : Ref sig .tc := ⟨.hbm, 755, rfl⟩
abbrev main_call0_v46 : Ref sig .tc := ⟨.hbm, 756, rfl⟩
abbrev main_call0_v47 : Ref sig .tc := ⟨.hbm, 757, rfl⟩
abbrev main_call0_v48 : Ref sig .tc := ⟨.hbm, 758, rfl⟩
abbrev main_call0_v49 : Ref sig .tc := ⟨.hbm, 759, rfl⟩
abbrev main_call0_c_12 : Ref sig .tc := ⟨.hbm, 760, rfl⟩
abbrev main_call0_v50 : Ref sig .tc := ⟨.hbm, 761, rfl⟩
abbrev main_call0_v51 : Ref sig .tc := ⟨.hbm, 762, rfl⟩
abbrev main_call0_v52 : Ref sig .tc := ⟨.hbm, 763, rfl⟩
abbrev main_call0_v53 : Ref sig .tc := ⟨.hbm, 764, rfl⟩
abbrev main_call0_v54 : Ref sig .tc := ⟨.hbm, 765, rfl⟩
abbrev main_call0_c_13 : Ref sig .tc := ⟨.hbm, 766, rfl⟩
abbrev main_call0_v55 : Ref sig .tc := ⟨.hbm, 767, rfl⟩
abbrev main_call0_v56 : Ref sig .tc := ⟨.hbm, 768, rfl⟩
abbrev main_call0_v57 : Ref sig .tc := ⟨.hbm, 769, rfl⟩
abbrev main_call0_c_14 : Ref sig .tc := ⟨.hbm, 770, rfl⟩
abbrev main_call0_v58 : Ref sig .tc := ⟨.hbm, 771, rfl⟩
abbrev main_call0_v59 : Ref sig .tc := ⟨.hbm, 772, rfl⟩
abbrev main_call0_v60 : Ref sig .tc := ⟨.hbm, 773, rfl⟩
abbrev main_call0_v61 : Ref sig .tc := ⟨.hbm, 774, rfl⟩
abbrev main_call0_v62 : Ref sig .tc := ⟨.hbm, 775, rfl⟩
abbrev main_call0_v63 : Ref sig .tc := ⟨.hbm, 776, rfl⟩
abbrev main_call0_v64 : Ref sig .tc := ⟨.hbm, 777, rfl⟩
abbrev main_call0_v65 : Ref sig .tc := ⟨.hbm, 778, rfl⟩
abbrev main_call0_v66 : Ref sig .tc := ⟨.hbm, 779, rfl⟩
abbrev main_call0_v67 : Ref sig .tc := ⟨.hbm, 780, rfl⟩
abbrev main_call0_v68 : Ref sig .tc := ⟨.hbm, 781, rfl⟩
abbrev main_call0_v69 : Ref sig .tc := ⟨.hbm, 782, rfl⟩
abbrev main_call0_v70 : Ref sig .tc := ⟨.hbm, 783, rfl⟩
abbrev main_call0_v71 : Ref sig .tc := ⟨.hbm, 784, rfl⟩
abbrev main_call0_v72 : Ref sig .tc := ⟨.hbm, 785, rfl⟩
abbrev main_v7 : Ref sig .tc := ⟨.hbm, 786, rfl⟩
abbrev main_cst : Ref sig .tc := ⟨.hbm, 787, rfl⟩
abbrev main_v8 : Ref sig .tc := ⟨.hbm, 788, rfl⟩
abbrev main_v9 : Ref sig .tc := ⟨.hbm, 789, rfl⟩
abbrev main_v10 : Ref sig .tc := ⟨.hbm, 790, rfl⟩
abbrev main_c_4 : Ref sig .tc := ⟨.hbm, 791, rfl⟩
abbrev main_v11 : Ref sig .tc := ⟨.hbm, 792, rfl⟩
abbrev main_v12 : Ref sig .tc := ⟨.hbm, 793, rfl⟩
abbrev main_c_5 : Ref sig .tc := ⟨.hbm, 794, rfl⟩
abbrev main_v13 : Ref sig .tc := ⟨.hbm, 795, rfl⟩
abbrev main_v14 : Ref sig .tc := ⟨.hbm, 796, rfl⟩
abbrev main_v15 : Ref sig .tc := ⟨.hbm, 797, rfl⟩
abbrev main_c_6 : Ref sig .tc := ⟨.hbm, 798, rfl⟩
abbrev main_v16 : Ref sig .tc := ⟨.hbm, 799, rfl⟩
abbrev main_v17 : Ref sig .tc := ⟨.hbm, 800, rfl⟩
abbrev main_c_7 : Ref sig .tc := ⟨.hbm, 801, rfl⟩
abbrev main_v18 : Ref sig .tc := ⟨.hbm, 802, rfl⟩
abbrev main_v19 : Ref sig .tc := ⟨.hbm, 803, rfl⟩
abbrev main_v20 : Ref sig .tc := ⟨.hbm, 804, rfl⟩
abbrev main_v21 : Ref sig .tc := ⟨.hbm, 805, rfl⟩
abbrev main_v22 : Ref sig .tc := ⟨.hbm, 806, rfl⟩
abbrev main_v23 : Ref sig .tc := ⟨.hbm, 807, rfl⟩
abbrev main_v24 : Ref sig .tc := ⟨.hbm, 808, rfl⟩
abbrev main_cst_8 : Ref sig .tc := ⟨.hbm, 809, rfl⟩
abbrev main_v25 : Ref sig .tc := ⟨.hbm, 810, rfl⟩
abbrev main_v26 : Ref sig .tc := ⟨.hbm, 811, rfl⟩
abbrev main_v27 : Ref sig .tc := ⟨.hbm, 812, rfl⟩
abbrev main_v28 : Ref sig .tc := ⟨.hbm, 813, rfl⟩
abbrev main_v29 : Ref sig .tc := ⟨.hbm, 814, rfl⟩
abbrev main_v30 : Ref sig .tc := ⟨.hbm, 815, rfl⟩
abbrev main_v31 : Ref sig .tc := ⟨.hbm, 816, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c40_i32 : BitVec 32 := 40#32
  let v123 : BitVec 32 := Scalar.addi c0_i32 c40_i32
  let c1_i32 : BitVec 32 := 1#32
  ⟨c0_i32, v123, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let v270 : Index := Scalar.indexCast arg9
  let c0_182 : Index := 0#32
  ![v270.toNat, 0]
@[reducible] def k0_t2_loop : Scf.Loop 32 :=
  let c0_i32_146 : BitVec 32 := 0#32
  let c40_i32_147 : BitVec 32 := 40#32
  let v209 : BitVec 32 := Scalar.addi c0_i32_146 c40_i32_147
  let c1_i32_148 : BitVec 32 := 1#32
  ⟨c0_i32_146, v209, c1_i32_148⟩
def k0_off2 (k0_t2 : Fin k0_t2_loop.trips) : Fin 2 → Nat :=
  let c0_i32_146 : BitVec 32 := 0#32
  let c1_i32_148 : BitVec 32 := 1#32
  let arg9 : BitVec 32 := Scf.iv c0_i32_146 c1_i32_148 k0_t2
  let v270 : Index := Scalar.indexCast arg9
  let c0_182 : Index := 0#32
  ![v270.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x2048x16x64 : Shape := ⟨4, ![2, 2048, 16, 64]⟩
abbrev S2x16x2048x64 : Shape := ⟨4, ![2, 16, 2048, 64]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S2048x40 : Shape := ⟨2, ![2048, 40]⟩
abbrev S2048x40x1 : Shape := ⟨3, ![2048, 40, 1]⟩
abbrev S2x16x2048x40x64 : Shape := ⟨5, ![2, 16, 2048, 40, 64]⟩
abbrev S2x16x2048x40 : Shape := ⟨4, ![2, 16, 2048, 40]⟩
abbrev S2x16x2048 : Shape := ⟨3, ![2, 16, 2048]⟩
abbrev S2x16x40 : Shape := ⟨3, ![2, 16, 40]⟩
abbrev S2x16x40x1 : Shape := ⟨4, ![2, 16, 40, 1]⟩
abbrev S1x1x1x1 : Shape := ⟨4, ![1, 1, 1, 1]⟩
abbrev S2x16x40x64 : Shape := ⟨4, ![2, 16, 40, 64]⟩
abbrev S2x16x40x2048 : Shape := ⟨4, ![2, 16, 40, 2048]⟩
abbrev S2048x2048 : Shape := ⟨2, ![2048, 2048]⟩
abbrev S40x2048 : Shape := ⟨2, ![40, 2048]⟩
abbrev S1x1x40x2048 : Shape := ⟨4, ![1, 1, 40, 2048]⟩
abbrev S2x1x1 : Shape := ⟨3, ![2, 1, 1]⟩
abbrev S16 : Shape := ⟨1, ![16]⟩
abbrev S1x16x1 : Shape := ⟨3, ![1, 16, 1]⟩
abbrev S2x16x40x3 : Shape := ⟨4, ![2, 16, 40, 3]⟩

abbrev nBuf : Space → Nat
  | .hbm => 906
  | .vmem => 0
  | .smem => 0
  | _ => 0

abbrev hbmTy0_0 (i : Nat) : BufTy := match i % 128 with
  | 0 => ⟨S2x2048x16x64, .f32⟩
  | 1 => ⟨S2x2048x16x64, .f32⟩
  | 2 => ⟨S2x2048x16x64, .f32⟩
  | 3 => ⟨S2x16x2048x64, .f32⟩
  | 4 => ⟨S2x16x2048x64, .f32⟩
  | 5 => ⟨S2x16x2048x64, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S1x1, .i32⟩
  | 35 => ⟨S1x1, .i32⟩
  | 36 => ⟨S1, .i32⟩
  | 37 => ⟨S_, .i32⟩
  | 38 => ⟨S1, .i32⟩
  | 39 => ⟨S_, .i32⟩
  | 40 => ⟨S2, .i64⟩
  | 41 => ⟨S_, .i64⟩
  | 42 => ⟨S2, .i64⟩
  | 43 => ⟨S2, .i64⟩
  | 44 => ⟨S_, .i64⟩
  | 45 => ⟨S2, .i64⟩
  | 46 => ⟨S2, .i64⟩
  | 47 => ⟨S2, .i32⟩
  | 48 => ⟨S2, .i32⟩
  | 49 => ⟨S_, .i32⟩
  | 50 => ⟨S_, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S2x2048x16x64, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S2x2048x16x64, .f32⟩

abbrev hbmTy0_2 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2x1, .i32⟩
  | 16 => ⟨S2x1, .i32⟩
  | 17 => ⟨S2x2, .i32⟩
  | 18 => ⟨S1x2, .i32⟩
  | 19 => ⟨S2, .i32⟩
  | 20 => ⟨S1x2, .i32⟩
  | 21 => ⟨S2, .i32⟩
  | 22 => ⟨S1, .i32⟩
  | 23 => ⟨S_, .i32⟩
  | 24 => ⟨S1, .i32⟩
  | 25 => ⟨S_, .i32⟩
  | 26 => ⟨S2048x40, .i64⟩
  | 27 => ⟨S2048x40, .i64⟩
  | 28 => ⟨S_, .i64⟩
  | 29 => ⟨S2048x40, .i64⟩
  | 30 => ⟨S2048x40, .i64⟩
  | 31 => ⟨S_, .i64⟩
  | 32 => ⟨S2048x40, .i64⟩
  | 33 => ⟨S2048x40, .i64⟩
  | 34 => ⟨S2048x40, .i64⟩
  | 35 => ⟨S_, .i64⟩
  | 36 => ⟨S2048x40, .i64⟩
  | 37 => ⟨S2048x40, .i64⟩
  | 38 => ⟨S2048x40, .i32⟩
  | 39 => ⟨S2048x40, .i32⟩
  | 40 => ⟨S_, .i32⟩
  | 41 => ⟨S_, .i32⟩
  | 42 => ⟨S_, .i32⟩
  | 43 => ⟨S2048x40, .i32⟩
  | 44 => ⟨S2048x40, .i32⟩
  | 45 => ⟨S2048x40, .i32⟩
  | 46 => ⟨S2048x40, .i32⟩
  | 47 => ⟨S2048x40, .i32⟩
  | 48 => ⟨S_, .i32⟩
  | 49 => ⟨S2048x40, .i32⟩
  | 50 => ⟨S2048x40, .i32⟩
  | 51 => ⟨S_, .i32⟩
  | 52 => ⟨S2048x40, .i32⟩
  | 53 => ⟨S2048x40, .i32⟩
  | 54 => ⟨S2048x40, .i32⟩
  | 55 => ⟨S2048x40, .i32⟩
  | 56 => ⟨S2048x40, .i32⟩
  | 57 => ⟨S_, .i32⟩
  | 58 => ⟨S2048x40, .i32⟩
  | 59 => ⟨S2048x40, .i32⟩
  | 60 => ⟨S_, .i32⟩
  | 61 => ⟨S2048x40, .i32⟩
  | 62 => ⟨S2048x40, .i32⟩
  | 63 => ⟨S2048x40, .i32⟩
  | 64 => ⟨S2048x40, .i32⟩
  | 65 => ⟨S2048x40, .i32⟩
  | 66 => ⟨S_, .i32⟩
  | 67 => ⟨S2048x40, .i32⟩
  | 68 => ⟨S2048x40, .i32⟩
  | 69 => ⟨S_, .i32⟩
  | 70 => ⟨S2048x40, .i32⟩
  | 71 => ⟨S2048x40, .i32⟩
  | 72 => ⟨S2048x40, .i32⟩
  | 73 => ⟨S2048x40, .i32⟩
  | 74 => ⟨S2048x40, .i32⟩
  | 75 => ⟨S_, .i32⟩
  | 76 => ⟨S2048x40, .i32⟩
  | 77 => ⟨S2048x40, .i32⟩
  | 78 => ⟨S_, .i32⟩
  | 79 => ⟨S2048x40, .i32⟩
  | 80 => ⟨S2048x40, .i32⟩
  | 81 => ⟨S2048x40, .i32⟩
  | 82 => ⟨S2048x40, .i32⟩
  | 83 => ⟨S2048x40, .i32⟩
  | 84 => ⟨S2048x40, .i32⟩
  | 85 => ⟨S2048x40, .i32⟩
  | 86 => ⟨S2048x40, .i32⟩
  | 87 => ⟨S_, .i32⟩
  | 88 => ⟨S2048x40, .i32⟩
  | 89 => ⟨S2048x40, .i32⟩
  | 90 => ⟨S2048x40, .i32⟩
  | 91 => ⟨S_, .i32⟩
  | 92 => ⟨S2048x40, .i32⟩
  | 93 => ⟨S2048x40, .i32⟩
  | 94 => ⟨S_, .i32⟩
  | 95 => ⟨S2048x40, .i32⟩
  | 96 => ⟨S2048x40, .i32⟩
  | 97 => ⟨S2048x40, .i32⟩
  | 98 => ⟨S2048x40, .i32⟩
  | 99 => ⟨S2048x40, .i32⟩
  | 100 => ⟨S_, .i32⟩
  | 101 => ⟨S2048x40, .i32⟩
  | 102 => ⟨S2048x40, .i32⟩
  | 103 => ⟨S_, .i32⟩
  | 104 => ⟨S2048x40, .i32⟩
  | 105 => ⟨S2048x40, .i32⟩
  | 106 => ⟨S2048x40, .i32⟩
  | 107 => ⟨S2048x40, .i32⟩
  | 108 => ⟨S2048x40, .i32⟩
  | 109 => ⟨S_, .i32⟩
  | 110 => ⟨S2048x40, .i32⟩
  | 111 => ⟨S2048x40, .i32⟩
  | 112 => ⟨S_, .i32⟩
  | 113 => ⟨S2048x40, .i32⟩
  | 114 => ⟨S2048x40, .i32⟩
  | 115 => ⟨S2048x40, .i32⟩
  | 116 => ⟨S2048x40, .i32⟩
  | 117 => ⟨S2048x40, .i32⟩
  | 118 => ⟨S_, .i32⟩
  | 119 => ⟨S2048x40, .i32⟩
  | 120 => ⟨S2048x40, .i32⟩
  | 121 => ⟨S_, .i32⟩
  | 122 => ⟨S2048x40, .i32⟩
  | 123 => ⟨S2048x40, .i32⟩
  | 124 => ⟨S2048x40, .i32⟩
  | 125 => ⟨S2048x40, .i32⟩
  | 126 => ⟨S2048x40, .i32⟩
  | 127 => ⟨S2048x40, .i32⟩
  | _ => ⟨S2x2048x16x64, .f32⟩

abbrev hbmTy0_3 (i : Nat) : BufTy := match i % 128 with
  | 0 => ⟨S2048x40, .i32⟩
  | 1 => ⟨S2048x40, .i32⟩
  | 2 => ⟨S_, .i32⟩
  | 3 => ⟨S2048x40, .i32⟩
  | 4 => ⟨S2048x40, .i32⟩
  | 5 => ⟨S2048x40, .i32⟩
  | 6 => ⟨S_, .i32⟩
  | 7 => ⟨S2048x40, .i32⟩
  | 8 => ⟨S2048x40, .i32⟩
  | 9 => ⟨S_, .i32⟩
  | 10 => ⟨S2048x40, .i32⟩
  | 11 => ⟨S2048x40, .i32⟩
  | 12 => ⟨S2048x40, .i32⟩
  | 13 => ⟨S2048x40, .i32⟩
  | 14 => ⟨S2048x40, .i32⟩
  | 15 => ⟨S_, .i32⟩
  | 16 => ⟨S2048x40, .i32⟩
  | 17 => ⟨S2048x40, .i32⟩
  | 18 => ⟨S_, .i32⟩
  | 19 => ⟨S2048x40, .i32⟩
  | 20 => ⟨S2048x40, .i32⟩
  | 21 => ⟨S2048x40, .i32⟩
  | 22 => ⟨S2048x40, .i32⟩
  | 23 => ⟨S2048x40, .i32⟩
  | 24 => ⟨S_, .i32⟩
  | 25 => ⟨S2048x40, .i32⟩
  | 26 => ⟨S2048x40, .i32⟩
  | 27 => ⟨S_, .i32⟩
  | 28 => ⟨S2048x40, .i32⟩
  | 29 => ⟨S2048x40, .i32⟩
  | 30 => ⟨S2048x40, .i32⟩
  | 31 => ⟨S2048x40, .i32⟩
  | 32 => ⟨S2048x40, .i32⟩
  | 33 => ⟨S_, .i32⟩
  | 34 => ⟨S2048x40, .i32⟩
  | 35 => ⟨S2048x40, .i32⟩
  | 36 => ⟨S_, .i32⟩
  | 37 => ⟨S2048x40, .i32⟩
  | 38 => ⟨S2048x40, .i32⟩
  | 39 => ⟨S2048x40, .i32⟩
  | 40 => ⟨S2048x40, .i32⟩
  | 41 => ⟨S2048x40, .i32⟩
  | 42 => ⟨S2048x40, .i32⟩
  | 43 => ⟨S2048x40, .i32⟩
  | 44 => ⟨S2048x40, .i32⟩
  | 45 => ⟨S_, .i32⟩
  | 46 => ⟨S2048x40, .i32⟩
  | 47 => ⟨S2048x40, .i32⟩
  | 48 => ⟨S2048x40, .i32⟩
  | 49 => ⟨S_, .i32⟩
  | 50 => ⟨S2048x40, .i32⟩
  | 51 => ⟨S2048x40, .i32⟩
  | 52 => ⟨S_, .i32⟩
  | 53 => ⟨S2048x40, .i32⟩
  | 54 => ⟨S2048x40, .i32⟩
  | 55 => ⟨S2048x40, .i32⟩
  | 56 => ⟨S2048x40, .i32⟩
  | 57 => ⟨S2048x40, .i32⟩
  | 58 => ⟨S_, .i32⟩
  | 59 => ⟨S2048x40, .i32⟩
  | 60 => ⟨S2048x40, .i32⟩
  | 61 => ⟨S_, .i32⟩
  | 62 => ⟨S2048x40, .i32⟩
  | 63 => ⟨S2048x40, .i32⟩
  | 64 => ⟨S2048x40, .i32⟩
  | 65 => ⟨S2048x40, .i32⟩
  | 66 => ⟨S2048x40, .i32⟩
  | 67 => ⟨S_, .i32⟩
  | 68 => ⟨S2048x40, .i32⟩
  | 69 => ⟨S2048x40, .i32⟩
  | 70 => ⟨S_, .i32⟩
  | 71 => ⟨S2048x40, .i32⟩
  | 72 => ⟨S2048x40, .i32⟩
  | 73 => ⟨S2048x40, .i32⟩
  | 74 => ⟨S2048x40, .i32⟩
  | 75 => ⟨S2048x40, .i32⟩
  | 76 => ⟨S_, .i32⟩
  | 77 => ⟨S2048x40, .i32⟩
  | 78 => ⟨S2048x40, .i32⟩
  | 79 => ⟨S_, .i32⟩
  | 80 => ⟨S2048x40, .i32⟩
  | 81 => ⟨S2048x40, .i32⟩
  | 82 => ⟨S2048x40, .i32⟩
  | 83 => ⟨S2048x40, .i32⟩
  | 84 => ⟨S2048x40, .i32⟩
  | 85 => ⟨S2048x40, .i32⟩
  | 86 => ⟨S2048x40, .i32⟩
  | 87 => ⟨S2048x40, .i32⟩
  | 88 => ⟨S_, .i32⟩
  | 89 => ⟨S2048x40, .i32⟩
  | 90 => ⟨S2048x40, .i32⟩
  | 91 => ⟨S2048x40, .i32⟩
  | 92 => ⟨S_, .i32⟩
  | 93 => ⟨S2048x40, .i32⟩
  | 94 => ⟨S2048x40, .i32⟩
  | 95 => ⟨S_, .i32⟩
  | 96 => ⟨S2048x40, .i32⟩
  | 97 => ⟨S2048x40, .i32⟩
  | 98 => ⟨S2048x40, .i32⟩
  | 99 => ⟨S2048x40, .i32⟩
  | 100 => ⟨S2048x40, .i32⟩
  | 101 => ⟨S_, .i32⟩
  | 102 => ⟨S2048x40, .i32⟩
  | 103 => ⟨S2048x40, .i32⟩
  | 104 => ⟨S_, .i32⟩
  | 105 => ⟨S2048x40, .i32⟩
  | 106 => ⟨S2048x40, .i32⟩
  | 107 => ⟨S2048x40, .i32⟩
  | 108 => ⟨S2048x40, .i32⟩
  | 109 => ⟨S2048x40, .i32⟩
  | 110 => ⟨S_, .i32⟩
  | 111 => ⟨S2048x40, .i32⟩
  | 112 => ⟨S2048x40, .i32⟩
  | 113 => ⟨S_, .i32⟩
  | 114 => ⟨S2048x40, .i32⟩
  | 115 => ⟨S2048x40, .i32⟩
  | 116 => ⟨S2048x40, .i32⟩
  | 117 => ⟨S2048x40, .i32⟩
  | 118 => ⟨S2048x40, .i32⟩
  | 119 => ⟨S_, .i32⟩
  | 120 => ⟨S2048x40, .i32⟩
  | 121 => ⟨S2048x40, .i32⟩
  | 122 => ⟨S_, .i32⟩
  | 123 => ⟨S2048x40, .i32⟩
  | 124 => ⟨S2048x40, .i32⟩
  | 125 => ⟨S2048x40, .i32⟩
  | 126 => ⟨S2048x40, .i32⟩
  | 127 => ⟨S2048x40, .i32⟩
  | _ => ⟨S2x2048x16x64, .f32⟩

abbrev hbmTy0_4 (i : Nat) : BufTy := match i % 128 with
  | 0 => ⟨S2048x40, .i32⟩
  | 1 => ⟨S2048x40, .i32⟩
  | 2 => ⟨S2048x40, .i32⟩
  | 3 => ⟨S_, .i32⟩
  | 4 => ⟨S2048x40, .i32⟩
  | 5 => ⟨S2048x40, .i32⟩
  | 6 => ⟨S2048x40, .i32⟩
  | 7 => ⟨S1, .i32⟩
  | 8 => ⟨S_, .i32⟩
  | 9 => ⟨S1, .i32⟩
  | 10 => ⟨S_, .i32⟩
  | 11 => ⟨S2048x40, .i64⟩
  | 12 => ⟨S2048x40, .i64⟩
  | 13 => ⟨S_, .i64⟩
  | 14 => ⟨S2048x40, .i64⟩
  | 15 => ⟨S2048x40, .i64⟩
  | 16 => ⟨S_, .i64⟩
  | 17 => ⟨S2048x40, .i64⟩
  | 18 => ⟨S2048x40, .i64⟩
  | 19 => ⟨S2048x40, .i64⟩
  | 20 => ⟨S_, .i64⟩
  | 21 => ⟨S2048x40, .i64⟩
  | 22 => ⟨S2048x40, .i64⟩
  | 23 => ⟨S2048x40, .i32⟩
  | 24 => ⟨S2048x40, .i32⟩
  | 25 => ⟨S_, .i32⟩
  | 26 => ⟨S_, .i32⟩
  | 27 => ⟨S_, .i32⟩
  | 28 => ⟨S2048x40, .i32⟩
  | 29 => ⟨S2048x40, .i32⟩
  | 30 => ⟨S2048x40, .i32⟩
  | 31 => ⟨S2048x40, .i32⟩
  | 32 => ⟨S2048x40, .i32⟩
  | 33 => ⟨S_, .i32⟩
  | 34 => ⟨S2048x40, .i32⟩
  | 35 => ⟨S2048x40, .i32⟩
  | 36 => ⟨S_, .i32⟩
  | 37 => ⟨S2048x40, .i32⟩
  | 38 => ⟨S2048x40, .i32⟩
  | 39 => ⟨S2048x40, .i32⟩
  | 40 => ⟨S2048x40, .i32⟩
  | 41 => ⟨S2048x40, .i32⟩
  | 42 => ⟨S_, .i32⟩
  | 43 => ⟨S2048x40, .i32⟩
  | 44 => ⟨S2048x40, .i32⟩
  | 45 => ⟨S_, .i32⟩
  | 46 => ⟨S2048x40, .i32⟩
  | 47 => ⟨S2048x40, .i32⟩
  | 48 => ⟨S2048x40, .i32⟩
  | 49 => ⟨S2048x40, .i32⟩
  | 50 => ⟨S2048x40, .i32⟩
  | 51 => ⟨S_, .i32⟩
  | 52 => ⟨S2048x40, .i32⟩
  | 53 => ⟨S2048x40, .i32⟩
  | 54 => ⟨S_, .i32⟩
  | 55 => ⟨S2048x40, .i32⟩
  | 56 => ⟨S2048x40, .i32⟩
  | 57 => ⟨S2048x40, .i32⟩
  | 58 => ⟨S2048x40, .i32⟩
  | 59 => ⟨S2048x40, .i32⟩
  | 60 => ⟨S_, .i32⟩
  | 61 => ⟨S2048x40, .i32⟩
  | 62 => ⟨S2048x40, .i32⟩
  | 63 => ⟨S_, .i32⟩
  | 64 => ⟨S2048x40, .i32⟩
  | 65 => ⟨S2048x40, .i32⟩
  | 66 => ⟨S2048x40, .i32⟩
  | 67 => ⟨S2048x40, .i32⟩
  | 68 => ⟨S2048x40, .i32⟩
  | 69 => ⟨S2048x40, .i32⟩
  | 70 => ⟨S2048x40, .i32⟩
  | 71 => ⟨S2048x40, .i32⟩
  | 72 => ⟨S_, .i32⟩
  | 73 => ⟨S2048x40, .i32⟩
  | 74 => ⟨S2048x40, .i32⟩
  | 75 => ⟨S2048x40, .i32⟩
  | 76 => ⟨S_, .i32⟩
  | 77 => ⟨S2048x40, .i32⟩
  | 78 => ⟨S2048x40, .i32⟩
  | 79 => ⟨S_, .i32⟩
  | 80 => ⟨S2048x40, .i32⟩
  | 81 => ⟨S2048x40, .i32⟩
  | 82 => ⟨S2048x40, .i32⟩
  | 83 => ⟨S2048x40, .i32⟩
  | 84 => ⟨S2048x40, .i32⟩
  | 85 => ⟨S_, .i32⟩
  | 86 => ⟨S2048x40, .i32⟩
  | 87 => ⟨S2048x40, .i32⟩
  | 88 => ⟨S_, .i32⟩
  | 89 => ⟨S2048x40, .i32⟩
  | 90 => ⟨S2048x40, .i32⟩
  | 91 => ⟨S2048x40, .i32⟩
  | 92 => ⟨S2048x40, .i32⟩
  | 93 => ⟨S2048x40, .i32⟩
  | 94 => ⟨S_, .i32⟩
  | 95 => ⟨S2048x40, .i32⟩
  | 96 => ⟨S2048x40, .i32⟩
  | 97 => ⟨S_, .i32⟩
  | 98 => ⟨S2048x40, .i32⟩
  | 99 => ⟨S2048x40, .i32⟩
  | 100 => ⟨S2048x40, .i32⟩
  | 101 => ⟨S2048x40, .i32⟩
  | 102 => ⟨S2048x40, .i32⟩
  | 103 => ⟨S_, .i32⟩
  | 104 => ⟨S2048x40, .i32⟩
  | 105 => ⟨S2048x40, .i32⟩
  | 106 => ⟨S_, .i32⟩
  | 107 => ⟨S2048x40, .i32⟩
  | 108 => ⟨S2048x40, .i32⟩
  | 109 => ⟨S2048x40, .i32⟩
  | 110 => ⟨S2048x40, .i32⟩
  | 111 => ⟨S2048x40, .i32⟩
  | 112 => ⟨S2048x40, .i32⟩
  | 113 => ⟨S2048x40, .i32⟩
  | 114 => ⟨S2048x40, .i32⟩
  | 115 => ⟨S_, .i32⟩
  | 116 => ⟨S2048x40, .i32⟩
  | 117 => ⟨S2048x40, .i32⟩
  | 118 => ⟨S2048x40, .i32⟩
  | 119 => ⟨S_, .i32⟩
  | 120 => ⟨S2048x40, .i32⟩
  | 121 => ⟨S2048x40, .i32⟩
  | 122 => ⟨S_, .i32⟩
  | 123 => ⟨S2048x40, .i32⟩
  | 124 => ⟨S2048x40, .i32⟩
  | 125 => ⟨S2048x40, .i32⟩
  | 126 => ⟨S2048x40, .i32⟩
  | 127 => ⟨S2048x40, .i32⟩
  | _ => ⟨S2x2048x16x64, .f32⟩

abbrev hbmTy0_5 (i : Nat) : BufTy := match i % 128 with
  | 0 => ⟨S_, .i32⟩
  | 1 => ⟨S2048x40, .i32⟩
  | 2 => ⟨S2048x40, .i32⟩
  | 3 => ⟨S_, .i32⟩
  | 4 => ⟨S2048x40, .i32⟩
  | 5 => ⟨S2048x40, .i32⟩
  | 6 => ⟨S2048x40, .i32⟩
  | 7 => ⟨S2048x40, .i32⟩
  | 8 => ⟨S2048x40, .i32⟩
  | 9 => ⟨S_, .i32⟩
  | 10 => ⟨S2048x40, .i32⟩
  | 11 => ⟨S2048x40, .i32⟩
  | 12 => ⟨S_, .i32⟩
  | 13 => ⟨S2048x40, .i32⟩
  | 14 => ⟨S2048x40, .i32⟩
  | 15 => ⟨S2048x40, .i32⟩
  | 16 => ⟨S2048x40, .i32⟩
  | 17 => ⟨S2048x40, .i32⟩
  | 18 => ⟨S_, .i32⟩
  | 19 => ⟨S2048x40, .i32⟩
  | 20 => ⟨S2048x40, .i32⟩
  | 21 => ⟨S_, .i32⟩
  | 22 => ⟨S2048x40, .i32⟩
  | 23 => ⟨S2048x40, .i32⟩
  | 24 => ⟨S2048x40, .i32⟩
  | 25 => ⟨S2048x40, .i32⟩
  | 26 => ⟨S2048x40, .i32⟩
  | 27 => ⟨S2048x40, .i32⟩
  | 28 => ⟨S2048x40, .i32⟩
  | 29 => ⟨S2048x40, .i32⟩
  | 30 => ⟨S_, .i32⟩
  | 31 => ⟨S2048x40, .i32⟩
  | 32 => ⟨S2048x40, .i32⟩
  | 33 => ⟨S2048x40, .i32⟩
  | 34 => ⟨S_, .i32⟩
  | 35 => ⟨S2048x40, .i32⟩
  | 36 => ⟨S2048x40, .i32⟩
  | 37 => ⟨S_, .i32⟩
  | 38 => ⟨S2048x40, .i32⟩
  | 39 => ⟨S2048x40, .i32⟩
  | 40 => ⟨S2048x40, .i32⟩
  | 41 => ⟨S2048x40, .i32⟩
  | 42 => ⟨S2048x40, .i32⟩
  | 43 => ⟨S_, .i32⟩
  | 44 => ⟨S2048x40, .i32⟩
  | 45 => ⟨S2048x40, .i32⟩
  | 46 => ⟨S_, .i32⟩
  | 47 => ⟨S2048x40, .i32⟩
  | 48 => ⟨S2048x40, .i32⟩
  | 49 => ⟨S2048x40, .i32⟩
  | 50 => ⟨S2048x40, .i32⟩
  | 51 => ⟨S2048x40, .i32⟩
  | 52 => ⟨S_, .i32⟩
  | 53 => ⟨S2048x40, .i32⟩
  | 54 => ⟨S2048x40, .i32⟩
  | 55 => ⟨S_, .i32⟩
  | 56 => ⟨S2048x40, .i32⟩
  | 57 => ⟨S2048x40, .i32⟩
  | 58 => ⟨S2048x40, .i32⟩
  | 59 => ⟨S2048x40, .i32⟩
  | 60 => ⟨S2048x40, .i32⟩
  | 61 => ⟨S_, .i32⟩
  | 62 => ⟨S2048x40, .i32⟩
  | 63 => ⟨S2048x40, .i32⟩
  | 64 => ⟨S_, .i32⟩
  | 65 => ⟨S2048x40, .i32⟩
  | 66 => ⟨S2048x40, .i32⟩
  | 67 => ⟨S2048x40, .i32⟩
  | 68 => ⟨S2048x40, .i32⟩
  | 69 => ⟨S2048x40, .i32⟩
  | 70 => ⟨S2048x40, .i32⟩
  | 71 => ⟨S2048x40, .i32⟩
  | 72 => ⟨S2048x40, .i32⟩
  | 73 => ⟨S_, .i32⟩
  | 74 => ⟨S2048x40, .i32⟩
  | 75 => ⟨S2048x40, .i32⟩
  | 76 => ⟨S2048x40, .i32⟩
  | 77 => ⟨S_, .i32⟩
  | 78 => ⟨S2048x40, .i32⟩
  | 79 => ⟨S2048x40, .i32⟩
  | 80 => ⟨S_, .i32⟩
  | 81 => ⟨S2048x40, .i32⟩
  | 82 => ⟨S2048x40, .i32⟩
  | 83 => ⟨S2048x40, .i32⟩
  | 84 => ⟨S2048x40, .i32⟩
  | 85 => ⟨S2048x40, .i32⟩
  | 86 => ⟨S_, .i32⟩
  | 87 => ⟨S2048x40, .i32⟩
  | 88 => ⟨S2048x40, .i32⟩
  | 89 => ⟨S_, .i32⟩
  | 90 => ⟨S2048x40, .i32⟩
  | 91 => ⟨S2048x40, .i32⟩
  | 92 => ⟨S2048x40, .i32⟩
  | 93 => ⟨S2048x40, .i32⟩
  | 94 => ⟨S2048x40, .i32⟩
  | 95 => ⟨S_, .i32⟩
  | 96 => ⟨S2048x40, .i32⟩
  | 97 => ⟨S2048x40, .i32⟩
  | 98 => ⟨S_, .i32⟩
  | 99 => ⟨S2048x40, .i32⟩
  | 100 => ⟨S2048x40, .i32⟩
  | 101 => ⟨S2048x40, .i32⟩
  | 102 => ⟨S2048x40, .i32⟩
  | 103 => ⟨S2048x40, .i32⟩
  | 104 => ⟨S_, .i32⟩
  | 105 => ⟨S2048x40, .i32⟩
  | 106 => ⟨S2048x40, .i32⟩
  | 107 => ⟨S_, .i32⟩
  | 108 => ⟨S2048x40, .i32⟩
  | 109 => ⟨S2048x40, .i32⟩
  | 110 => ⟨S2048x40, .i32⟩
  | 111 => ⟨S2048x40, .i32⟩
  | 112 => ⟨S2048x40, .i32⟩
  | 113 => ⟨S2048x40, .i32⟩
  | 114 => ⟨S2048x40, .i32⟩
  | 115 => ⟨S2048x40, .i32⟩
  | 116 => ⟨S_, .i32⟩
  | 117 => ⟨S2048x40, .i32⟩
  | 118 => ⟨S2048x40, .i32⟩
  | 119 => ⟨S2048x40, .i32⟩
  | 120 => ⟨S1x1, .i32⟩
  | 121 => ⟨S1x1, .i32⟩
  | 122 => ⟨S1x1, .i1⟩
  | 123 => ⟨S_, .i32⟩
  | 124 => ⟨S1x1, .i32⟩
  | 125 => ⟨S1x1, .i32⟩
  | 126 => ⟨S1x1, .i1⟩
  | 127 => ⟨S1x1, .i1⟩
  | _ => ⟨S2x2048x16x64, .f32⟩

abbrev hbmTy0_6 (i : Nat) : BufTy := match i % 128 with
  | 0 => ⟨S1x1, .i1⟩
  | 1 => ⟨S_, .i32⟩
  | 2 => ⟨S1x1, .i32⟩
  | 3 => ⟨S1x1, .i32⟩
  | 4 => ⟨S1x1, .i32⟩
  | 5 => ⟨S_, .i32⟩
  | 6 => ⟨S1x1, .i32⟩
  | 7 => ⟨S1x1, .i32⟩
  | 8 => ⟨S1x1, .i32⟩
  | 9 => ⟨S1x1, .i32⟩
  | 10 => ⟨S2048x40, .i32⟩
  | 11 => ⟨S2048x40, .i32⟩
  | 12 => ⟨S2048x40, .i32⟩
  | 13 => ⟨S2048x40, .i32⟩
  | 14 => ⟨S2048x40, .i32⟩
  | 15 => ⟨S2048x40, .i32⟩
  | 16 => ⟨S2048x40, .i32⟩
  | 17 => ⟨S2048x40, .i32⟩
  | 18 => ⟨S2048x40, .i32⟩
  | 19 => ⟨S2048x40, .i32⟩
  | 20 => ⟨S2048x40, .i32⟩
  | 21 => ⟨S2048x40, .i32⟩
  | 22 => ⟨S_, .i32⟩
  | 23 => ⟨S2048x40, .i32⟩
  | 24 => ⟨S2048x40, .i1⟩
  | 25 => ⟨S_, .i32⟩
  | 26 => ⟨S2048x40, .i32⟩
  | 27 => ⟨S2048x40, .i32⟩
  | 28 => ⟨S2048x40, .i32⟩
  | 29 => ⟨S2048x40x1, .i32⟩
  | 30 => ⟨S2x16x2048x40x64, .f32⟩
  | 31 => ⟨S2x16x2048x40, .f32⟩
  | 32 => ⟨S_, .f32⟩
  | 33 => ⟨S2x16x2048, .f32⟩
  | 34 => ⟨S_, .f32⟩
  | 35 => ⟨S2x16x2048, .f32⟩
  | 36 => ⟨S_, .f32⟩
  | 37 => ⟨S2x16x2048, .f32⟩
  | 38 => ⟨S2x16x2048, .f32⟩
  | 39 => ⟨S2x16x2048, .f32⟩
  | 40 => ⟨S2x16x40, .f32⟩
  | 41 => ⟨S2x16x40, .i32⟩
  | 42 => ⟨S2x16x40x1, .i32⟩
  | 43 => ⟨S_, .i32⟩
  | 44 => ⟨S2x16x40x1, .i32⟩
  | 45 => ⟨S2x16x40x1, .i1⟩
  | 46 => ⟨S_, .i32⟩
  | 47 => ⟨S2x16x40x1, .i32⟩
  | 48 => ⟨S2x16x40x1, .i32⟩
  | 49 => ⟨S2x16x40x1, .i32⟩
  | 50 => ⟨S1, .i32⟩
  | 51 => ⟨S_, .i32⟩
  | 52 => ⟨S2x16x40x1, .i32⟩
  | 53 => ⟨S2x16x40x1, .i1⟩
  | 54 => ⟨S1x1x1x1, .i32⟩
  | 55 => ⟨S2x16x40x1, .i32⟩
  | 56 => ⟨S2x16x40x1, .i1⟩
  | 57 => ⟨S2x16x40x1, .i1⟩
  | 58 => ⟨S_, .i1⟩
  | 59 => ⟨S2x16x40, .i1⟩
  | 60 => ⟨S2x16x40x64, .f32⟩
  | 61 => ⟨S2x16x40x64, .i1⟩
  | 62 => ⟨S_, .f32⟩
  | 63 => ⟨S2x16x40x64, .f32⟩
  | 64 => ⟨S2x16x40x64, .f32⟩
  | 65 => ⟨S2x16x40x2048, .f32⟩
  | 66 => ⟨S_, .f32⟩
  | 67 => ⟨S2x16x40x2048, .f32⟩
  | 68 => ⟨S2x16x40x2048, .f32⟩
  | 69 => ⟨S_, .f32⟩
  | 70 => ⟨S_, .f32⟩
  | 71 => ⟨S2x16x2048x64, .f32⟩
  | 72 => ⟨S_, .i1⟩
  | 73 => ⟨S2048x2048, .i1⟩
  | 74 => ⟨S2048x2048, .i32⟩
  | 75 => ⟨S_, .i32⟩
  | 76 => ⟨S2048x2048, .i32⟩
  | 77 => ⟨S2048x2048, .i32⟩
  | 78 => ⟨S2048x2048, .i32⟩
  | 79 => ⟨S2048x2048, .i1⟩
  | 80 => ⟨S_, .i1⟩
  | 81 => ⟨S2048x2048, .i1⟩
  | 82 => ⟨S2048x2048, .i1⟩
  | 83 => ⟨S40x2048, .i1⟩
  | 84 => ⟨S1x1x40x2048, .i1⟩
  | 85 => ⟨S_, .f32⟩
  | 86 => ⟨S_, .f32⟩
  | 87 => ⟨S2x16x40x2048, .i1⟩
  | 88 => ⟨S2x16x40x2048, .f32⟩
  | 89 => ⟨S2x16x40x2048, .f32⟩
  | 90 => ⟨S_, .f32⟩
  | 91 => ⟨S2x16x40, .f32⟩
  | 92 => ⟨S_, .f32⟩
  | 93 => ⟨S2x16x40, .f32⟩
  | 94 => ⟨S2x16x40, .f32⟩
  | 95 => ⟨S2x16x40x1, .f32⟩
  | 96 => ⟨S2x16x40x2048, .f32⟩
  | 97 => ⟨S2x16x40x2048, .f32⟩
  | 98 => ⟨S2x16x40x2048, .f32⟩
  | 99 => ⟨S_, .f32⟩
  | 100 => ⟨S2x16x40, .f32⟩
  | 101 => ⟨S2x16x40x1, .f32⟩
  | 102 => ⟨S2x16x40x2048, .f32⟩
  | 103 => ⟨S2x16x40x2048, .f32⟩
  | 104 => ⟨S2x16x40x64, .f32⟩
  | 105 => ⟨S2, .i32⟩
  | 106 => ⟨S2x1x1, .i32⟩
  | 107 => ⟨S16, .i32⟩
  | 108 => ⟨S1x16x1, .i32⟩
  | 109 => ⟨S_, .i32⟩
  | 110 => ⟨S2x1x1, .i32⟩
  | 111 => ⟨S2x1x1, .i1⟩
  | 112 => ⟨S_, .i32⟩
  | 113 => ⟨S2x1x1, .i32⟩
  | 114 => ⟨S2x1x1, .i32⟩
  | 115 => ⟨S2x1x1, .i32⟩
  | 116 => ⟨S_, .i32⟩
  | 117 => ⟨S1x16x1, .i32⟩
  | 118 => ⟨S1x16x1, .i1⟩
  | 119 => ⟨S_, .i32⟩
  | 120 => ⟨S1x16x1, .i32⟩
  | 121 => ⟨S1x16x1, .i32⟩
  | 122 => ⟨S1x16x1, .i32⟩
  | 123 => ⟨S_, .i32⟩
  | 124 => ⟨S2x16x40, .i32⟩
  | 125 => ⟨S2x16x40, .i1⟩
  | 126 => ⟨S_, .i32⟩
  | 127 => ⟨S2x16x40, .i32⟩
  | _ => ⟨S2x2048x16x64, .f32⟩

abbrev hbmTy0_7 (i : Nat) : BufTy := match i % 128 with
  | 0 => ⟨S2x16x40, .i32⟩
  | 1 => ⟨S2x16x40, .i32⟩
  | 2 => ⟨S2x16x40, .i32⟩
  | 3 => ⟨S2x16x40, .i32⟩
  | 4 => ⟨S2x16x40x1, .i32⟩
  | 5 => ⟨S2x16x40x1, .i32⟩
  | 6 => ⟨S2x16x40x1, .i32⟩
  | 7 => ⟨S2x16x40x3, .i32⟩
  | 8 => ⟨S2x16x2048x64, .f32⟩
  | 9 => ⟨S2x2048x16x64, .f32⟩
  | _ => ⟨S2x2048x16x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2048x16x64, .f32⟩

abbrev bufTy : (tb : Table) → Fin (tcTables nBuf tb) → BufTy
  | .hbm, ⟨i, _⟩ => hbmTy i
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_c_3 : Ref sig .tc := ⟨.hbm, 17, rfl⟩
abbrev main_call0_c : Ref sig .tc := ⟨.hbm, 18, rfl⟩
abbrev main_call0_c_0 : Ref sig .tc := ⟨.hbm, 19, rfl⟩
abbrev main_call0_c_1 : Ref sig .tc := ⟨.hbm, 20, rfl⟩
abbrev main_call0_call0_v0 : Ref sig .tc := ⟨.hbm, 21, rfl⟩
abbrev main_call0_v0 : Ref sig .tc := ⟨.hbm, 22, rfl⟩
abbrev main_call0_v1 : Ref sig .tc := ⟨.hbm, 23, rfl⟩
abbrev main_call0_c_2 : Ref sig .tc := ⟨.hbm, 24, rfl⟩
abbrev main_call0_c_3 : Ref sig .tc := ⟨.hbm, 25, rfl⟩
abbrev main_call0_call1_v0 : Ref sig .tc := ⟨.hbm, 26, rfl⟩
abbrev main_call0_v2 : Ref sig .tc := ⟨.hbm, 27, rfl⟩
abbrev main_call0_v3 : Ref sig .tc := ⟨.hbm, 28, rfl⟩
abbrev main_call0_c_4 : Ref sig .tc := ⟨.hbm, 29, rfl⟩
abbrev main_call0_c_5 : Ref sig .tc := ⟨.hbm, 30, rfl⟩
abbrev main_call0_call2_v0 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_call3_v0 : Ref sig .tc := ⟨.hbm, 36, rfl⟩
abbrev main_call0_call3_v1 : Ref sig .tc := ⟨.hbm, 37, rfl⟩
abbrev main_call0_call3_v2 : Ref sig .tc := ⟨.hbm, 38, rfl⟩
abbrev main_call0_call3_v3 : Ref sig .tc := ⟨.hbm, 39, rfl⟩
abbrev main_call0_call3_v4 : Ref sig .tc := ⟨.hbm, 40, rfl⟩
abbrev main_call0_call3_c : Ref sig .tc := ⟨.hbm, 41, rfl⟩
abbrev main_call0_call3_v5 : Ref sig .tc := ⟨.hbm, 42, rfl⟩
abbrev main_call0_call3_v6 : Ref sig .tc := ⟨.hbm, 43, rfl⟩
abbrev main_call0_call3_c_0 : Ref sig .tc := ⟨.hbm, 44, rfl⟩
abbrev main_call0_call3_v7 : Ref sig .tc := ⟨.hbm, 45, rfl⟩
abbrev main_call0_call3_v8 : Ref sig .tc := ⟨.hbm, 46, rfl⟩
abbrev main_call0_call3_v9 : Ref sig .tc := ⟨.hbm, 47, rfl⟩
abbrev main_call0_call3_v10 : Ref sig .tc := ⟨.hbm, 48, rfl⟩
abbrev main_call0_call3_call0_v0 : Ref sig .tc := ⟨.hbm, 49, rfl⟩
abbrev main_call0_call3_call0_c : Ref sig .tc := ⟨.hbm, 50, rfl⟩
abbrev main_call0_call3_call0_v1 : Ref sig .tc := ⟨.hbm, 51, rfl⟩
abbrev main_call0_call3_call0_v2 : Ref sig .tc := ⟨.hbm, 52, rfl⟩
abbrev main_call0_call3_call0_v3 : Ref sig .tc := ⟨.hbm, 53, rfl⟩
abbrev main_call0_call3_call0_v4 : Ref sig .tc := ⟨.hbm, 54, rfl⟩
abbrev main_call0_call3_call0_v5 : Ref sig .tc := ⟨.hbm, 55, rfl⟩
abbrev main_call0_call3_call0_v6 : Ref sig .tc := ⟨.hbm, 56, rfl⟩
abbrev main_call0_call3_call0_c_0 : Ref sig .tc := ⟨.hbm, 57, rfl⟩
abbrev main_call0_call3_call0_v7 : Ref sig .tc := ⟨.hbm, 58, rfl⟩
abbrev main_call0_call3_call0_v8 : Ref sig .tc := ⟨.hbm, 59, rfl⟩
abbrev main_call0_call3_call0_c_1 : Ref sig .tc := ⟨.hbm, 60, rfl⟩
abbrev main_call0_call3_call0_v9 : Ref sig .tc := ⟨.hbm, 61, rfl⟩
abbrev main_call0_call3_call0_v10 : Ref sig .tc := ⟨.hbm, 62, rfl⟩
abbrev main_call0_call3_call0_v11 : Ref sig .tc := ⟨.hbm, 63, rfl⟩
abbrev main_call0_call3_call0_v12 : Ref sig .tc := ⟨.hbm, 64, rfl⟩
abbrev main_call0_call3_call0_v13 : Ref sig .tc := ⟨.hbm, 65, rfl⟩
abbrev main_call0_call3_call0_c_2 : Ref sig .tc := ⟨.hbm, 66, rfl⟩
abbrev main_call0_call3_call0_v14 : Ref sig .tc := ⟨.hbm, 67, rfl⟩
abbrev main_call0_call3_call0_v15 : Ref sig .tc := ⟨.hbm, 68, rfl⟩
abbrev main_call0_call3_call0_c_3 : Ref sig .tc := ⟨.hbm, 69, rfl⟩
abbrev main_call0_call3_call0_v16 : Ref sig .tc := ⟨.hbm, 70, rfl⟩
abbrev main_call0_call3_call0_v17 : Ref sig .tc := ⟨.hbm, 71, rfl⟩
abbrev main_call0_call3_call0_v18 : Ref sig .tc := ⟨.hbm, 72, rfl⟩
abbrev main_call0_call3_call0_v19 : Ref sig .tc := ⟨.hbm, 73, rfl⟩
abbrev main_call0_call3_call0_v20 : Ref sig .tc := ⟨.hbm, 74, rfl⟩
abbrev main_call0_call3_call0_c_4 : Ref sig .tc := ⟨.hbm, 75, rfl⟩
abbrev main_call0_call3_call0_v21 : Ref sig .tc := ⟨.hbm, 76, rfl⟩
abbrev main_call0_call3_call0_v22 : Ref sig .tc := ⟨.hbm, 77, rfl⟩
abbrev main_call0_call3_call0_c_5 : Ref sig .tc := ⟨.hbm, 78, rfl⟩
abbrev main_call0_call3_call0_v23 : Ref sig .tc := ⟨.hbm, 79, rfl⟩
abbrev main_call0_call3_call0_v24 : Ref sig .tc := ⟨.hbm, 80, rfl⟩
abbrev main_call0_call3_call0_v25 : Ref sig .tc := ⟨.hbm, 81, rfl⟩
abbrev main_call0_call3_call0_v26 : Ref sig .tc := ⟨.hbm, 82, rfl⟩
abbrev main_call0_call3_call0_v27 : Ref sig .tc := ⟨.hbm, 83, rfl⟩
abbrev main_call0_call3_call0_c_6 : Ref sig .tc := ⟨.hbm, 84, rfl⟩
abbrev main_call0_call3_call0_v28 : Ref sig .tc := ⟨.hbm, 85, rfl⟩
abbrev main_call0_call3_call0_v29 : Ref sig .tc := ⟨.hbm, 86, rfl⟩
abbrev main_call0_call3_call0_c_7 : Ref sig .tc := ⟨.hbm, 87, rfl⟩
abbrev main_call0_call3_call0_v30 : Ref sig .tc := ⟨.hbm, 88, rfl⟩
abbrev main_call0_call3_call0_v31 : Ref sig .tc := ⟨.hbm, 89, rfl⟩
abbrev main_call0_call3_call0_v32 : Ref sig .tc := ⟨.hbm, 90, rfl⟩
abbrev main_call0_call3_call0_v33 : Ref sig .tc := ⟨.hbm, 91, rfl⟩
abbrev main_call0_call3_call0_v34 : Ref sig .tc := ⟨.hbm, 92, rfl⟩
abbrev main_call0_call3_call0_v35 : Ref sig .tc := ⟨.hbm, 93, rfl⟩
abbrev main_call0_call3_call0_v36 : Ref sig .tc := ⟨.hbm, 94, rfl⟩
abbrev main_call0_call3_call0_v37 : Ref sig .tc := ⟨.hbm, 95, rfl⟩
abbrev main_call0_call3_call0_c_8 : Ref sig .tc := ⟨.hbm, 96, rfl⟩
abbrev main_call0_call3_call0_v38 : Ref sig .tc := ⟨.hbm, 97, rfl⟩
abbrev main_call0_call3_call0_v39 : Ref sig .tc := ⟨.hbm, 98, rfl⟩
abbrev main_call0_call3_call0_v40 : Ref sig .tc := ⟨.hbm, 99, rfl⟩
abbrev main_call0_call3_call0_c_9 : Ref sig .tc := ⟨.hbm, 100, rfl⟩
abbrev main_call0_call3_call0_v41 : Ref sig .tc := ⟨.hbm, 101, rfl⟩
abbrev main_call0_call3_call0_v42 : Ref sig .tc := ⟨.hbm, 102, rfl⟩
abbrev main_call0_call3_call0_c_10 : Ref sig .tc := ⟨.hbm, 103, rfl⟩
abbrev main_call0_call3_call0_v43 : Ref sig .tc := ⟨.hbm, 104, rfl⟩
abbrev main_call0_call3_call0_v44 : Ref sig .tc := ⟨.hbm, 105, rfl⟩
abbrev main_call0_call3_call0_v45 : Ref sig .tc := ⟨.hbm, 106, rfl⟩
abbrev main_call0_call3_call0_v46 : Ref sig .tc := ⟨.hbm, 107, rfl⟩
abbrev main_call0_call3_call0_v47 : Ref sig .tc := ⟨.hbm, 108, rfl⟩
abbrev main_call0_call3_call0_c_11 : Ref sig .tc := ⟨.hbm, 109, rfl⟩
abbrev main_call0_call3_call0_v48 : Ref sig .tc := ⟨.hbm, 110, rfl⟩
abbrev main_call0_call3_call0_v49 : Ref sig .tc := ⟨.hbm, 111, rfl⟩
abbrev main_call0_call3_call0_c_12 : Ref sig .tc := ⟨.hbm, 112, rfl⟩
abbrev main_call0_call3_call0_v50 : Ref sig .tc := ⟨.hbm, 113, rfl⟩
abbrev main_call0_call3_call0_v51 : Ref sig .tc := ⟨.hbm, 114, rfl⟩
abbrev main_call0_call3_call0_v52 : Ref sig .tc := ⟨.hbm, 115, rfl⟩
abbrev main_call0_call3_call0_v53 : Ref sig .tc := ⟨.hbm, 116, rfl⟩
abbrev main_call0_call3_call0_v54 : Ref sig .tc := ⟨.hbm, 117, rfl⟩
abbrev main_call0_call3_call0_c_13 : Ref sig .tc := ⟨.hbm, 118, rfl⟩
abbrev main_call0_call3_call0_v55 : Ref sig .tc := ⟨.hbm, 119, rfl⟩
abbrev main_call0_call3_call0_v56 : Ref sig .tc := ⟨.hbm, 120, rfl⟩
abbrev main_call0_call3_call0_c_14 : Ref sig .tc := ⟨.hbm, 121, rfl⟩
abbrev main_call0_call3_call0_v57 : Ref sig .tc := ⟨.hbm, 122, rfl⟩
abbrev main_call0_call3_call0_v58 : Ref sig .tc := ⟨.hbm, 123, rfl⟩
abbrev main_call0_call3_call0_v59 : Ref sig .tc := ⟨.hbm, 124, rfl⟩
abbrev main_call0_call3_call0_v60 : Ref sig .tc := ⟨.hbm, 125, rfl⟩
abbrev main_call0_call3_call0_v61 : Ref sig .tc := ⟨.hbm, 126, rfl⟩
abbrev main_call0_call3_call0_c_15 : Ref sig .tc := ⟨.hbm, 127, rfl⟩
abbrev main_call0_call3_call0_v62 : Ref sig .tc := ⟨.hbm, 128, rfl⟩
abbrev main_call0_call3_call0_v63 : Ref sig .tc := ⟨.hbm, 129, rfl⟩
abbrev main_call0_call3_call0_c_16 : Ref sig .tc := ⟨.hbm, 130, rfl⟩
abbrev main_call0_call3_call0_v64 : Ref sig .tc := ⟨.hbm, 131, rfl⟩
abbrev main_call0_call3_call0_v65 : Ref sig .tc := ⟨.hbm, 132, rfl⟩
abbrev main_call0_call3_call0_v66 : Ref sig .tc := ⟨.hbm, 133, rfl⟩
abbrev main_call0_call3_call0_v67 : Ref sig .tc := ⟨.hbm, 134, rfl⟩
abbrev main_call0_call3_call0_v68 : Ref sig .tc := ⟨.hbm, 135, rfl⟩
abbrev main_call0_call3_call0_v69 : Ref sig .tc := ⟨.hbm, 136, rfl⟩
abbrev main_call0_call3_call0_v70 : Ref sig .tc := ⟨.hbm, 137, rfl⟩
abbrev main_call0_call3_call0_v71 : Ref sig .tc := ⟨.hbm, 138, rfl⟩
abbrev main_call0_call3_call0_c_17 : Ref sig .tc := ⟨.hbm, 139, rfl⟩
abbrev main_call0_call3_call0_v72 : Ref sig .tc := ⟨.hbm, 140, rfl⟩
abbrev main_call0_call3_call0_v73 : Ref sig .tc := ⟨.hbm, 141, rfl⟩
abbrev main_call0_call3_call0_v74 : Ref sig .tc := ⟨.hbm, 142, rfl⟩
abbrev main_call0_call3_call0_c_18 : Ref sig .tc := ⟨.hbm, 143, rfl⟩
abbrev main_call0_call3_call0_v75 : Ref sig .tc := ⟨.hbm, 144, rfl⟩
abbrev main_call0_call3_call0_v76 : Ref sig .tc := ⟨.hbm, 145, rfl⟩
abbrev main_call0_call3_call0_c_19 : Ref sig .tc := ⟨.hbm, 146, rfl⟩
abbrev main_call0_call3_call0_v77 : Ref sig .tc := ⟨.hbm, 147, rfl⟩
abbrev main_call0_call3_call0_v78 : Ref sig .tc := ⟨.hbm, 148, rfl⟩
abbrev main_call0_call3_call0_v79 : Ref sig .tc := ⟨.hbm, 149, rfl⟩
abbrev main_call0_call3_call0_v80 : Ref sig .tc := ⟨.hbm, 150, rfl⟩
abbrev main_call0_call3_call0_v81 : Ref sig .tc := ⟨.hbm, 151, rfl⟩
abbrev main_call0_call3_call0_c_20 : Ref sig .tc := ⟨.hbm, 152, rfl⟩
abbrev main_call0_call3_call0_v82 : Ref sig .tc := ⟨.hbm, 153, rfl⟩
abbrev main_call0_call3_call0_v83 : Ref sig .tc := ⟨.hbm, 154, rfl⟩
abbrev main_call0_call3_call0_c_21 : Ref sig .tc := ⟨.hbm, 155, rfl⟩
abbrev main_call0_call3_call0_v84 : Ref sig .tc := ⟨.hbm, 156, rfl⟩
abbrev main_call0_call3_call0_v85 : Ref sig .tc := ⟨.hbm, 157, rfl⟩
abbrev main_call0_call3_call0_v86 : Ref sig .tc := ⟨.hbm, 158, rfl⟩
abbrev main_call0_call3_call0_v87 : Ref sig .tc := ⟨.hbm, 159, rfl⟩
abbrev main_call0_call3_call0_v88 : Ref sig .tc := ⟨.hbm, 160, rfl⟩
abbrev main_call0_call3_call0_c_22 : Ref sig .tc := ⟨.hbm, 161, rfl⟩
abbrev main_call0_call3_call0_v89 : Ref sig .tc := ⟨.hbm, 162, rfl⟩
abbrev main_call0_call3_call0_v90 : Ref sig .tc := ⟨.hbm, 163, rfl⟩
abbrev main_call0_call3_call0_c_23 : Ref sig .tc := ⟨.hbm, 164, rfl⟩
abbrev main_call0_call3_call0_v91 : Ref sig .tc := ⟨.hbm, 165, rfl⟩
abbrev main_call0_call3_call0_v92 : Ref sig .tc := ⟨.hbm, 166, rfl⟩
abbrev main_call0_call3_call0_v93 : Ref sig .tc := ⟨.hbm, 167, rfl⟩
abbrev main_call0_call3_call0_v94 : Ref sig .tc := ⟨.hbm, 168, rfl⟩
abbrev main_call0_call3_call0_v95 : Ref sig .tc := ⟨.hbm, 169, rfl⟩
abbrev main_call0_call3_call0_c_24 : Ref sig .tc := ⟨.hbm, 170, rfl⟩
abbrev main_call0_call3_call0_v96 : Ref sig .tc := ⟨.hbm, 171, rfl⟩
abbrev main_call0_call3_call0_v97 : Ref sig .tc := ⟨.hbm, 172, rfl⟩
abbrev main_call0_call3_call0_c_25 : Ref sig .tc := ⟨.hbm, 173, rfl⟩
abbrev main_call0_call3_call0_v98 : Ref sig .tc := ⟨.hbm, 174, rfl⟩
abbrev main_call0_call3_call0_v99 : Ref sig .tc := ⟨.hbm, 175, rfl⟩
abbrev main_call0_call3_call0_v100 : Ref sig .tc := ⟨.hbm, 176, rfl⟩
abbrev main_call0_call3_call0_v101 : Ref sig .tc := ⟨.hbm, 177, rfl⟩
abbrev main_call0_call3_call0_v102 : Ref sig .tc := ⟨.hbm, 178, rfl⟩
abbrev main_call0_call3_call0_v103 : Ref sig .tc := ⟨.hbm, 179, rfl⟩
abbrev main_call0_call3_call0_v104 : Ref sig .tc := ⟨.hbm, 180, rfl⟩
abbrev main_call0_call3_call0_v105 : Ref sig .tc := ⟨.hbm, 181, rfl⟩
abbrev main_call0_call3_call0_c_26 : Ref sig .tc := ⟨.hbm, 182, rfl⟩
abbrev main_call0_call3_call0_v106 : Ref sig .tc := ⟨.hbm, 183, rfl⟩
abbrev main_call0_call3_call0_v107 : Ref sig .tc := ⟨.hbm, 184, rfl⟩
abbrev main_call0_call3_call0_v108 : Ref sig .tc := ⟨.hbm, 185, rfl⟩
abbrev main_call0_call3_call0_c_27 : Ref sig .tc := ⟨.hbm, 186, rfl⟩
abbrev main_call0_call3_call0_v109 : Ref sig .tc := ⟨.hbm, 187, rfl⟩
abbrev main_call0_call3_call0_v110 : Ref sig .tc := ⟨.hbm, 188, rfl⟩
abbrev main_call0_call3_call0_c_28 : Ref sig .tc := ⟨.hbm, 189, rfl⟩
abbrev main_call0_call3_call0_v111 : Ref sig .tc := ⟨.hbm, 190, rfl⟩
abbrev main_call0_call3_call0_v112 : Ref sig .tc := ⟨.hbm, 191, rfl⟩
abbrev main_call0_call3_call0_v113 : Ref sig .tc := ⟨.hbm, 192, rfl⟩
abbrev main_call0_call3_call0_v114 : Ref sig .tc := ⟨.hbm, 193, rfl⟩
abbrev main_call0_call3_call0_v115 : Ref sig .tc := ⟨.hbm, 194, rfl⟩
abbrev main_call0_call3_call0_c_29 : Ref sig .tc := ⟨.hbm, 195, rfl⟩
abbrev main_call0_call3_call0_v116 : Ref sig .tc := ⟨.hbm, 196, rfl⟩
abbrev main_call0_call3_call0_v117 : Ref sig .tc := ⟨.hbm, 197, rfl⟩
abbrev main_call0_call3_call0_c_30 : Ref sig .tc := ⟨.hbm, 198, rfl⟩
abbrev main_call0_call3_call0_v118 : Ref sig .tc := ⟨.hbm, 199, rfl⟩
abbrev main_call0_call3_call0_v119 : Ref sig .tc := ⟨.hbm, 200, rfl⟩
abbrev main_call0_call3_call0_v120 : Ref sig .tc := ⟨.hbm, 201, rfl⟩
abbrev main_call0_call3_call0_v121 : Ref sig .tc := ⟨.hbm, 202, rfl⟩
abbrev main_call0_call3_call0_v122 : Ref sig .tc := ⟨.hbm, 203, rfl⟩
abbrev main_call0_call3_call0_c_31 : Ref sig .tc := ⟨.hbm, 204, rfl⟩
abbrev main_call0_call3_call0_v123 : Ref sig .tc := ⟨.hbm, 205, rfl⟩
abbrev main_call0_call3_call0_v124 : Ref sig .tc := ⟨.hbm, 206, rfl⟩
abbrev main_call0_call3_call0_c_32 : Ref sig .tc := ⟨.hbm, 207, rfl⟩
abbrev main_call0_call3_call0_v125 : Ref sig .tc := ⟨.hbm, 208, rfl⟩
abbrev main_call0_call3_call0_v126 : Ref sig .tc := ⟨.hbm, 209, rfl⟩
abbrev main_call0_call3_call0_v127 : Ref sig .tc := ⟨.hbm, 210, rfl⟩
abbrev main_call0_call3_call0_v128 : Ref sig .tc := ⟨.hbm, 211, rfl⟩
abbrev main_call0_call3_call0_v129 : Ref sig .tc := ⟨.hbm, 212, rfl⟩
abbrev main_call0_call3_call0_c_33 : Ref sig .tc := ⟨.hbm, 213, rfl⟩
abbrev main_call0_call3_call0_v130 : Ref sig .tc := ⟨.hbm, 214, rfl⟩
abbrev main_call0_call3_call0_v131 : Ref sig .tc := ⟨.hbm, 215, rfl⟩
abbrev main_call0_call3_call0_c_34 : Ref sig .tc := ⟨.hbm, 216, rfl⟩
abbrev main_call0_call3_call0_v132 : Ref sig .tc := ⟨.hbm, 217, rfl⟩
abbrev main_call0_call3_call0_v133 : Ref sig .tc := ⟨.hbm, 218, rfl⟩
abbrev main_call0_call3_call0_v134 : Ref sig .tc := ⟨.hbm, 219, rfl⟩
abbrev main_call0_call3_call0_v135 : Ref sig .tc := ⟨.hbm, 220, rfl⟩
abbrev main_call0_call3_call0_v136 : Ref sig .tc := ⟨.hbm, 221, rfl⟩
abbrev main_call0_call3_call0_v137 : Ref sig .tc := ⟨.hbm, 222, rfl⟩
abbrev main_call0_call3_call0_v138 : Ref sig .tc := ⟨.hbm, 223, rfl⟩
abbrev main_call0_call3_call0_v139 : Ref sig .tc := ⟨.hbm, 224, rfl⟩
abbrev main_call0_call3_call0_c_35 : Ref sig .tc := ⟨.hbm, 225, rfl⟩
abbrev main_call0_call3_call0_v140 : Ref sig .tc := ⟨.hbm, 226, rfl⟩
abbrev main_call0_call3_call0_v141 : Ref sig .tc := ⟨.hbm, 227, rfl⟩
abbrev main_call0_call3_call0_v142 : Ref sig .tc := ⟨.hbm, 228, rfl⟩
abbrev main_call0_call3_call0_c_36 : Ref sig .tc := ⟨.hbm, 229, rfl⟩
abbrev main_call0_call3_call0_v143 : Ref sig .tc := ⟨.hbm, 230, rfl⟩
abbrev main_call0_call3_call0_v144 : Ref sig .tc := ⟨.hbm, 231, rfl⟩
abbrev main_call0_call3_call0_c_37 : Ref sig .tc := ⟨.hbm, 232, rfl⟩
abbrev main_call0_call3_call0_v145 : Ref sig .tc := ⟨.hbm, 233, rfl⟩
abbrev main_call0_call3_call0_v146 : Ref sig .tc := ⟨.hbm, 234, rfl⟩
abbrev main_call0_call3_call0_v147 : Ref sig .tc := ⟨.hbm, 235, rfl⟩
abbrev main_call0_call3_call0_v148 : Ref sig .tc := ⟨.hbm, 236, rfl⟩
abbrev main_call0_call3_call0_v149 : Ref sig .tc := ⟨.hbm, 237, rfl⟩
abbrev main_call0_call3_call0_c_38 : Ref sig .tc := ⟨.hbm, 238, rfl⟩
abbrev main_call0_call3_call0_v150 : Ref sig .tc := ⟨.hbm, 239, rfl⟩
abbrev main_call0_call3_call0_v151 : Ref sig .tc := ⟨.hbm, 240, rfl⟩
abbrev main_call0_call3_call0_c_39 : Ref sig .tc := ⟨.hbm, 241, rfl⟩
abbrev main_call0_call3_call0_v152 : Ref sig .tc := ⟨.hbm, 242, rfl⟩
abbrev main_call0_call3_call0_v153 : Ref sig .tc := ⟨.hbm, 243, rfl⟩
abbrev main_call0_call3_call0_v154 : Ref sig .tc := ⟨.hbm, 244, rfl⟩
abbrev main_call0_call3_call0_v155 : Ref sig .tc := ⟨.hbm, 245, rfl⟩
abbrev main_call0_call3_call0_v156 : Ref sig .tc := ⟨.hbm, 246, rfl⟩
abbrev main_call0_call3_call0_c_40 : Ref sig .tc := ⟨.hbm, 247, rfl⟩
abbrev main_call0_call3_call0_v157 : Ref sig .tc := ⟨.hbm, 248, rfl⟩
abbrev main_call0_call3_call0_v158 : Ref sig .tc := ⟨.hbm, 249, rfl⟩
abbrev main_call0_call3_call0_c_41 : Ref sig .tc := ⟨.hbm, 250, rfl⟩
abbrev main_call0_call3_call0_v159 : Ref sig .tc := ⟨.hbm, 251, rfl⟩
abbrev main_call0_call3_call0_v160 : Ref sig .tc := ⟨.hbm, 252, rfl⟩
abbrev main_call0_call3_call0_v161 : Ref sig .tc := ⟨.hbm, 253, rfl⟩
abbrev main_call0_call3_call0_v162 : Ref sig .tc := ⟨.hbm, 254, rfl⟩
abbrev main_call0_call3_call0_v163 : Ref sig .tc := ⟨.hbm, 255, rfl⟩
abbrev main_call0_call3_call0_c_42 : Ref sig .tc := ⟨.hbm, 256, rfl⟩
abbrev main_call0_call3_call0_v164 : Ref sig .tc := ⟨.hbm, 257, rfl⟩
abbrev main_call0_call3_call0_v165 : Ref sig .tc := ⟨.hbm, 258, rfl⟩
abbrev main_call0_call3_call0_c_43 : Ref sig .tc := ⟨.hbm, 259, rfl⟩
abbrev main_call0_call3_call0_v166 : Ref sig .tc := ⟨.hbm, 260, rfl⟩
abbrev main_call0_call3_call0_v167 : Ref sig .tc := ⟨.hbm, 261, rfl⟩
abbrev main_call0_call3_call0_v168 : Ref sig .tc := ⟨.hbm, 262, rfl⟩
abbrev main_call0_call3_call0_v169 : Ref sig .tc := ⟨.hbm, 263, rfl⟩
abbrev main_call0_call3_call0_v170 : Ref sig .tc := ⟨.hbm, 264, rfl⟩
abbrev main_call0_call3_v11_0 : Ref sig .tc := ⟨.hbm, 265, rfl⟩
abbrev main_call0_call3_call0_v172 : Ref sig .tc := ⟨.hbm, 266, rfl⟩
abbrev main_call0_call3_call0_v173 : Ref sig .tc := ⟨.hbm, 267, rfl⟩
abbrev main_call0_call3_call0_c_44 : Ref sig .tc := ⟨.hbm, 268, rfl⟩
abbrev main_call0_call3_call0_v174 : Ref sig .tc := ⟨.hbm, 269, rfl⟩
abbrev main_call0_call3_v11_1 : Ref sig .tc := ⟨.hbm, 270, rfl⟩
abbrev main_call0_call3_v12 : Ref sig .tc := ⟨.hbm, 271, rfl⟩
abbrev main_call0_call3_v13 : Ref sig .tc := ⟨.hbm, 272, rfl⟩
abbrev main_call0_v8 : Ref sig .tc := ⟨.hbm, 273, rfl⟩
abbrev main_call0_v9 : Ref sig .tc := ⟨.hbm, 274, rfl⟩
abbrev main_call0_v10 : Ref sig .tc := ⟨.hbm, 275, rfl⟩
abbrev main_call0_v11 : Ref sig .tc := ⟨.hbm, 276, rfl⟩
abbrev main_call0_v12 : Ref sig .tc := ⟨.hbm, 277, rfl⟩
abbrev main_call0_v13 : Ref sig .tc := ⟨.hbm, 278, rfl⟩
abbrev main_call0_v14 : Ref sig .tc := ⟨.hbm, 279, rfl⟩
abbrev main_call0_v15 : Ref sig .tc := ⟨.hbm, 280, rfl⟩
abbrev main_call0_v16 : Ref sig .tc := ⟨.hbm, 281, rfl⟩
abbrev main_call0_v17 : Ref sig .tc := ⟨.hbm, 282, rfl⟩
abbrev main_call0_v18 : Ref sig .tc := ⟨.hbm, 283, rfl⟩
abbrev main_call0_c_6 : Ref sig .tc := ⟨.hbm, 284, rfl⟩
abbrev main_call0_v19 : Ref sig .tc := ⟨.hbm, 285, rfl⟩
abbrev main_call0_v20 : Ref sig .tc := ⟨.hbm, 286, rfl⟩
abbrev main_call0_c_7 : Ref sig .tc := ⟨.hbm, 287, rfl⟩
abbrev main_call0_v21 : Ref sig .tc := ⟨.hbm, 288, rfl⟩
abbrev main_call0_v22 : Ref sig .tc := ⟨.hbm, 289, rfl⟩
abbrev main_call0_v23 : Ref sig .tc := ⟨.hbm, 290, rfl⟩
abbrev main_call0_c_8 : Ref sig .tc := ⟨.hbm, 291, rfl⟩
abbrev main_call0_v24 : Ref sig .tc := ⟨.hbm, 292, rfl⟩
abbrev main_call0_v25 : Ref sig .tc := ⟨.hbm, 293, rfl⟩
abbrev main_call0_v26 : Ref sig .tc := ⟨.hbm, 294, rfl⟩
abbrev main_call0_v27 : Ref sig .tc := ⟨.hbm, 295, rfl⟩
abbrev main_call0_call4_v0 : Ref sig .tc := ⟨.hbm, 296, rfl⟩
abbrev main_call0_call4_c : Ref sig .tc := ⟨.hbm, 297, rfl⟩
abbrev main_call0_call4_v1 : Ref sig .tc := ⟨.hbm, 298, rfl⟩
abbrev main_call0_call4_v2 : Ref sig .tc := ⟨.hbm, 299, rfl⟩
abbrev main_call0_call4_v3 : Ref sig .tc := ⟨.hbm, 300, rfl⟩
abbrev main_call0_call4_v4 : Ref sig .tc := ⟨.hbm, 301, rfl⟩
abbrev main_call0_call4_v5 : Ref sig .tc := ⟨.hbm, 302, rfl⟩
abbrev main_call0_call4_v6 : Ref sig .tc := ⟨.hbm, 303, rfl⟩
abbrev main_call0_call4_c_0 : Ref sig .tc := ⟨.hbm, 304, rfl⟩
abbrev main_call0_call4_v7 : Ref sig .tc := ⟨.hbm, 305, rfl⟩
abbrev main_call0_call4_v8 : Ref sig .tc := ⟨.hbm, 306, rfl⟩
abbrev main_call0_call4_c_1 : Ref sig .tc := ⟨.hbm, 307, rfl⟩
abbrev main_call0_call4_v9 : Ref sig .tc := ⟨.hbm, 308, rfl⟩
abbrev main_call0_call4_v10 : Ref sig .tc := ⟨.hbm, 309, rfl⟩
abbrev main_call0_call4_v11 : Ref sig .tc := ⟨.hbm, 310, rfl⟩
abbrev main_call0_call4_v12 : Ref sig .tc := ⟨.hbm, 311, rfl⟩
abbrev main_call0_call4_v13 : Ref sig .tc := ⟨.hbm, 312, rfl⟩
abbrev main_call0_call4_c_2 : Ref sig .tc := ⟨.hbm, 313, rfl⟩
abbrev main_call0_call4_v14 : Ref sig .tc := ⟨.hbm, 314, rfl⟩
abbrev main_call0_call4_v15 : Ref sig .tc := ⟨.hbm, 315, rfl⟩
abbrev main_call0_call4_c_3 : Ref sig .tc := ⟨.hbm, 316, rfl⟩
abbrev main_call0_call4_v16 : Ref sig .tc := ⟨.hbm, 317, rfl⟩
abbrev main_call0_call4_v17 : Ref sig .tc := ⟨.hbm, 318, rfl⟩
abbrev main_call0_call4_v18 : Ref sig .tc := ⟨.hbm, 319, rfl⟩
abbrev main_call0_call4_v19 : Ref sig .tc := ⟨.hbm, 320, rfl⟩
abbrev main_call0_call4_v20 : Ref sig .tc := ⟨.hbm, 321, rfl⟩
abbrev main_call0_call4_c_4 : Ref sig .tc := ⟨.hbm, 322, rfl⟩
abbrev main_call0_call4_v21 : Ref sig .tc := ⟨.hbm, 323, rfl⟩
abbrev main_call0_call4_v22 : Ref sig .tc := ⟨.hbm, 324, rfl⟩
abbrev main_call0_call4_c_5 : Ref sig .tc := ⟨.hbm, 325, rfl⟩
abbrev main_call0_call4_v23 : Ref sig .tc := ⟨.hbm, 326, rfl⟩
abbrev main_call0_call4_v24 : Ref sig .tc := ⟨.hbm, 327, rfl⟩
abbrev main_call0_call4_v25 : Ref sig .tc := ⟨.hbm, 328, rfl⟩
abbrev main_call0_call4_v26 : Ref sig .tc := ⟨.hbm, 329, rfl⟩
abbrev main_call0_call4_v27 : Ref sig .tc := ⟨.hbm, 330, rfl⟩
abbrev main_call0_call4_c_6 : Ref sig .tc := ⟨.hbm, 331, rfl⟩
abbrev main_call0_call4_v28 : Ref sig .tc := ⟨.hbm, 332, rfl⟩
abbrev main_call0_call4_v29 : Ref sig .tc := ⟨.hbm, 333, rfl⟩
abbrev main_call0_call4_c_7 : Ref sig .tc := ⟨.hbm, 334, rfl⟩
abbrev main_call0_call4_v30 : Ref sig .tc := ⟨.hbm, 335, rfl⟩
abbrev main_call0_call4_v31 : Ref sig .tc := ⟨.hbm, 336, rfl⟩
abbrev main_call0_call4_v32 : Ref sig .tc := ⟨.hbm, 337, rfl⟩
abbrev main_call0_call4_v33 : Ref sig .tc := ⟨.hbm, 338, rfl⟩
abbrev main_call0_call4_v34 : Ref sig .tc := ⟨.hbm, 339, rfl⟩
abbrev main_call0_call4_v35 : Ref sig .tc := ⟨.hbm, 340, rfl⟩
abbrev main_call0_call4_v36 : Ref sig .tc := ⟨.hbm, 341, rfl⟩
abbrev main_call0_call4_v37 : Ref sig .tc := ⟨.hbm, 342, rfl⟩
abbrev main_call0_call4_c_8 : Ref sig .tc := ⟨.hbm, 343, rfl⟩
abbrev main_call0_call4_v38 : Ref sig .tc := ⟨.hbm, 344, rfl⟩
abbrev main_call0_call4_v39 : Ref sig .tc := ⟨.hbm, 345, rfl⟩
abbrev main_call0_call4_v40 : Ref sig .tc := ⟨.hbm, 346, rfl⟩
abbrev main_call0_call4_c_9 : Ref sig .tc := ⟨.hbm, 347, rfl⟩
abbrev main_call0_call4_v41 : Ref sig .tc := ⟨.hbm, 348, rfl⟩
abbrev main_call0_call4_v42 : Ref sig .tc := ⟨.hbm, 349, rfl⟩
abbrev main_call0_call4_c_10 : Ref sig .tc := ⟨.hbm, 350, rfl⟩
abbrev main_call0_call4_v43 : Ref sig .tc := ⟨.hbm, 351, rfl⟩
abbrev main_call0_call4_v44 : Ref sig .tc := ⟨.hbm, 352, rfl⟩
abbrev main_call0_call4_v45 : Ref sig .tc := ⟨.hbm, 353, rfl⟩
abbrev main_call0_call4_v46 : Ref sig .tc := ⟨.hbm, 354, rfl⟩
abbrev main_call0_call4_v47 : Ref sig .tc := ⟨.hbm, 355, rfl⟩
abbrev main_call0_call4_c_11 : Ref sig .tc := ⟨.hbm, 356, rfl⟩
abbrev main_call0_call4_v48 : Ref sig .tc := ⟨.hbm, 357, rfl⟩
abbrev main_call0_call4_v49 : Ref sig .tc := ⟨.hbm, 358, rfl⟩
abbrev main_call0_call4_c_12 : Ref sig .tc := ⟨.hbm, 359, rfl⟩
abbrev main_call0_call4_v50 : Ref sig .tc := ⟨.hbm, 360, rfl⟩
abbrev main_call0_call4_v51 : Ref sig .tc := ⟨.hbm, 361, rfl⟩
abbrev main_call0_call4_v52 : Ref sig .tc := ⟨.hbm, 362, rfl⟩
abbrev main_call0_call4_v53 : Ref sig .tc := ⟨.hbm, 363, rfl⟩
abbrev main_call0_call4_v54 : Ref sig .tc := ⟨.hbm, 364, rfl⟩
abbrev main_call0_call4_c_13 : Ref sig .tc := ⟨.hbm, 365, rfl⟩
abbrev main_call0_call4_v55 : Ref sig .tc := ⟨.hbm, 366, rfl⟩
abbrev main_call0_call4_v56 : Ref sig .tc := ⟨.hbm, 367, rfl⟩
abbrev main_call0_call4_c_14 : Ref sig .tc := ⟨.hbm, 368, rfl⟩
abbrev main_call0_call4_v57 : Ref sig .tc := ⟨.hbm, 369, rfl⟩
abbrev main_call0_call4_v58 : Ref sig .tc := ⟨.hbm, 370, rfl⟩
abbrev main_call0_call4_v59 : Ref sig .tc := ⟨.hbm, 371, rfl⟩
abbrev main_call0_call4_v60 : Ref sig .tc := ⟨.hbm, 372, rfl⟩
abbrev main_call0_call4_v61 : Ref sig .tc := ⟨.hbm, 373, rfl⟩
abbrev main_call0_call4_c_15 : Ref sig .tc := ⟨.hbm, 374, rfl⟩
abbrev main_call0_call4_v62 : Ref sig .tc := ⟨.hbm, 375, rfl⟩
abbrev main_call0_call4_v63 : Ref sig .tc := ⟨.hbm, 376, rfl⟩
abbrev main_call0_call4_c_16 : Ref sig .tc := ⟨.hbm, 377, rfl⟩
abbrev main_call0_call4_v64 : Ref sig .tc := ⟨.hbm, 378, rfl⟩
abbrev main_call0_call4_v65 : Ref sig .tc := ⟨.hbm, 379, rfl⟩
abbrev main_call0_call4_v66 : Ref sig .tc := ⟨.hbm, 380, rfl⟩
abbrev main_call0_call4_v67 : Ref sig .tc := ⟨.hbm, 381, rfl⟩
abbrev main_call0_call4_v68 : Ref sig .tc := ⟨.hbm, 382, rfl⟩
abbrev main_call0_call4_v69 : Ref sig .tc := ⟨.hbm, 383, rfl⟩
abbrev main_call0_call4_v70 : Ref sig .tc := ⟨.hbm, 384, rfl⟩
abbrev main_call0_call4_v71 : Ref sig .tc := ⟨.hbm, 385, rfl⟩
abbrev main_call0_call4_c_17 : Ref sig .tc := ⟨.hbm, 386, rfl⟩
abbrev main_call0_call4_v72 : Ref sig .tc := ⟨.hbm, 387, rfl⟩
abbrev main_call0_call4_v73 : Ref sig .tc := ⟨.hbm, 388, rfl⟩
abbrev main_call0_call4_v74 : Ref sig .tc := ⟨.hbm, 389, rfl⟩
abbrev main_call0_call4_c_18 : Ref sig .tc := ⟨.hbm, 390, rfl⟩
abbrev main_call0_call4_v75 : Ref sig .tc := ⟨.hbm, 391, rfl⟩
abbrev main_call0_call4_v76 : Ref sig .tc := ⟨.hbm, 392, rfl⟩
abbrev main_call0_call4_c_19 : Ref sig .tc := ⟨.hbm, 393, rfl⟩
abbrev main_call0_call4_v77 : Ref sig .tc := ⟨.hbm, 394, rfl⟩
abbrev main_call0_call4_v78 : Ref sig .tc := ⟨.hbm, 395, rfl⟩
abbrev main_call0_call4_v79 : Ref sig .tc := ⟨.hbm, 396, rfl⟩
abbrev main_call0_call4_v80 : Ref sig .tc := ⟨.hbm, 397, rfl⟩
abbrev main_call0_call4_v81 : Ref sig .tc := ⟨.hbm, 398, rfl⟩
abbrev main_call0_call4_c_20 : Ref sig .tc := ⟨.hbm, 399, rfl⟩
abbrev main_call0_call4_v82 : Ref sig .tc := ⟨.hbm, 400, rfl⟩
abbrev main_call0_call4_v83 : Ref sig .tc := ⟨.hbm, 401, rfl⟩
abbrev main_call0_call4_c_21 : Ref sig .tc := ⟨.hbm, 402, rfl⟩
abbrev main_call0_call4_v84 : Ref sig .tc := ⟨.hbm, 403, rfl⟩
abbrev main_call0_call4_v85 : Ref sig .tc := ⟨.hbm, 404, rfl⟩
abbrev main_call0_call4_v86 : Ref sig .tc := ⟨.hbm, 405, rfl⟩
abbrev main_call0_call4_v87 : Ref sig .tc := ⟨.hbm, 406, rfl⟩
abbrev main_call0_call4_v88 : Ref sig .tc := ⟨.hbm, 407, rfl⟩
abbrev main_call0_call4_c_22 : Ref sig .tc := ⟨.hbm, 408, rfl⟩
abbrev main_call0_call4_v89 : Ref sig .tc := ⟨.hbm, 409, rfl⟩
abbrev main_call0_call4_v90 : Ref sig .tc := ⟨.hbm, 410, rfl⟩
abbrev main_call0_call4_c_23 : Ref sig .tc := ⟨.hbm, 411, rfl⟩
abbrev main_call0_call4_v91 : Ref sig .tc := ⟨.hbm, 412, rfl⟩
abbrev main_call0_call4_v92 : Ref sig .tc := ⟨.hbm, 413, rfl⟩
abbrev main_call0_call4_v93 : Ref sig .tc := ⟨.hbm, 414, rfl⟩
abbrev main_call0_call4_v94 : Ref sig .tc := ⟨.hbm, 415, rfl⟩
abbrev main_call0_call4_v95 : Ref sig .tc := ⟨.hbm, 416, rfl⟩
abbrev main_call0_call4_c_24 : Ref sig .tc := ⟨.hbm, 417, rfl⟩
abbrev main_call0_call4_v96 : Ref sig .tc := ⟨.hbm, 418, rfl⟩
abbrev main_call0_call4_v97 : Ref sig .tc := ⟨.hbm, 419, rfl⟩
abbrev main_call0_call4_c_25 : Ref sig .tc := ⟨.hbm, 420, rfl⟩
abbrev main_call0_call4_v98 : Ref sig .tc := ⟨.hbm, 421, rfl⟩
abbrev main_call0_call4_v99 : Ref sig .tc := ⟨.hbm, 422, rfl⟩
abbrev main_call0_call4_v100 : Ref sig .tc := ⟨.hbm, 423, rfl⟩
abbrev main_call0_call4_v101 : Ref sig .tc := ⟨.hbm, 424, rfl⟩
abbrev main_call0_call4_v102 : Ref sig .tc := ⟨.hbm, 425, rfl⟩
abbrev main_call0_call4_v103 : Ref sig .tc := ⟨.hbm, 426, rfl⟩
abbrev main_call0_call4_v104 : Ref sig .tc := ⟨.hbm, 427, rfl⟩
abbrev main_call0_call4_v105 : Ref sig .tc := ⟨.hbm, 428, rfl⟩
abbrev main_call0_call4_c_26 : Ref sig .tc := ⟨.hbm, 429, rfl⟩
abbrev main_call0_call4_v106 : Ref sig .tc := ⟨.hbm, 430, rfl⟩
abbrev main_call0_call4_v107 : Ref sig .tc := ⟨.hbm, 431, rfl⟩
abbrev main_call0_call4_v108 : Ref sig .tc := ⟨.hbm, 432, rfl⟩
abbrev main_call0_call4_c_27 : Ref sig .tc := ⟨.hbm, 433, rfl⟩
abbrev main_call0_call4_v109 : Ref sig .tc := ⟨.hbm, 434, rfl⟩
abbrev main_call0_call4_v110 : Ref sig .tc := ⟨.hbm, 435, rfl⟩
abbrev main_call0_call4_c_28 : Ref sig .tc := ⟨.hbm, 436, rfl⟩
abbrev main_call0_call4_v111 : Ref sig .tc := ⟨.hbm, 437, rfl⟩
abbrev main_call0_call4_v112 : Ref sig .tc := ⟨.hbm, 438, rfl⟩
abbrev main_call0_call4_v113 : Ref sig .tc := ⟨.hbm, 439, rfl⟩
abbrev main_call0_call4_v114 : Ref sig .tc := ⟨.hbm, 440, rfl⟩
abbrev main_call0_call4_v115 : Ref sig .tc := ⟨.hbm, 441, rfl⟩
abbrev main_call0_call4_c_29 : Ref sig .tc := ⟨.hbm, 442, rfl⟩
abbrev main_call0_call4_v116 : Ref sig .tc := ⟨.hbm, 443, rfl⟩
abbrev main_call0_call4_v117 : Ref sig .tc := ⟨.hbm, 444, rfl⟩
abbrev main_call0_call4_c_30 : Ref sig .tc := ⟨.hbm, 445, rfl⟩
abbrev main_call0_call4_v118 : Ref sig .tc := ⟨.hbm, 446, rfl⟩
abbrev main_call0_call4_v119 : Ref sig .tc := ⟨.hbm, 447, rfl⟩
abbrev main_call0_call4_v120 : Ref sig .tc := ⟨.hbm, 448, rfl⟩
abbrev main_call0_call4_v121 : Ref sig .tc := ⟨.hbm, 449, rfl⟩
abbrev main_call0_call4_v122 : Ref sig .tc := ⟨.hbm, 450, rfl⟩
abbrev main_call0_call4_c_31 : Ref sig .tc := ⟨.hbm, 451, rfl⟩
abbrev main_call0_call4_v123 : Ref sig .tc := ⟨.hbm, 452, rfl⟩
abbrev main_call0_call4_v124 : Ref sig .tc := ⟨.hbm, 453, rfl⟩
abbrev main_call0_call4_c_32 : Ref sig .tc := ⟨.hbm, 454, rfl⟩
abbrev main_call0_call4_v125 : Ref sig .tc := ⟨.hbm, 455, rfl⟩
abbrev main_call0_call4_v126 : Ref sig .tc := ⟨.hbm, 456, rfl⟩
abbrev main_call0_call4_v127 : Ref sig .tc := ⟨.hbm, 457, rfl⟩
abbrev main_call0_call4_v128 : Ref sig .tc := ⟨.hbm, 458, rfl⟩
abbrev main_call0_call4_v129 : Ref sig .tc := ⟨.hbm, 459, rfl⟩
abbrev main_call0_call4_c_33 : Ref sig .tc := ⟨.hbm, 460, rfl⟩
abbrev main_call0_call4_v130 : Ref sig .tc := ⟨.hbm, 461, rfl⟩
abbrev main_call0_call4_v131 : Ref sig .tc := ⟨.hbm, 462, rfl⟩
abbrev main_call0_call4_c_34 : Ref sig .tc := ⟨.hbm, 463, rfl⟩
abbrev main_call0_call4_v132 : Ref sig .tc := ⟨.hbm, 464, rfl⟩
abbrev main_call0_call4_v133 : Ref sig .tc := ⟨.hbm, 465, rfl⟩
abbrev main_call0_call4_v134 : Ref sig .tc := ⟨.hbm, 466, rfl⟩
abbrev main_call0_call4_v135 : Ref sig .tc := ⟨.hbm, 467, rfl⟩
abbrev main_call0_call4_v136 : Ref sig .tc := ⟨.hbm, 468, rfl⟩
abbrev main_call0_call4_v137 : Ref sig .tc := ⟨.hbm, 469, rfl⟩
abbrev main_call0_call4_v138 : Ref sig .tc := ⟨.hbm, 470, rfl⟩
abbrev main_call0_call4_v139 : Ref sig .tc := ⟨.hbm, 471, rfl⟩
abbrev main_call0_call4_c_35 : Ref sig .tc := ⟨.hbm, 472, rfl⟩
abbrev main_call0_call4_v140 : Ref sig .tc := ⟨.hbm, 473, rfl⟩
abbrev main_call0_call4_v141 : Ref sig .tc := ⟨.hbm, 474, rfl⟩
abbrev main_call0_call4_v142 : Ref sig .tc := ⟨.hbm, 475, rfl⟩
abbrev main_call0_call4_c_36 : Ref sig .tc := ⟨.hbm, 476, rfl⟩
abbrev main_call0_call4_v143 : Ref sig .tc := ⟨.hbm, 477, rfl⟩
abbrev main_call0_call4_v144 : Ref sig .tc := ⟨.hbm, 478, rfl⟩
abbrev main_call0_call4_c_37 : Ref sig .tc := ⟨.hbm, 479, rfl⟩
abbrev main_call0_call4_v145 : Ref sig .tc := ⟨.hbm, 480, rfl⟩
abbrev main_call0_call4_v146 : Ref sig .tc := ⟨.hbm, 481, rfl⟩
abbrev main_call0_call4_v147 : Ref sig .tc := ⟨.hbm, 482, rfl⟩
abbrev main_call0_call4_v148 : Ref sig .tc := ⟨.hbm, 483, rfl⟩
abbrev main_call0_call4_v149 : Ref sig .tc := ⟨.hbm, 484, rfl⟩
abbrev main_call0_call4_c_38 : Ref sig .tc := ⟨.hbm, 485, rfl⟩
abbrev main_call0_call4_v150 : Ref sig .tc := ⟨.hbm, 486, rfl⟩
abbrev main_call0_call4_v151 : Ref sig .tc := ⟨.hbm, 487, rfl⟩
abbrev main_call0_call4_c_39 : Ref sig .tc := ⟨.hbm, 488, rfl⟩
abbrev main_call0_call4_v152 : Ref sig .tc := ⟨.hbm, 489, rfl⟩
abbrev main_call0_call4_v153 : Ref sig .tc := ⟨.hbm, 490, rfl⟩
abbrev main_call0_call4_v154 : Ref sig .tc := ⟨.hbm, 491, rfl⟩
abbrev main_call0_call4_v155 : Ref sig .tc := ⟨.hbm, 492, rfl⟩
abbrev main_call0_call4_v156 : Ref sig .tc := ⟨.hbm, 493, rfl⟩
abbrev main_call0_call4_c_40 : Ref sig .tc := ⟨.hbm, 494, rfl⟩
abbrev main_call0_call4_v157 : Ref sig .tc := ⟨.hbm, 495, rfl⟩
abbrev main_call0_call4_v158 : Ref sig .tc := ⟨.hbm, 496, rfl⟩
abbrev main_call0_call4_c_41 : Ref sig .tc := ⟨.hbm, 497, rfl⟩
abbrev main_call0_call4_v159 : Ref sig .tc := ⟨.hbm, 498, rfl⟩
abbrev main_call0_call4_v160 : Ref sig .tc := ⟨.hbm, 499, rfl⟩
abbrev main_call0_call4_v161 : Ref sig .tc := ⟨.hbm, 500, rfl⟩
abbrev main_call0_call4_v162 : Ref sig .tc := ⟨.hbm, 501, rfl⟩
abbrev main_call0_call4_v163 : Ref sig .tc := ⟨.hbm, 502, rfl⟩
abbrev main_call0_call4_c_42 : Ref sig .tc := ⟨.hbm, 503, rfl⟩
abbrev main_call0_call4_v164 : Ref sig .tc := ⟨.hbm, 504, rfl⟩
abbrev main_call0_call4_v165 : Ref sig .tc := ⟨.hbm, 505, rfl⟩
abbrev main_call0_call4_c_43 : Ref sig .tc := ⟨.hbm, 506, rfl⟩
abbrev main_call0_call4_v166 : Ref sig .tc := ⟨.hbm, 507, rfl⟩
abbrev main_call0_call4_v167 : Ref sig .tc := ⟨.hbm, 508, rfl⟩
abbrev main_call0_call4_v168 : Ref sig .tc := ⟨.hbm, 509, rfl⟩
abbrev main_call0_call4_v169 : Ref sig .tc := ⟨.hbm, 510, rfl⟩
abbrev main_call0_call4_v170 : Ref sig .tc := ⟨.hbm, 511, rfl⟩
abbrev main_call0_v28_0 : Ref sig .tc := ⟨.hbm, 512, rfl⟩
abbrev main_call0_call4_v172 : Ref sig .tc := ⟨.hbm, 513, rfl⟩
abbrev main_call0_call4_v173 : Ref sig .tc := ⟨.hbm, 514, rfl⟩
abbrev main_call0_call4_c_44 : Ref sig .tc := ⟨.hbm, 515, rfl⟩
abbrev main_call0_call4_v174 : Ref sig .tc := ⟨.hbm, 516, rfl⟩
abbrev main_call0_v28_1 : Ref sig .tc := ⟨.hbm, 517, rfl⟩
abbrev main_call0_v29 : Ref sig .tc := ⟨.hbm, 518, rfl⟩
abbrev main_call0_v30 : Ref sig .tc := ⟨.hbm, 519, rfl⟩
abbrev main_call0_v31 : Ref sig .tc := ⟨.hbm, 520, rfl⟩
abbrev main_call0_v32 : Ref sig .tc := ⟨.hbm, 521, rfl⟩
abbrev main_call0_v33 : Ref sig .tc := ⟨.hbm, 522, rfl⟩
abbrev main_call0_v34 : Ref sig .tc := ⟨.hbm, 523, rfl⟩
abbrev main_call0_v35 : Ref sig .tc := ⟨.hbm, 524, rfl⟩
abbrev main_call0_c_9 : Ref sig .tc := ⟨.hbm, 525, rfl⟩
abbrev main_call0_v36 : Ref sig .tc := ⟨.hbm, 526, rfl⟩
abbrev main_call0_v37 : Ref sig .tc := ⟨.hbm, 527, rfl⟩
abbrev main_call0_c_10 : Ref sig .tc := ⟨.hbm, 528, rfl⟩
abbrev main_call0_v38 : Ref sig .tc := ⟨.hbm, 529, rfl⟩
abbrev main_call0_v39 : Ref sig .tc := ⟨.hbm, 530, rfl⟩
abbrev main_call0_v40 : Ref sig .tc := ⟨.hbm, 531, rfl⟩
abbrev main_call0_c_11 : Ref sig .tc := ⟨.hbm, 532, rfl⟩
abbrev main_call0_v41 : Ref sig .tc := ⟨.hbm, 533, rfl⟩
abbrev main_call0_v42 : Ref sig .tc := ⟨.hbm, 534, rfl⟩
abbrev main_call0_v43 : Ref sig .tc := ⟨.hbm, 535, rfl⟩
abbrev main_call0_v44 : Ref sig .tc := ⟨.hbm, 536, rfl⟩
abbrev main_call0_call5_v0 : Ref sig .tc := ⟨.hbm, 537, rfl⟩
abbrev main_call0_call5_c : Ref sig .tc := ⟨.hbm, 538, rfl⟩
abbrev main_call0_call5_v1 : Ref sig .tc := ⟨.hbm, 539, rfl⟩
abbrev main_call0_call5_v2 : Ref sig .tc := ⟨.hbm, 540, rfl⟩
abbrev main_call0_call5_v3 : Ref sig .tc := ⟨.hbm, 541, rfl⟩
abbrev main_call0_call5_v4 : Ref sig .tc := ⟨.hbm, 542, rfl⟩
abbrev main_call0_call5_v5 : Ref sig .tc := ⟨.hbm, 543, rfl⟩
abbrev main_call0_call5_v6 : Ref sig .tc := ⟨.hbm, 544, rfl⟩
abbrev main_call0_call5_c_0 : Ref sig .tc := ⟨.hbm, 545, rfl⟩
abbrev main_call0_call5_v7 : Ref sig .tc := ⟨.hbm, 546, rfl⟩
abbrev main_call0_call5_v8 : Ref sig .tc := ⟨.hbm, 547, rfl⟩
abbrev main_call0_call5_c_1 : Ref sig .tc := ⟨.hbm, 548, rfl⟩
abbrev main_call0_call5_v9 : Ref sig .tc := ⟨.hbm, 549, rfl⟩
abbrev main_call0_call5_v10 : Ref sig .tc := ⟨.hbm, 550, rfl⟩
abbrev main_call0_call5_v11 : Ref sig .tc := ⟨.hbm, 551, rfl⟩
abbrev main_call0_call5_v12 : Ref sig .tc := ⟨.hbm, 552, rfl⟩
abbrev main_call0_call5_v13 : Ref sig .tc := ⟨.hbm, 553, rfl⟩
abbrev main_call0_call5_c_2 : Ref sig .tc := ⟨.hbm, 554, rfl⟩
abbrev main_call0_call5_v14 : Ref sig .tc := ⟨.hbm, 555, rfl⟩
abbrev main_call0_call5_v15 : Ref sig .tc := ⟨.hbm, 556, rfl⟩
abbrev main_call0_call5_c_3 : Ref sig .tc := ⟨.hbm, 557, rfl⟩
abbrev main_call0_call5_v16 : Ref sig .tc := ⟨.hbm, 558, rfl⟩
abbrev main_call0_call5_v17 : Ref sig .tc := ⟨.hbm, 559, rfl⟩
abbrev main_call0_call5_v18 : Ref sig .tc := ⟨.hbm, 560, rfl⟩
abbrev main_call0_call5_v19 : Ref sig .tc := ⟨.hbm, 561, rfl⟩
abbrev main_call0_call5_v20 : Ref sig .tc := ⟨.hbm, 562, rfl⟩
abbrev main_call0_call5_c_4 : Ref sig .tc := ⟨.hbm, 563, rfl⟩
abbrev main_call0_call5_v21 : Ref sig .tc := ⟨.hbm, 564, rfl⟩
abbrev main_call0_call5_v22 : Ref sig .tc := ⟨.hbm, 565, rfl⟩
abbrev main_call0_call5_c_5 : Ref sig .tc := ⟨.hbm, 566, rfl⟩
abbrev main_call0_call5_v23 : Ref sig .tc := ⟨.hbm, 567, rfl⟩
abbrev main_call0_call5_v24 : Ref sig .tc := ⟨.hbm, 568, rfl⟩
abbrev main_call0_call5_v25 : Ref sig .tc := ⟨.hbm, 569, rfl⟩
abbrev main_call0_call5_v26 : Ref sig .tc := ⟨.hbm, 570, rfl⟩
abbrev main_call0_call5_v27 : Ref sig .tc := ⟨.hbm, 571, rfl⟩
abbrev main_call0_call5_c_6 : Ref sig .tc := ⟨.hbm, 572, rfl⟩
abbrev main_call0_call5_v28 : Ref sig .tc := ⟨.hbm, 573, rfl⟩
abbrev main_call0_call5_v29 : Ref sig .tc := ⟨.hbm, 574, rfl⟩
abbrev main_call0_call5_c_7 : Ref sig .tc := ⟨.hbm, 575, rfl⟩
abbrev main_call0_call5_v30 : Ref sig .tc := ⟨.hbm, 576, rfl⟩
abbrev main_call0_call5_v31 : Ref sig .tc := ⟨.hbm, 577, rfl⟩
abbrev main_call0_call5_v32 : Ref sig .tc := ⟨.hbm, 578, rfl⟩
abbrev main_call0_call5_v33 : Ref sig .tc := ⟨.hbm, 579, rfl⟩
abbrev main_call0_call5_v34 : Ref sig .tc := ⟨.hbm, 580, rfl⟩
abbrev main_call0_call5_v35 : Ref sig .tc := ⟨.hbm, 581, rfl⟩
abbrev main_call0_call5_v36 : Ref sig .tc := ⟨.hbm, 582, rfl⟩
abbrev main_call0_call5_v37 : Ref sig .tc := ⟨.hbm, 583, rfl⟩
abbrev main_call0_call5_c_8 : Ref sig .tc := ⟨.hbm, 584, rfl⟩
abbrev main_call0_call5_v38 : Ref sig .tc := ⟨.hbm, 585, rfl⟩
abbrev main_call0_call5_v39 : Ref sig .tc := ⟨.hbm, 586, rfl⟩
abbrev main_call0_call5_v40 : Ref sig .tc := ⟨.hbm, 587, rfl⟩
abbrev main_call0_call5_c_9 : Ref sig .tc := ⟨.hbm, 588, rfl⟩
abbrev main_call0_call5_v41 : Ref sig .tc := ⟨.hbm, 589, rfl⟩
abbrev main_call0_call5_v42 : Ref sig .tc := ⟨.hbm, 590, rfl⟩
abbrev main_call0_call5_c_10 : Ref sig .tc := ⟨.hbm, 591, rfl⟩
abbrev main_call0_call5_v43 : Ref sig .tc := ⟨.hbm, 592, rfl⟩
abbrev main_call0_call5_v44 : Ref sig .tc := ⟨.hbm, 593, rfl⟩
abbrev main_call0_call5_v45 : Ref sig .tc := ⟨.hbm, 594, rfl⟩
abbrev main_call0_call5_v46 : Ref sig .tc := ⟨.hbm, 595, rfl⟩
abbrev main_call0_call5_v47 : Ref sig .tc := ⟨.hbm, 596, rfl⟩
abbrev main_call0_call5_c_11 : Ref sig .tc := ⟨.hbm, 597, rfl⟩
abbrev main_call0_call5_v48 : Ref sig .tc := ⟨.hbm, 598, rfl⟩
abbrev main_call0_call5_v49 : Ref sig .tc := ⟨.hbm, 599, rfl⟩
abbrev main_call0_call5_c_12 : Ref sig .tc := ⟨.hbm, 600, rfl⟩
abbrev main_call0_call5_v50 : Ref sig .tc := ⟨.hbm, 601, rfl⟩
abbrev main_call0_call5_v51 : Ref sig .tc := ⟨.hbm, 602, rfl⟩
abbrev main_call0_call5_v52 : Ref sig .tc := ⟨.hbm, 603, rfl⟩
abbrev main_call0_call5_v53 : Ref sig .tc := ⟨.hbm, 604, rfl⟩
abbrev main_call0_call5_v54 : Ref sig .tc := ⟨.hbm, 605, rfl⟩
abbrev main_call0_call5_c_13 : Ref sig .tc := ⟨.hbm, 606, rfl⟩
abbrev main_call0_call5_v55 : Ref sig .tc := ⟨.hbm, 607, rfl⟩
abbrev main_call0_call5_v56 : Ref sig .tc := ⟨.hbm, 608, rfl⟩
abbrev main_call0_call5_c_14 : Ref sig .tc := ⟨.hbm, 609, rfl⟩
abbrev main_call0_call5_v57 : Ref sig .tc := ⟨.hbm, 610, rfl⟩
abbrev main_call0_call5_v58 : Ref sig .tc := ⟨.hbm, 611, rfl⟩
abbrev main_call0_call5_v59 : Ref sig .tc := ⟨.hbm, 612, rfl⟩
abbrev main_call0_call5_v60 : Ref sig .tc := ⟨.hbm, 613, rfl⟩
abbrev main_call0_call5_v61 : Ref sig .tc := ⟨.hbm, 614, rfl⟩
abbrev main_call0_call5_c_15 : Ref sig .tc := ⟨.hbm, 615, rfl⟩
abbrev main_call0_call5_v62 : Ref sig .tc := ⟨.hbm, 616, rfl⟩
abbrev main_call0_call5_v63 : Ref sig .tc := ⟨.hbm, 617, rfl⟩
abbrev main_call0_call5_c_16 : Ref sig .tc := ⟨.hbm, 618, rfl⟩
abbrev main_call0_call5_v64 : Ref sig .tc := ⟨.hbm, 619, rfl⟩
abbrev main_call0_call5_v65 : Ref sig .tc := ⟨.hbm, 620, rfl⟩
abbrev main_call0_call5_v66 : Ref sig .tc := ⟨.hbm, 621, rfl⟩
abbrev main_call0_call5_v67 : Ref sig .tc := ⟨.hbm, 622, rfl⟩
abbrev main_call0_call5_v68 : Ref sig .tc := ⟨.hbm, 623, rfl⟩
abbrev main_call0_call5_v69 : Ref sig .tc := ⟨.hbm, 624, rfl⟩
abbrev main_call0_call5_v70 : Ref sig .tc := ⟨.hbm, 625, rfl⟩
abbrev main_call0_call5_v71 : Ref sig .tc := ⟨.hbm, 626, rfl⟩
abbrev main_call0_call5_c_17 : Ref sig .tc := ⟨.hbm, 627, rfl⟩
abbrev main_call0_call5_v72 : Ref sig .tc := ⟨.hbm, 628, rfl⟩
abbrev main_call0_call5_v73 : Ref sig .tc := ⟨.hbm, 629, rfl⟩
abbrev main_call0_call5_v74 : Ref sig .tc := ⟨.hbm, 630, rfl⟩
abbrev main_call0_call5_c_18 : Ref sig .tc := ⟨.hbm, 631, rfl⟩
abbrev main_call0_call5_v75 : Ref sig .tc := ⟨.hbm, 632, rfl⟩
abbrev main_call0_call5_v76 : Ref sig .tc := ⟨.hbm, 633, rfl⟩
abbrev main_call0_call5_c_19 : Ref sig .tc := ⟨.hbm, 634, rfl⟩
abbrev main_call0_call5_v77 : Ref sig .tc := ⟨.hbm, 635, rfl⟩
abbrev main_call0_call5_v78 : Ref sig .tc := ⟨.hbm, 636, rfl⟩
abbrev main_call0_call5_v79 : Ref sig .tc := ⟨.hbm, 637, rfl⟩
abbrev main_call0_call5_v80 : Ref sig .tc := ⟨.hbm, 638, rfl⟩
abbrev main_call0_call5_v81 : Ref sig .tc := ⟨.hbm, 639, rfl⟩
abbrev main_call0_call5_c_20 : Ref sig .tc := ⟨.hbm, 640, rfl⟩
abbrev main_call0_call5_v82 : Ref sig .tc := ⟨.hbm, 641, rfl⟩
abbrev main_call0_call5_v83 : Ref sig .tc := ⟨.hbm, 642, rfl⟩
abbrev main_call0_call5_c_21 : Ref sig .tc := ⟨.hbm, 643, rfl⟩
abbrev main_call0_call5_v84 : Ref sig .tc := ⟨.hbm, 644, rfl⟩
abbrev main_call0_call5_v85 : Ref sig .tc := ⟨.hbm, 645, rfl⟩
abbrev main_call0_call5_v86 : Ref sig .tc := ⟨.hbm, 646, rfl⟩
abbrev main_call0_call5_v87 : Ref sig .tc := ⟨.hbm, 647, rfl⟩
abbrev main_call0_call5_v88 : Ref sig .tc := ⟨.hbm, 648, rfl⟩
abbrev main_call0_call5_c_22 : Ref sig .tc := ⟨.hbm, 649, rfl⟩
abbrev main_call0_call5_v89 : Ref sig .tc := ⟨.hbm, 650, rfl⟩
abbrev main_call0_call5_v90 : Ref sig .tc := ⟨.hbm, 651, rfl⟩
abbrev main_call0_call5_c_23 : Ref sig .tc := ⟨.hbm, 652, rfl⟩
abbrev main_call0_call5_v91 : Ref sig .tc := ⟨.hbm, 653, rfl⟩
abbrev main_call0_call5_v92 : Ref sig .tc := ⟨.hbm, 654, rfl⟩
abbrev main_call0_call5_v93 : Ref sig .tc := ⟨.hbm, 655, rfl⟩
abbrev main_call0_call5_v94 : Ref sig .tc := ⟨.hbm, 656, rfl⟩
abbrev main_call0_call5_v95 : Ref sig .tc := ⟨.hbm, 657, rfl⟩
abbrev main_call0_call5_c_24 : Ref sig .tc := ⟨.hbm, 658, rfl⟩
abbrev main_call0_call5_v96 : Ref sig .tc := ⟨.hbm, 659, rfl⟩
abbrev main_call0_call5_v97 : Ref sig .tc := ⟨.hbm, 660, rfl⟩
abbrev main_call0_call5_c_25 : Ref sig .tc := ⟨.hbm, 661, rfl⟩
abbrev main_call0_call5_v98 : Ref sig .tc := ⟨.hbm, 662, rfl⟩
abbrev main_call0_call5_v99 : Ref sig .tc := ⟨.hbm, 663, rfl⟩
abbrev main_call0_call5_v100 : Ref sig .tc := ⟨.hbm, 664, rfl⟩
abbrev main_call0_call5_v101 : Ref sig .tc := ⟨.hbm, 665, rfl⟩
abbrev main_call0_call5_v102 : Ref sig .tc := ⟨.hbm, 666, rfl⟩
abbrev main_call0_call5_v103 : Ref sig .tc := ⟨.hbm, 667, rfl⟩
abbrev main_call0_call5_v104 : Ref sig .tc := ⟨.hbm, 668, rfl⟩
abbrev main_call0_call5_v105 : Ref sig .tc := ⟨.hbm, 669, rfl⟩
abbrev main_call0_call5_c_26 : Ref sig .tc := ⟨.hbm, 670, rfl⟩
abbrev main_call0_call5_v106 : Ref sig .tc := ⟨.hbm, 671, rfl⟩
abbrev main_call0_call5_v107 : Ref sig .tc := ⟨.hbm, 672, rfl⟩
abbrev main_call0_call5_v108 : Ref sig .tc := ⟨.hbm, 673, rfl⟩
abbrev main_call0_call5_c_27 : Ref sig .tc := ⟨.hbm, 674, rfl⟩
abbrev main_call0_call5_v109 : Ref sig .tc := ⟨.hbm, 675, rfl⟩
abbrev main_call0_call5_v110 : Ref sig .tc := ⟨.hbm, 676, rfl⟩
abbrev main_call0_call5_c_28 : Ref sig .tc := ⟨.hbm, 677, rfl⟩
abbrev main_call0_call5_v111 : Ref sig .tc := ⟨.hbm, 678, rfl⟩
abbrev main_call0_call5_v112 : Ref sig .tc := ⟨.hbm, 679, rfl⟩
abbrev main_call0_call5_v113 : Ref sig .tc := ⟨.hbm, 680, rfl⟩
abbrev main_call0_call5_v114 : Ref sig .tc := ⟨.hbm, 681, rfl⟩
abbrev main_call0_call5_v115 : Ref sig .tc := ⟨.hbm, 682, rfl⟩
abbrev main_call0_call5_c_29 : Ref sig .tc := ⟨.hbm, 683, rfl⟩
abbrev main_call0_call5_v116 : Ref sig .tc := ⟨.hbm, 684, rfl⟩
abbrev main_call0_call5_v117 : Ref sig .tc := ⟨.hbm, 685, rfl⟩
abbrev main_call0_call5_c_30 : Ref sig .tc := ⟨.hbm, 686, rfl⟩
abbrev main_call0_call5_v118 : Ref sig .tc := ⟨.hbm, 687, rfl⟩
abbrev main_call0_call5_v119 : Ref sig .tc := ⟨.hbm, 688, rfl⟩
abbrev main_call0_call5_v120 : Ref sig .tc := ⟨.hbm, 689, rfl⟩
abbrev main_call0_call5_v121 : Ref sig .tc := ⟨.hbm, 690, rfl⟩
abbrev main_call0_call5_v122 : Ref sig .tc := ⟨.hbm, 691, rfl⟩
abbrev main_call0_call5_c_31 : Ref sig .tc := ⟨.hbm, 692, rfl⟩
abbrev main_call0_call5_v123 : Ref sig .tc := ⟨.hbm, 693, rfl⟩
abbrev main_call0_call5_v124 : Ref sig .tc := ⟨.hbm, 694, rfl⟩
abbrev main_call0_call5_c_32 : Ref sig .tc := ⟨.hbm, 695, rfl⟩
abbrev main_call0_call5_v125 : Ref sig .tc := ⟨.hbm, 696, rfl⟩
abbrev main_call0_call5_v126 : Ref sig .tc := ⟨.hbm, 697, rfl⟩
abbrev main_call0_call5_v127 : Ref sig .tc := ⟨.hbm, 698, rfl⟩
abbrev main_call0_call5_v128 : Ref sig .tc := ⟨.hbm, 699, rfl⟩
abbrev main_call0_call5_v129 : Ref sig .tc := ⟨.hbm, 700, rfl⟩
abbrev main_call0_call5_c_33 : Ref sig .tc := ⟨.hbm, 701, rfl⟩
abbrev main_call0_call5_v130 : Ref sig .tc := ⟨.hbm, 702, rfl⟩
abbrev main_call0_call5_v131 : Ref sig .tc := ⟨.hbm, 703, rfl⟩
abbrev main_call0_call5_c_34 : Ref sig .tc := ⟨.hbm, 704, rfl⟩
abbrev main_call0_call5_v132 : Ref sig .tc := ⟨.hbm, 705, rfl⟩
abbrev main_call0_call5_v133 : Ref sig .tc := ⟨.hbm, 706, rfl⟩
abbrev main_call0_call5_v134 : Ref sig .tc := ⟨.hbm, 707, rfl⟩
abbrev main_call0_call5_v135 : Ref sig .tc := ⟨.hbm, 708, rfl⟩
abbrev main_call0_call5_v136 : Ref sig .tc := ⟨.hbm, 709, rfl⟩
abbrev main_call0_call5_v137 : Ref sig .tc := ⟨.hbm, 710, rfl⟩
abbrev main_call0_call5_v138 : Ref sig .tc := ⟨.hbm, 711, rfl⟩
abbrev main_call0_call5_v139 : Ref sig .tc := ⟨.hbm, 712, rfl⟩
abbrev main_call0_call5_c_35 : Ref sig .tc := ⟨.hbm, 713, rfl⟩
abbrev main_call0_call5_v140 : Ref sig .tc := ⟨.hbm, 714, rfl⟩
abbrev main_call0_call5_v141 : Ref sig .tc := ⟨.hbm, 715, rfl⟩
abbrev main_call0_call5_v142 : Ref sig .tc := ⟨.hbm, 716, rfl⟩
abbrev main_call0_call5_c_36 : Ref sig .tc := ⟨.hbm, 717, rfl⟩
abbrev main_call0_call5_v143 : Ref sig .tc := ⟨.hbm, 718, rfl⟩
abbrev main_call0_call5_v144 : Ref sig .tc := ⟨.hbm, 719, rfl⟩
abbrev main_call0_call5_c_37 : Ref sig .tc := ⟨.hbm, 720, rfl⟩
abbrev main_call0_call5_v145 : Ref sig .tc := ⟨.hbm, 721, rfl⟩
abbrev main_call0_call5_v146 : Ref sig .tc := ⟨.hbm, 722, rfl⟩
abbrev main_call0_call5_v147 : Ref sig .tc := ⟨.hbm, 723, rfl⟩
abbrev main_call0_call5_v148 : Ref sig .tc := ⟨.hbm, 724, rfl⟩
abbrev main_call0_call5_v149 : Ref sig .tc := ⟨.hbm, 725, rfl⟩
abbrev main_call0_call5_c_38 : Ref sig .tc := ⟨.hbm, 726, rfl⟩
abbrev main_call0_call5_v150 : Ref sig .tc := ⟨.hbm, 727, rfl⟩
abbrev main_call0_call5_v151 : Ref sig .tc := ⟨.hbm, 728, rfl⟩
abbrev main_call0_call5_c_39 : Ref sig .tc := ⟨.hbm, 729, rfl⟩
abbrev main_call0_call5_v152 : Ref sig .tc := ⟨.hbm, 730, rfl⟩
abbrev main_call0_call5_v153 : Ref sig .tc := ⟨.hbm, 731, rfl⟩
abbrev main_call0_call5_v154 : Ref sig .tc := ⟨.hbm, 732, rfl⟩
abbrev main_call0_call5_v155 : Ref sig .tc := ⟨.hbm, 733, rfl⟩
abbrev main_call0_call5_v156 : Ref sig .tc := ⟨.hbm, 734, rfl⟩
abbrev main_call0_call5_c_40 : Ref sig .tc := ⟨.hbm, 735, rfl⟩
abbrev main_call0_call5_v157 : Ref sig .tc := ⟨.hbm, 736, rfl⟩
abbrev main_call0_call5_v158 : Ref sig .tc := ⟨.hbm, 737, rfl⟩
abbrev main_call0_call5_c_41 : Ref sig .tc := ⟨.hbm, 738, rfl⟩
abbrev main_call0_call5_v159 : Ref sig .tc := ⟨.hbm, 739, rfl⟩
abbrev main_call0_call5_v160 : Ref sig .tc := ⟨.hbm, 740, rfl⟩
abbrev main_call0_call5_v161 : Ref sig .tc := ⟨.hbm, 741, rfl⟩
abbrev main_call0_call5_v162 : Ref sig .tc := ⟨.hbm, 742, rfl⟩
abbrev main_call0_call5_v163 : Ref sig .tc := ⟨.hbm, 743, rfl⟩
abbrev main_call0_call5_c_42 : Ref sig .tc := ⟨.hbm, 744, rfl⟩
abbrev main_call0_call5_v164 : Ref sig .tc := ⟨.hbm, 745, rfl⟩
abbrev main_call0_call5_v165 : Ref sig .tc := ⟨.hbm, 746, rfl⟩
abbrev main_call0_call5_c_43 : Ref sig .tc := ⟨.hbm, 747, rfl⟩
abbrev main_call0_call5_v166 : Ref sig .tc := ⟨.hbm, 748, rfl⟩
abbrev main_call0_call5_v167 : Ref sig .tc := ⟨.hbm, 749, rfl⟩
abbrev main_call0_call5_v168 : Ref sig .tc := ⟨.hbm, 750, rfl⟩
abbrev main_call0_call5_v169 : Ref sig .tc := ⟨.hbm, 751, rfl⟩
abbrev main_call0_call5_v170 : Ref sig .tc := ⟨.hbm, 752, rfl⟩
abbrev main_call0_v45_0 : Ref sig .tc := ⟨.hbm, 753, rfl⟩
abbrev main_call0_call5_v172 : Ref sig .tc := ⟨.hbm, 754, rfl⟩
abbrev main_call0_call5_v173 : Ref sig .tc := ⟨.hbm, 755, rfl⟩
abbrev main_call0_call5_c_44 : Ref sig .tc := ⟨.hbm, 756, rfl⟩
abbrev main_call0_call5_v174 : Ref sig .tc := ⟨.hbm, 757, rfl⟩
abbrev main_call0_v45_1 : Ref sig .tc := ⟨.hbm, 758, rfl⟩
abbrev main_call0_v46 : Ref sig .tc := ⟨.hbm, 759, rfl⟩
abbrev main_call0_v47 : Ref sig .tc := ⟨.hbm, 760, rfl⟩
abbrev main_call0_v48 : Ref sig .tc := ⟨.hbm, 761, rfl⟩
abbrev main_call0_v49 : Ref sig .tc := ⟨.hbm, 762, rfl⟩
abbrev main_call0_c_12 : Ref sig .tc := ⟨.hbm, 763, rfl⟩
abbrev main_call0_v50 : Ref sig .tc := ⟨.hbm, 764, rfl⟩
abbrev main_call0_v51 : Ref sig .tc := ⟨.hbm, 765, rfl⟩
abbrev main_call0_v52 : Ref sig .tc := ⟨.hbm, 766, rfl⟩
abbrev main_call0_v53 : Ref sig .tc := ⟨.hbm, 767, rfl⟩
abbrev main_call0_v54 : Ref sig .tc := ⟨.hbm, 768, rfl⟩
abbrev main_call0_c_13 : Ref sig .tc := ⟨.hbm, 769, rfl⟩
abbrev main_call0_v55 : Ref sig .tc := ⟨.hbm, 770, rfl⟩
abbrev main_call0_v56 : Ref sig .tc := ⟨.hbm, 771, rfl⟩
abbrev main_call0_v57 : Ref sig .tc := ⟨.hbm, 772, rfl⟩
abbrev main_call0_c_14 : Ref sig .tc := ⟨.hbm, 773, rfl⟩
abbrev main_call0_v58 : Ref sig .tc := ⟨.hbm, 774, rfl⟩
abbrev main_call0_v59 : Ref sig .tc := ⟨.hbm, 775, rfl⟩
abbrev main_call0_v60 : Ref sig .tc := ⟨.hbm, 776, rfl⟩
abbrev main_call0_v61 : Ref sig .tc := ⟨.hbm, 777, rfl⟩
abbrev main_call0_v62 : Ref sig .tc := ⟨.hbm, 778, rfl⟩
abbrev main_call0_v63 : Ref sig .tc := ⟨.hbm, 779, rfl⟩
abbrev main_call0_v64 : Ref sig .tc := ⟨.hbm, 780, rfl⟩
abbrev main_call0_v65 : Ref sig .tc := ⟨.hbm, 781, rfl⟩
abbrev main_call0_v66 : Ref sig .tc := ⟨.hbm, 782, rfl⟩
abbrev main_call0_v67 : Ref sig .tc := ⟨.hbm, 783, rfl⟩
abbrev main_call0_v68 : Ref sig .tc := ⟨.hbm, 784, rfl⟩
abbrev main_call0_v69 : Ref sig .tc := ⟨.hbm, 785, rfl⟩
abbrev main_call0_v70 : Ref sig .tc := ⟨.hbm, 786, rfl⟩
abbrev main_call0_v71 : Ref sig .tc := ⟨.hbm, 787, rfl⟩
abbrev main_call0_v72 : Ref sig .tc := ⟨.hbm, 788, rfl⟩
abbrev main_v10 : Ref sig .tc := ⟨.hbm, 789, rfl⟩
abbrev main_c_4 : Ref sig .tc := ⟨.hbm, 790, rfl⟩
abbrev main_v11 : Ref sig .tc := ⟨.hbm, 791, rfl⟩
abbrev main_v12 : Ref sig .tc := ⟨.hbm, 792, rfl⟩
abbrev main_c_5 : Ref sig .tc := ⟨.hbm, 793, rfl⟩
abbrev main_v13 : Ref sig .tc := ⟨.hbm, 794, rfl⟩
abbrev main_v14 : Ref sig .tc := ⟨.hbm, 795, rfl⟩
abbrev main_v15 : Ref sig .tc := ⟨.hbm, 796, rfl⟩
abbrev main_v16 : Ref sig .tc := ⟨.hbm, 797, rfl⟩
abbrev main_v17 : Ref sig .tc := ⟨.hbm, 798, rfl⟩
abbrev main_v18 : Ref sig .tc := ⟨.hbm, 799, rfl⟩
abbrev main_cst : Ref sig .tc := ⟨.hbm, 800, rfl⟩
abbrev main_v19 : Ref sig .tc := ⟨.hbm, 801, rfl⟩
abbrev main_cst_6 : Ref sig .tc := ⟨.hbm, 802, rfl⟩
abbrev main_v20 : Ref sig .tc := ⟨.hbm, 803, rfl⟩
abbrev main_cst_7 : Ref sig .tc := ⟨.hbm, 804, rfl⟩
abbrev main_v21 : Ref sig .tc := ⟨.hbm, 805, rfl⟩
abbrev main_v22 : Ref sig .tc := ⟨.hbm, 806, rfl⟩
abbrev main_v23 : Ref sig .tc := ⟨.hbm, 807, rfl⟩
abbrev main_values : Ref sig .tc := ⟨.hbm, 808, rfl⟩
abbrev main_indices : Ref sig .tc := ⟨.hbm, 809, rfl⟩
abbrev main_v24 : Ref sig .tc := ⟨.hbm, 810, rfl⟩
abbrev main_call1_c : Ref sig .tc := ⟨.hbm, 811, rfl⟩
abbrev main_call1_v0 : Ref sig .tc := ⟨.hbm, 812, rfl⟩
abbrev main_call1_v1 : Ref sig .tc := ⟨.hbm, 813, rfl⟩
abbrev main_call1_c_0 : Ref sig .tc := ⟨.hbm, 814, rfl⟩
abbrev main_call1_v2 : Ref sig .tc := ⟨.hbm, 815, rfl⟩
abbrev main_call1_v3 : Ref sig .tc := ⟨.hbm, 816, rfl⟩
abbrev main_call1_v4 : Ref sig .tc := ⟨.hbm, 817, rfl⟩
abbrev main_call1_c_1 : Ref sig .tc := ⟨.hbm, 818, rfl⟩
abbrev main_call1_c_2 : Ref sig .tc := ⟨.hbm, 819, rfl⟩
abbrev main_call1_v5 : Ref sig .tc := ⟨.hbm, 820, rfl⟩
abbrev main_call1_v6 : Ref sig .tc := ⟨.hbm, 821, rfl⟩
abbrev main_call1_v7 : Ref sig .tc := ⟨.hbm, 822, rfl⟩
abbrev main_call1_v8 : Ref sig .tc := ⟨.hbm, 823, rfl⟩
abbrev main_call1_v9 : Ref sig .tc := ⟨.hbm, 824, rfl⟩
abbrev main_call1_v10 : Ref sig .tc := ⟨.hbm, 825, rfl⟩
abbrev main_call1_c_3 : Ref sig .tc := ⟨.hbm, 826, rfl⟩
abbrev main_call1_v11 : Ref sig .tc := ⟨.hbm, 827, rfl⟩
abbrev main_call1_v12 : Ref sig .tc := ⟨.hbm, 828, rfl⟩
abbrev main_call1_v13 : Ref sig .tc := ⟨.hbm, 829, rfl⟩
abbrev main_call1_cst : Ref sig .tc := ⟨.hbm, 830, rfl⟩
abbrev main_call1_v14 : Ref sig .tc := ⟨.hbm, 831, rfl⟩
abbrev main_v25 : Ref sig .tc := ⟨.hbm, 832, rfl⟩
abbrev main_v26 : Ref sig .tc := ⟨.hbm, 833, rfl⟩
abbrev main_cst_8 : Ref sig .tc := ⟨.hbm, 834, rfl⟩
abbrev main_v27 : Ref sig .tc := ⟨.hbm, 835, rfl⟩
abbrev main_v28 : Ref sig .tc := ⟨.hbm, 836, rfl⟩
abbrev main_call2_call0_cst : Ref sig .tc := ⟨.hbm, 837, rfl⟩
abbrev main_call2_call0_v0 : Ref sig .tc := ⟨.hbm, 838, rfl⟩
abbrev main_v29 : Ref sig .tc := ⟨.hbm, 839, rfl⟩
abbrev main_c_9 : Ref sig .tc := ⟨.hbm, 840, rfl⟩
abbrev main_v30 : Ref sig .tc := ⟨.hbm, 841, rfl⟩
abbrev main_call3_v0 : Ref sig .tc := ⟨.hbm, 842, rfl⟩
abbrev main_call3_c : Ref sig .tc := ⟨.hbm, 843, rfl⟩
abbrev main_call3_v1 : Ref sig .tc := ⟨.hbm, 844, rfl⟩
abbrev main_call3_v2 : Ref sig .tc := ⟨.hbm, 845, rfl⟩
abbrev main_call3_v3 : Ref sig .tc := ⟨.hbm, 846, rfl⟩
abbrev main_call3_v4 : Ref sig .tc := ⟨.hbm, 847, rfl⟩
abbrev main_call3_c_0 : Ref sig .tc := ⟨.hbm, 848, rfl⟩
abbrev main_call3_v5 : Ref sig .tc := ⟨.hbm, 849, rfl⟩
abbrev main_v31 : Ref sig .tc := ⟨.hbm, 850, rfl⟩
abbrev main_v32 : Ref sig .tc := ⟨.hbm, 851, rfl⟩
abbrev main_v33 : Ref sig .tc := ⟨.hbm, 852, rfl⟩
abbrev main_cst_10 : Ref sig .tc := ⟨.hbm, 853, rfl⟩
abbrev main_call4_v0 : Ref sig .tc := ⟨.hbm, 854, rfl⟩
abbrev main_call4_v1 : Ref sig .tc := ⟨.hbm, 855, rfl⟩
abbrev main_call4_v2 : Ref sig .tc := ⟨.hbm, 856, rfl⟩
abbrev main_v34 : Ref sig .tc := ⟨.hbm, 857, rfl⟩
abbrev main_cst_11 : Ref sig .tc := ⟨.hbm, 858, rfl⟩
abbrev main_v35 : Ref sig .tc := ⟨.hbm, 859, rfl⟩
abbrev main_cst_12 : Ref sig .tc := ⟨.hbm, 860, rfl⟩
abbrev main_v36 : Ref sig .tc := ⟨.hbm, 861, rfl⟩
abbrev main_v37 : Ref sig .tc := ⟨.hbm, 862, rfl⟩
abbrev main_v38 : Ref sig .tc := ⟨.hbm, 863, rfl⟩
abbrev main_v39 : Ref sig .tc := ⟨.hbm, 864, rfl⟩
abbrev main_v40 : Ref sig .tc := ⟨.hbm, 865, rfl⟩
abbrev main_v41 : Ref sig .tc := ⟨.hbm, 866, rfl⟩
abbrev main_cst_13 : Ref sig .tc := ⟨.hbm, 867, rfl⟩
abbrev main_v42 : Ref sig .tc := ⟨.hbm, 868, rfl⟩
abbrev main_v43 : Ref sig .tc := ⟨.hbm, 869, rfl⟩
abbrev main_v44 : Ref sig .tc := ⟨.hbm, 870, rfl⟩
abbrev main_v45 : Ref sig .tc := ⟨.hbm, 871, rfl⟩
abbrev main_v46 : Ref sig .tc := ⟨.hbm, 872, rfl⟩
abbrev main_v47 : Ref sig .tc := ⟨.hbm, 873, rfl⟩
abbrev main_v48 : Ref sig .tc := ⟨.hbm, 874, rfl⟩
abbrev main_v49 : Ref sig .tc := ⟨.hbm, 875, rfl⟩
abbrev main_v50 : Ref sig .tc := ⟨.hbm, 876, rfl⟩
abbrev main_c_14 : Ref sig .tc := ⟨.hbm, 877, rfl⟩
abbrev main_v51 : Ref sig .tc := ⟨.hbm, 878, rfl⟩
abbrev main_v52 : Ref sig .tc := ⟨.hbm, 879, rfl⟩
abbrev main_c_15 : Ref sig .tc := ⟨.hbm, 880, rfl⟩
abbrev main_v53 : Ref sig .tc := ⟨.hbm, 881, rfl⟩
abbrev main_v54 : Ref sig .tc := ⟨.hbm, 882, rfl⟩
abbrev main_v55 : Ref sig .tc := ⟨.hbm, 883, rfl⟩
abbrev main_c_16 : Ref sig .tc := ⟨.hbm, 884, rfl⟩
abbrev main_v56 : Ref sig .tc := ⟨.hbm, 885, rfl⟩
abbrev main_v57 : Ref sig .tc := ⟨.hbm, 886, rfl⟩
abbrev main_c_17 : Ref sig .tc := ⟨.hbm, 887, rfl⟩
abbrev main_v58 : Ref sig .tc := ⟨.hbm, 888, rfl⟩
abbrev main_v59 : Ref sig .tc := ⟨.hbm, 889, rfl⟩
abbrev main_v60 : Ref sig .tc := ⟨.hbm, 890, rfl⟩
abbrev main_c_18 : Ref sig .tc := ⟨.hbm, 891, rfl⟩
abbrev main_v61 : Ref sig .tc := ⟨.hbm, 892, rfl⟩
abbrev main_v62 : Ref sig .tc := ⟨.hbm, 893, rfl⟩
abbrev main_c_19 : Ref sig .tc := ⟨.hbm, 894, rfl⟩
abbrev main_v63 : Ref sig .tc := ⟨.hbm, 895, rfl⟩
abbrev main_v64 : Ref sig .tc := ⟨.hbm, 896, rfl⟩
abbrev main_v65 : Ref sig .tc := ⟨.hbm, 897, rfl⟩
abbrev main_v66 : Ref sig .tc := ⟨.hbm, 898, rfl⟩
abbrev main_v67 : Ref sig .tc := ⟨.hbm, 899, rfl⟩
abbrev main_v68 : Ref sig .tc := ⟨.hbm, 900, rfl⟩
abbrev main_v69 : Ref sig .tc := ⟨.hbm, 901, rfl⟩
abbrev main_v70 : Ref sig .tc := ⟨.hbm, 902, rfl⟩
abbrev main_v71 : Ref sig .tc := ⟨.hbm, 903, rfl⟩
abbrev main_v72 : Ref sig .tc := ⟨.hbm, 904, rfl⟩
abbrev main_v73 : Ref sig .tc := ⟨.hbm, 905, rfl⟩

abbrev nD : Nat := 1
abbrev τ : Topo := Topo.v7x

variable {F : FTy → Type} [FloatOps F]
-- ==== Proof.KernelFrame.lean ====
/- The frame of the program as printed: it terminates, its arguments end unchanged, and every counter ends at zero.
   Nothing is said of what it writes. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Quiet

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The only buffer the lines after the region write. -/
def T0 : Finset (Ref sig .tc) := {main_v31}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-- The staging buffers the body works on at point `t`. -/
abbrev ms0_0 (t : Fin cfg0.N) : Memref sig .tc .vmem S2048x2048 .f32 := win0_0.stage (cfg0.slots t 0)
abbrev ms0_1 (t : Fin cfg0.N) : Memref sig .tc .vmem S1x2048x128 .f32 := win0_1.stage (cfg0.slots t 1)
abbrev ms0_2 (t : Fin cfg0.N) : Memref sig .tc .vmem S1x2048x128 .f32 := win0_2.stage (cfg0.slots t 2)
abbrev ms0_3 (t : Fin cfg0.N) : Memref sig .tc .vmem S1x2048x128 .f32 := win0_3.stage (cfg0.slots t 3)
abbrev ms0_4 (t : Fin cfg0.N) : Memref sig .tc .vmem S1x2048x128 .f32 := win0_4.stage (cfg0.slots t 4)

/-- The two scratch buffers. -/
abbrev scM0_0 : Memref sig .tc .vmem S1x2048 .f32 := Memref.whole cc0_scratch0
abbrev scM0_1 : Memref sig .tc .vmem S40x2048 .f32 := Memref.whole cc0_scratch1

/-- The invariant between points: the scratch at some contents, and the generator register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The window whose contents are not followed: the output. -/
def forgets0 : Fin 5 → Bool := fun w => w.val == 4

/-- The proof data: arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's staging buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

set_option maxHeartbeats 1000000 in
/-- The body's triple: the inputs as they were, the output and the scratch at some contents. -/
theorem kernelRun (c : Dev nD) (i : grid0.Coords) (arg2 : Memref sig .tc .vmem S2048x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048 .f32) (harg7 : arg7.IsWhole) (arg8 : Memref sig .tc .vmem S40x2048 .f32) (harg8 : arg8.IsWhole)
    (x0 : Vec F S2048x2048 .f32) (x1 : Vec F S1x2048x128 .f32) (x2 : Vec F S1x2048x128 .f32) (x3 : Vec F S1x2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__head_kernel i arg2 harg2 arg3 harg3 arg4 harg4 arg5 harg5 arg6 harg6 arg7 harg7 arg8 harg8) K := by
    intro E K
    simp only [cc0__head_kernel_eq_skeleton]; unfold cc0__head_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The run, without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (fun c => (dats m 0 c).toRForget forgets0) (A_eq m) (run_main m ρ))
    ((θ_run defs _ _).mono (fun _ h => h.2) (run_main_quiescent m ρ))

end Cert.Kernel.Quiet

end
-- ==== Proof.Trips.lean ====
/- The two counted loops of the kernel (one per head of a block): forty trips, each picking the first position of the
   largest entry left, storing its indicator row and masking that entry with minus infinity.  Their invariants, with
   the rows stored so far as an explicit function of the vector the loop starts from. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pointwise

@[expose] public section

set_option maxRecDepth 8192
set_option maxHeartbeats 4000000

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The vector a loop carries into trip `k`: the start, with the entries picked by the trips before masked. -/
def carry (lin : IVec S1x2048 32) (start : Vec F S1x2048 .f32) : ℕ → Vec F S1x2048 .f32
  | 0 => start
  | k + 1 => k0_pay24 lin (carry lin start k)

/-- The forty indicator rows a loop stores: row `r` marks the position picked by trip `r`. -/
def picks (lin : IVec S1x2048 32) (start : Vec F S1x2048 .f32) : Vec F S40x2048 .f32 :=
  fun x => k0_pay23 lin (carry lin start (x 0).val) (ix2 0 (x 1))

/-- The rows of the first `k` trips are in the buffer. -/
def RowsIn (arg8 : Memref sig .tc .vmem S40x2048 .f32) (lin : IVec S1x2048 32) (start : Vec F S1x2048 .f32) (k : ℕ)
    (f : BufTy.Contents (Elt F) arg8.view.ty) : Prop :=
  ∀ x : S40x2048.Idx, (x 0).val < k → arg8.view.read (Elt F) f x = picks lin start x

theorem rowsIn_zero (arg8 : Memref sig .tc .vmem S40x2048 .f32) (lin : IVec S1x2048 32) (start : Vec F S1x2048 .f32)
    (f : BufTy.Contents (Elt F) arg8.view.ty) : RowsIn arg8 lin start 0 f :=
  fun _ h => absurd h (Nat.not_lt_zero _)

/-- One more row: writing the row of trip `k` over a buffer that holds the rows before. -/
theorem rowsIn_succ (arg8 : Memref sig .tc .vmem S40x2048 .f32) (lin : IVec S1x2048 32) (start : Vec F S1x2048 .f32)
    (k : ℕ) (off : Fin 2 → ℕ) (h0 : off 0 = k) (h1 : off 1 = 0)
    (inb : ∀ a, off a + S1x2048.size a ≤ S40x2048.size a)
    (f : BufTy.Contents (Elt F) arg8.view.ty) (hf : RowsIn arg8 lin start k f) :
    RowsIn arg8 lin start (k + 1)
      (arg8.view.writes (Elt F) f [⟨Rect.unit (s := S40x2048) off S1x2048.size inb, k0_pay23 lin (carry lin start k)⟩]) := by
  intro x hx
  by_cases hk : (x 0).val = k
  · rw [View.read_writes_cons_hit_of_coords arg8.view f (Rect.unit (s := S40x2048) off S1x2048.size inb)
      (k0_pay23 lin (carry lin start k)) [] (show S1x2048.Idx from ix2 0 (x 1)) x ?_]
    · unfold picks; rw [hk]
    · intro a
      fin_cases a
      · simpa [Rect.unit, h0] using hk
      · simp [Rect.unit, h1, ix2]
  · rw [View.read_writes_cons_miss_of_axis arg8.view f _ [] x 0 k 1 (by simpa [Rect.unit] using h0) (by rfl) (by rfl) ?_]
    · exact hf x (lt_of_le_of_ne (Nat.le_of_lt_succ hx) hk)
    · exact Or.inl (lt_of_le_of_ne (Nat.le_of_lt_succ hx) hk)

set_option warn.classDefReducibility false in
/-- The first head's loop. -/
@[sl_loop] def loop1 (𝒱 : Variants) (c : Dev nD) (bd : Option 𝒱.V) (E : Set ℕ) (i : grid0.Coords) (arg2 : Memref sig .tc .vmem S2048x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048 .f32) (harg7 : arg7.IsWhole) (arg8 : Memref sig .tc .vmem S40x2048 .f32) (harg8 : arg8.IsWhole) (v77 : IVec S1x2048 32) (v97 : FVec F S1x1024 .f32) (init : Vec F S1x2048 .f32) :
    LoopInv (M := 𝕄G) Idealize.ShloMosaic.frame (wpE defs₀ 𝒱 (c : Thread nD τ) bd) E
      k0_t1_loop.lb k0_t1_loop.ub k0_t1_loop.st k0_t1_ok init (k0_t1_body (F := F) i arg2 harg2 arg3 harg3 arg4 harg4 arg5 harg5 arg6 harg6 arg7 harg7 arg8 harg8 v77 v97) where
  inv k acc := iprop((∃ f, (arg8.view.loc (c : Thread nD τ) ↦[arg8.view.set]{fullShare} f) ∗ ⌜k = 0 ∨ RowsIn arg8 v77 init k f⌝) ∗ ⌜acc = carry v77 init k⌝)
  step k acc := by
    have hk : k.val < 40 := Nat.lt_of_lt_of_le k.isLt k0_t1_abs.2.1
    iintro ⟨⟨%f, H, %hf⟩, %hacc⟩
    subst hacc
    have hf : RowsIn arg8 v77 init k.val f := hf.elim (fun h => h ▸ rowsIn_zero _ _ _ _) id
    unfold k0_t1_body
    sl_exec
    sl_step
    isplitl [H]
    · iexists _; isplitl [H]; · iexact H
      ipureintro
      exact Or.inr <| rowsIn_succ arg8 v77 init k.val (k0_off1 k) (by rw [k0_off1_eq]; rfl) (by rw [k0_off1_eq]; rfl) (k0_off1_inb k) f hf
    ipureintro; rfl

set_option warn.classDefReducibility false in
/-- The second head's loop. -/
@[sl_loop] def loop2 (𝒱 : Variants) (c : Dev nD) (bd : Option 𝒱.V) (E : Set ℕ) (i : grid0.Coords) (arg2 : Memref sig .tc .vmem S2048x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048 .f32) (harg7 : arg7.IsWhole) (arg8 : Memref sig .tc .vmem S40x2048 .f32) (harg8 : arg8.IsWhole) (v77 : IVec S1x2048 32) (v78 : IVec S40x40 32) (v79 : IVec S40x40 32) (v191 : FVec F S2048x1024 .f32) (v193 : FVec F S2048x1024 .f32) (v194 : FVec F S2048x1024 .f32) (init : Vec F S1x2048 .f32) :
    LoopInv (M := 𝕄G) Idealize.ShloMosaic.frame (wpE defs₀ 𝒱 (c : Thread nD τ) bd) E
      k0_t2_loop.lb k0_t2_loop.ub k0_t2_loop.st k0_t2_ok init (k0_t2_body (F := F) i arg2 harg2 arg3 harg3 arg4 harg4 arg5 harg5 arg6 harg6 arg7 harg7 arg8 harg8 v77 v78 v79 v191 v193 v194) where
  inv k acc := iprop((∃ f, (arg8.view.loc (c : Thread nD τ) ↦[arg8.view.set]{fullShare} f) ∗ ⌜k = 0 ∨ RowsIn arg8 v77 init k f⌝) ∗ ⌜acc = carry v77 init k⌝)
  step k acc := by
    have hk : k.val < 40 := Nat.lt_of_lt_of_le k.isLt k0_t2_abs.2.1
    iintro ⟨⟨%f, H, %hf⟩, %hacc⟩
    subst hacc
    have hf : RowsIn arg8 v77 init k.val f := hf.elim (fun h => h ▸ rowsIn_zero _ _ _ _) id
    unfold k0_t2_body
    sl_exec
    sl_step
    isplitl [H]
    · iexists _; isplitl [H]; · iexact H
      ipureintro
      exact Or.inr <| rowsIn_succ arg8 v77 init k.val (k0_off2 k) (by rw [k0_off2_eq]; rfl) (by rw [k0_off2_eq]; rfl) (k0_off2_inb k) f hf
    ipureintro; rfl

end Cert.KernelIdeal.Value

end
-- ==== Proof.Body.lean ====
/- One run of the kernel's body on one block: the four arrays it reads end unchanged, the block it writes ends at
   `blockOut`, an explicit function of them. -/
module

public import proofs.«01_k».proof.Proof.Trips
public import Idealize.ShloMosaic.Lib.Pipeline.FrameBody
public import Idealize.ShloMosaic.Lib.WholeRead

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The running sums of the values, in blocks of 256 rows: the eight pieces stored. -/
def cumPieces (x3 : Vec F S1x2048x128 .f32) : List (View.Piece (Elt F) S1x2048x128 .f32) :=
  let b0 := View.ld x3 (Rect.unit (s := S1x2048x128) ![0, 0, 0] S1x256x128.size inb_S1x2048x128_S1x256x128_0_0_0)
  let b1 := View.ld x3 (Rect.unit (s := S1x2048x128) ![0, 256, 0] S1x256x128.size inb_S1x2048x128_S1x256x128_0_256_0)
  let b2 := View.ld x3 (Rect.unit (s := S1x2048x128) ![0, 512, 0] S1x256x128.size inb_S1x2048x128_S1x256x128_0_512_0)
  let b3 := View.ld x3 (Rect.unit (s := S1x2048x128) ![0, 768, 0] S1x256x128.size inb_S1x2048x128_S1x256x128_0_768_0)
  let b4 := View.ld x3 (Rect.unit (s := S1x2048x128) ![0, 1024, 0] S1x256x128.size inb_S1x2048x128_S1x256x128_0_1024_0)
  let b5 := View.ld x3 (Rect.unit (s := S1x2048x128) ![0, 1280, 0] S1x256x128.size inb_S1x2048x128_S1x256x128_0_1280_0)
  let b6 := View.ld x3 (Rect.unit (s := S1x2048x128) ![0, 1536, 0] S1x256x128.size inb_S1x2048x128_S1x256x128_0_1536_0)
  let b7 := View.ld x3 (Rect.unit (s := S1x2048x128) ![0, 1792, 0] S1x256x128.size inb_S1x2048x128_S1x256x128_0_1792_0)
  let s2 := k0_pay9 b0 b1 b2
  let s6 := k0_pay16 k0_pay2 s2 b3 b4 b5 b6
  [⟨Rect.unit ![0, 1792, 0] S1x256x128.size inb_S1x2048x128_S1x256x128_0_1792_0, k0_pay18 k0_pay2 s6 b7⟩,
   ⟨Rect.unit ![0, 1536, 0] S1x256x128.size inb_S1x2048x128_S1x256x128_0_1536_0, k0_pay17 s6⟩,
   ⟨Rect.unit ![0, 1280, 0] S1x256x128.size inb_S1x2048x128_S1x256x128_0_1280_0, k0_pay15 k0_pay2 s2 b3 b4 b5⟩,
   ⟨Rect.unit ![0, 1024, 0] S1x256x128.size inb_S1x2048x128_S1x256x128_0_1024_0, k0_pay13 k0_pay2 s2 b3 b4⟩,
   ⟨Rect.unit ![0, 768, 0] S1x256x128.size inb_S1x2048x128_S1x256x128_0_768_0, k0_pay11 k0_pay2 s2 b3⟩,
   ⟨Rect.unit ![0, 512, 0] S1x256x128.size inb_S1x2048x128_S1x256x128_0_512_0, k0_pay8 b0 b1 b2⟩,
   ⟨Rect.unit ![0, 256, 0] S1x256x128.size inb_S1x2048x128_S1x256x128_0_256_0, k0_pay6 b0 b1⟩,
   ⟨Rect.unit ![0, 0, 0] S1x256x128.size inb_S1x2048x128_S1x256x128_0_0_0, k0_pay4 b0⟩]

/-- The first head's measure of every query, in two halves. -/
def measPieces0 (x0 : Vec F S2048x2048 .f32) (x1 x2 : Vec F S1x2048x128 .f32) : List (View.Piece (Elt F) S1x2048 .f32) :=
  let k := View.ld x2 (Rect.unit (s := S1x2048x128) ![0, 0, 0] S1x2048x64.size inb_S1x2048x128_S1x2048x64_0_0_0)
  [⟨Rect.unit ![0, 1024] S1x1024.size inb_S1x2048_S1x1024_0_1024,
     k0_pay21 k (View.ld x1 (Rect.unit (s := S1x2048x128) ![0, 1024, 0] S1x1024x64.size inb_S1x2048x128_S1x1024x64_0_1024_0))
       (View.ld x0 (Rect.unit (s := S2048x2048) ![0, 1024] S2048x1024.size inb_S2048x2048_S2048x1024_0_1024))⟩,
   ⟨Rect.unit ![0, 0] S1x1024.size inb_S1x2048_S1x1024_0_0,
     k0_pay20 (k0_pay19 k (View.ld x1 (Rect.unit (s := S1x2048x128) ![0, 0, 0] S1x1024x64.size inb_S1x2048x128_S1x1024x64_0_0_0))
       (View.ld x0 (Rect.unit (s := S2048x2048) ![0, 0] S2048x1024.size inb_S2048x2048_S2048x1024_0_0)))⟩]

/-- The second head's. -/
def measPieces1 (x0 : Vec F S2048x2048 .f32) (x1 x2 : Vec F S1x2048x128 .f32) : List (View.Piece (Elt F) S1x2048 .f32) :=
  let k := View.ld x2 (Rect.unit (s := S1x2048x128) ![0, 0, 64] S1x2048x64.size inb_S1x2048x128_S1x2048x64_0_0_64)
  let n := View.ld x0 (Rect.unit (s := S2048x2048) ![0, 1024] S2048x1024.size inb_S2048x2048_S2048x1024_0_1024)
  [⟨Rect.unit ![0, 1024] S1x1024.size inb_S1x2048_S1x1024_0_1024,
     k0_pay32 (k0_pay29 k (View.ld x1 (Rect.unit (s := S1x2048x128) ![0, 1024, 64] S1x1024x64.size inb_S1x2048x128_S1x1024x64_0_1024_64)))
       (k0_pay30 n) k0_pay31⟩,
   ⟨Rect.unit ![0, 0] S1x1024.size inb_S1x2048_S1x1024_0_0,
     k0_pay28 k (View.ld x1 (Rect.unit (s := S1x2048x128) ![0, 0, 64] S1x1024x64.size inb_S1x2048x128_S1x1024x64_0_0_64))
       (View.ld x0 (Rect.unit (s := S2048x2048) ![0, 0] S2048x1024.size inb_S2048x2048_S2048x1024_0_0))⟩]

/-- The positions 0, 1, …, 2047 as words. -/
def lin : IVec S1x2048 32 := iota .tc S1x2048 32 [1] iota_S1x2048_d1_w32

/-- The measures a head's loop starts from. -/
def start0 (x0 : Vec F S2048x2048 .f32) (x1 x2 : Vec F S1x2048x128 .f32) : Vec F S1x2048 .f32 :=
  fun j => View.canon (measPieces0 x0 x1 x2) ((Rect.unit (s := S1x2048) ![0, 0] S1x2048.size inb_S1x2048_S1x2048_0_0).idx j)
@[inherit_doc start0]
def start1 (x0 : Vec F S2048x2048 .f32) (x1 x2 : Vec F S1x2048x128 .f32) : Vec F S1x2048 .f32 :=
  fun j => View.canon (measPieces1 x0 x1 x2 ++ measPieces0 x0 x1 x2) ((Rect.unit (s := S1x2048) ![0, 0] S1x2048.size inb_S1x2048_S1x2048_0_0).idx j)

/-- The first head's finished half block. -/
def head0 (x0 : Vec F S2048x2048 .f32) (x1 x2 x3 : Vec F S1x2048x128 .f32) : Vec F S1x2048x64 .f32 :=
  let oh := picks lin (start0 x0 x1 x2)
  k0_pay27 (k0_pay26 (iota .tc S40x40 32 [0] iota_S40x40_d0_w32) (iota .tc S40x40 32 [1] iota_S40x40_d1_w32) oh
    (k0_pay25 (View.ld x1 (Rect.unit (s := S1x2048x128) ![0, 0, 0] S1x2048x64.size inb_S1x2048x128_S1x2048x64_0_0_0)))
    (View.ld x2 (Rect.unit (s := S1x2048x128) ![0, 0, 0] S1x40x64.size inb_S1x2048x128_S1x40x64_0_0_0))
    (View.ld x3 (Rect.unit (s := S1x2048x128) ![0, 0, 0] S1x40x64.size inb_S1x2048x128_S1x40x64_0_0_0)) oh
    (fun j => View.canon (cumPieces x3) ((Rect.unit (s := S1x2048x128) ![0, 0, 0] S1x2048x64.size inb_S1x2048x128_S1x2048x64_0_0_0).idx j)))

/-- The pieces stored before the second head's last store. -/
def outPieces (x0 : Vec F S2048x2048 .f32) (x1 x2 x3 : Vec F S1x2048x128 .f32) : List (View.Piece (Elt F) S1x2048x128 .f32) :=
  ⟨Rect.unit ![0, 0, 0] S1x2048x64.size inb_S1x2048x128_S1x2048x64_0_0_0, head0 x0 x1 x2 x3⟩ :: cumPieces x3

/-- The second head's finished half block. -/
def head1 (x0 : Vec F S2048x2048 .f32) (x1 x2 x3 : Vec F S1x2048x128 .f32) : Vec F S1x2048x64 .f32 :=
  let oh := picks lin (start1 x0 x1 x2)
  k0_pay1 (k0_pay36 (iota .tc S40x40 32 [0] iota_S40x40_d0_w32) (iota .tc S40x40 32 [1] iota_S40x40_d1_w32) oh
      (View.ld x1 (Rect.unit (s := S1x2048x128) ![0, 0, 64] ![1, 2048, 64] inb_S1x2048x128_S1x2048x64_0_0_64))
      (View.ld x2 (Rect.unit (s := S1x2048x128) ![0, 0, 64] ![1, 40, 64] inb_S1x2048x128_S1x40x64_0_0_64)))
    (View.ld x3 (Rect.unit (s := S1x2048x128) ![0, 0, 64] ![1, 40, 64] inb_S1x2048x128_S1x40x64_0_0_64)) oh
    (fun j => View.canon (outPieces x0 x1 x2 x3) ((Rect.unit (s := S1x2048x128) ![0, 0, 64] ![1, 2048, 64] inb_S1x2048x128_S1x2048x64_0_0_64).idx j))

/-- The block one run of the body leaves: the running sums, each head's half written over. -/
def blockOut (x0 : Vec F S2048x2048 .f32) (x1 x2 x3 : Vec F S1x2048x128 .f32) : Vec F S1x2048x128 .f32 :=
  View.canon (⟨Rect.unit ![0, 0, 64] ![1, 2048, 64] inb_S1x2048x128_S1x2048x64_0_0_64, head1 x0 x1 x2 x3⟩ :: outPieces x0 x1 x2 x3)

/-- A load through a whole buffer held at given contents. -/
theorem load_whole {S : Shape} {e : EltTy} {m : Memref sig .tc .vmem S e} (h : m.IsWhole) (X : S.Idx → Elt F e) (r : Rect S) :
    View.readAt (Elt F) m.view r.toLoadRect (h.unread X) = View.ld X r :=
  funext fun x => h.readAt_unread X _ x

/-- Forty rows stored: the buffer reads the whole table. -/
theorem load_rows (arg8 : Memref sig .tc .vmem S40x2048 .f32) (l : IVec S1x2048 32) (start : Vec F S1x2048 .f32) (k : ℕ) (hk : k = 40)
    (f : BufTy.Contents (Elt F) arg8.view.ty) (h : k = 0 ∨ RowsIn arg8 l start k f) (inb) :
    View.readAt (Elt F) arg8.view (Rect.unit (s := S40x2048) ![0, 0] S40x2048.size inb).toLoadRect f = picks l start := by
  funext x
  have h' : RowsIn arg8 l start k f := h.resolve_left (by omega)
  have e : (Rect.unit (s := S40x2048) ![0, 0] S40x2048.size inb).toLoadRect.idx x = x := by
    funext a; fin_cases a <;> exact Fin.ext (by simp [Rect.unit, LoadRect.idx, Rect.toLoadRect])
  have hx : (x 0).val < k := by rw [hk]; exact (x 0).isLt
  have := h' x hx
  rw [← this, View.readAt_apply, e]

set_option maxHeartbeats 1000000 in
/-- The body, run from owned blocks. -/
theorem kernelRun (c : Dev nD) (i : grid0.Coords) (arg2 : Memref sig .tc .vmem S2048x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048 .f32) (harg7 : arg7.IsWhole) (arg8 : Memref sig .tc .vmem S40x2048 .f32) (harg8 : arg8.IsWhole)
    (x0 : Vec F S2048x2048 .f32) (x1 : Vec F S1x2048x128 .f32) (x2 : Vec F S1x2048x128 .f32) (x3 : Vec F S1x2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (blockOut x0 x1 x2 x3) ∗ (∃ d, owns (c : Thread nD τ) arg7 fullShare d) ∗ (∃ d, owns (c : Thread nD τ) arg8 fullShare d)) -∗ K ⟨⟩))
          ⊢ wp frame (wpE (defs₀ (F := F)) Variants.none c none) E (cc0__head_kernel i arg2 harg2 arg3 harg3 arg4 harg4 arg5 harg5 arg6 harg6 arg7 harg7 arg8 harg8) K := by
    intro E K
    simp only [cc0__head_kernel_eq_skeleton]; unfold cc0__head_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      have e0 := load_rows arg8 _ _ _ (by rfl) fL0 hL1 inb_S40x2048_S40x2048_0_0
      have e1 := load_rows arg8 _ _ _ (by rfl) fL1 hL4 inb_S40x2048_S40x2048_0_0
      clear hL1 hL4
      unfold kernelRun.sl.v122 kernelRun.sl.v77 kernelRun.sl.HS0_2 kernelRun.sl.r_2 at e0
      unfold kernelRun.sl.v208 kernelRun.sl.v77 kernelRun.sl.HS0_4 kernelRun.sl.r_6 kernelRun.sl.r_7 at e1
      unfold kernelRun.sl.HS0_2 kernelRun.sl.r_2 at e1
      simp only [load_whole, View.readCov_eq_canon'] at e0 e1
      have f0 : View.readAt (Elt F) arg8.view (Rect.unit (s := S40x2048) ![0, 0] S40x2048.size inb_S40x2048_S40x2048_0_0).toLoadRect fL0 = picks lin (start0 x0 x1 x2) := e0
      have f1 : View.readAt (Elt F) arg8.view (Rect.unit (s := S40x2048) ![0, 0] S40x2048.size inb_S40x2048_S40x2048_0_0).toLoadRect fL1 = picks lin (start1 x0 x1 x2) := e1
      rw [View.read_writes_junk_eq_canon]
      unfold kernelRun.sl.v244 kernelRun.sl.r_5 kernelRun.sl.r_8 kernelRun.sl.r_3 kernelRun.sl.r_4 kernelRun.sl.v78 kernelRun.sl.v79 kernelRun.sl.v158
      unfold kernelRun.sl.H4_8
      unfold kernelRun.sl.r_1
      unfold kernelRun.sl.r
      simp only [load_whole, View.readCov_eq_canon']
      erw [f0, f1]
      rfl
    isplitl [HS0]
    · iexists _, _; isplitr; swap; · iexact HS0
      ipureintro; rfl
    iexists _, _; isplitr; swap; · iexact HS1
    ipureintro; rfl

end Cert.KernelIdeal.Value

end
-- ==== Proof.KernelRun.lean ====
/- The run of the whole idealized program: it terminates, the arguments end unchanged, every counter ends at zero, and
   the array the pipeline writes is assembled from the blocks `blockOut`. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers the body works on at point `t`. -/
abbrev ms0_0 (t : Fin cfg0.N) : Memref sig .tc .vmem S2048x2048 .f32 := win0_0.stage (cfg0.slots t 0)
abbrev ms0_1 (t : Fin cfg0.N) : Memref sig .tc .vmem S1x2048x128 .f32 := win0_1.stage (cfg0.slots t 1)
abbrev ms0_2 (t : Fin cfg0.N) : Memref sig .tc .vmem S1x2048x128 .f32 := win0_2.stage (cfg0.slots t 2)
abbrev ms0_3 (t : Fin cfg0.N) : Memref sig .tc .vmem S1x2048x128 .f32 := win0_3.stage (cfg0.slots t 3)
abbrev ms0_4 (t : Fin cfg0.N) : Memref sig .tc .vmem S1x2048x128 .f32 := win0_4.stage (cfg0.slots t 4)

/-- The two scratch buffers. -/
abbrev scM0_0 : Memref sig .tc .vmem S1x2048 .f32 := Memref.whole cc0_scratch0
abbrev scM0_1 : Memref sig .tc .vmem S40x2048 .f32 := Memref.whole cc0_scratch1

/-- The invariant between points: the scratch at some contents, and the generator register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data: arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => blockOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOut (iblk m c 0 t) (iblk m c 1 t) (iblk m c 2 t) (iblk m c 3 t) := by
  dsimp only [dats]

/-- Each input's staging buffer holds its block when the body starts. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ  := fun t => by
  rw [bigSep_W0, bigSep_W0, defs₀_row]
  exact triple_restated (sound_body m c t) rfl .rfl fun _ => .rfl

set_option backward.isDefEq.respectTransparency.types false in
set_option maxHeartbeats 800000 in
/-- The run: the pipeline's arrays and every other buffer at named contents, the counters at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- What the result array holds after the run. -/
def result (c : Dev nD) : Buf (Elt F) ((c : Thread nD τ).loc main_v31) :=
  Pipeline.afterTail₀ cfgs (dats m) 0 (V0 m) [hostOps1] c main_v31

/-- The run, with the result named. -/
theorem value_run : θ_run defs (onTc (τ := τ) (main (F := F))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).2 main_v31 (Pipeline.mem_restRefs_of main_v31 (by decide) (by decide)), h.2.1 c⟩)
    (θ_run_and (run_main m ρ) (frame_run m ρ))

end Cert.KernelIdeal.Value

end
-- ==== Proof.Lines.lean ====
/-
  Stretches of host operations whose results lie in one interval of buffer numbers. Buffers are numbered in the order
  in which a program fills them, so a stretch leaves alone every buffer numbered outside its interval.
-/
module

public import Idealize.ShloMosaic.Lib.StableHlo.Run

@[expose] public section

noncomputable section

namespace Cert.Lines

open Idealize.ShloMosaic Idealize.ShloMosaic.StableHlo

variable {τ : Topo} {sig : RefSig} {Val : EltTy → Type}

/-- The operation touches the TensorCore's references only, decides its results, and writes buffers `lo … hi - 1` only. -/
structure Within (lo hi : Nat) (op : HloOp τ sig Val) : Prop where
  sub : op.bufs ⊆ tcRefs τ sig
  fresh : op.fresh = ∅
  keep : ∀ r : Ref sig .tc, r.idx.val < lo ∨ hi ≤ r.idx.val → Proc.devRef (τ := τ) .tc r ∉ op.writes

theorem not_single {lo hi : Nat} {y : Ref sig .tc} (h : lo ≤ y.idx.val ∧ y.idx.val < hi) (r : Ref sig .tc)
    (hr : r.idx.val < lo ∨ hi ≤ r.idx.val) : Proc.devRef (τ := τ) .tc r ∉ ({Proc.devRef .tc y} : Finset (DevRef τ sig)) := by
  rw [Finset.mem_singleton]
  exact devRef_ne_of_ne fun e => by subst e; omega

section Builders

variable {lo hi : Nat} {x y a b c : Ref sig .tc}

theorem Within.nullary {v : y.ty.Contents Val} {hy} (h : lo ≤ y.idx.val ∧ y.idx.val < hi) :
    Within lo hi (StableHlo.nullary (τ := τ) y v hy) := ⟨nullary_bufs_sub .., rfl, not_single h⟩

theorem Within.unary {f : x.ty.Contents Val → y.ty.Contents Val} {hx hy} (h : lo ≤ y.idx.val ∧ y.idx.val < hi) :
    Within lo hi (StableHlo.unary (τ := τ) x y f hx hy) := ⟨unary_bufs_sub .., rfl, not_single h⟩

theorem Within.binary {f : a.ty.Contents Val → b.ty.Contents Val → y.ty.Contents Val} {ha hb hy}
    (h : lo ≤ y.idx.val ∧ y.idx.val < hi) : Within lo hi (StableHlo.binary (τ := τ) a b y f ha hb hy) :=
  ⟨binary_bufs_sub .., rfl, not_single h⟩

theorem Within.ternary {f : c.ty.Contents Val → a.ty.Contents Val → b.ty.Contents Val → y.ty.Contents Val} {hc ha hb hy}
    (h : lo ≤ y.idx.val ∧ y.idx.val < hi) : Within lo hi (StableHlo.ternary (τ := τ) c a b y f hc ha hb hy) :=
  ⟨ternary_bufs_sub .., rfl, not_single h⟩

theorem Within.reshape {he hn hx hy} (h : lo ≤ y.idx.val ∧ y.idx.val < hi) :
    Within lo hi (StableHlo.reshape (τ := τ) (Val := Val) x y he hn hx hy) := ⟨reshape_bufs_sub .., rfl, not_single h⟩

theorem Within.nary {n : Nat} {xs : Fin n → Ref sig .tc} {f : ((k : Fin n) → (xs k).ty.Contents Val) → y.ty.Contents Val} {hxs hy}
    (h : lo ≤ y.idx.val ∧ y.idx.val < hi) : Within lo hi (StableHlo.nary (τ := τ) xs y f hxs hy) :=
  ⟨nary_bufs_sub .., rfl, not_single h⟩

end Builders

theorem forall_cons {p : HloOp τ sig Val → Prop} {op : HloOp τ sig Val} {ops : List (HloOp τ sig Val)}
    (h : p op) (hs : ops.Forall p) : (op :: ops).Forall p := (List.forall_cons _ _ _).2 ⟨h, hs⟩

theorem forall_append {p : HloOp τ sig Val → Prop} {ops ops' : List (HloOp τ sig Val)}
    (h : ops.Forall p) (h' : ops'.Forall p) : (ops ++ ops').Forall p := by
  rw [List.forall_iff_forall_mem] at *
  intro op hop
  rcases List.mem_append.1 hop with h1 | h1
  · exact h op h1
  · exact h' op h1

/-- A stretch leaves the buffers numbered outside its interval as they were. -/
theorem after_outside {lo hi : Nat} {ops : List (HloOp τ sig Val)} (h : ops.Forall (Within lo hi)) (V : Valuation τ sig Val)
    (r : Ref sig .tc) (hr : r.idx.val < lo ∨ hi ≤ r.idx.val) : after ops V (Proc.devRef .tc r) = V (Proc.devRef .tc r) :=
  after_of_forall_not_mem ops V fun op hop => ((List.forall_iff_forall_mem.1 h) op hop).keep r hr

end Cert.Lines

end
-- ==== Proof.ReferenceRun.lean ====
/-
  The reference's run. Its @main is host operations alone, so it runs to the fold of their results over the
  launch contents. The operations are read off in three stretches: those that build the key of the random draw, the
  draw's own 772, and the rest.
-/
module

public import proofs.«01_k».proof.Proof.Gen.ReferenceIdeal
public import Idealize.ShloMosaic.Lib.Claim
public import Idealize.ShloMosaic.Lib.Quiescent

@[expose] public section

set_option maxRecDepth 65536

noncomputable section

namespace Cert.ReferenceIdeal.Run

open Cert.ReferenceIdeal
open Idealize.ShloMosaic Idealize.SL.Sem Idealize.ShloMosaic.StableHlo

/-- A stretch of operations, then another. -/
theorem IsSeq.append {nD : Nat} {τ : Topo} {sig : RefSig} {Val : EltTy → Type} {Λ : Labels}
    {p k : Prog (TpuEff nD τ sig Val Λ .tc) PUnit} {ops ops' : List (HloOp τ sig Val)}
    (hp : IsSeq p ops) (hk : IsSeq k ops') : IsSeq (p >>= fun _ => k) (ops ++ ops') := by
  unfold IsSeq at hp hk ⊢
  subst hp
  induction ops with
  | nil => exact hk
  | cons op ops ih => exact IsSeq.cons (k := seq ops >>= fun _ => k) ih

variable {F : FTy → Type} [FloatOps F]

set_option maxHeartbeats 40000000 in
/-- The random draw's operations. -/
def randSeq : {ops : List (HloOp τ sig (Elt F)) //
    IsSeq (Λ := Pipeline.Sig Λ₀ (Fin 0) fun p => (pcfgs (F := F) p).Adm) (nD := nD)
      (fn_randint.body (.of main_v9) (.of main_c_2) (.of main_c_3) main_call0) ops} := by
  apply Subtype.mk
  hlo_seq

/-- Two stretches after one another, at the head of the first. -/
theorem IsSeq.cons_append {nD : Nat} {τ : Topo} {sig : RefSig} {Val : EltTy → Type} {Λ : Labels} {op : HloOp τ sig Val}
    {k : Prog (TpuEff nD τ sig Val Λ .tc) PUnit} {ops r : List (HloOp τ sig Val)} (h : IsSeq k (ops ++ r)) :
    IsSeq ((hlo rfl op fun _ => .ret (⟨⟩ : PUnit)) >>= fun _ => k) (op :: ops ++ r) := IsSeq.cons h

theorem IsSeq.nil_append {nD : Nat} {τ : Topo} {sig : RefSig} {Val : EltTy → Type} {Λ : Labels}
    {k : Prog (TpuEff nD τ sig Val Λ .tc) PUnit} {r : List (HloOp τ sig Val)} (h : IsSeq k r) : IsSeq k ([] ++ r) := h

set_option maxHeartbeats 40000000 in
/-- What comes before the draw and what comes after it. -/
def mainSeq : Σ' a b : List (HloOp τ sig (Elt F)), ∀ d, IsSeq (main (F := F) d) (a ++ (randSeq.1 ++ b)) := by
  apply PSigma.mk
  apply PSigma.mk
  intro d
  unfold main main_part0 main_part1
  iterate 15 apply IsSeq.cons_append
  apply IsSeq.nil_append
  first
    | apply IsSeq.append randSeq.2
    | fail "A"
  first
    | hlo_seq
    | fail "B"

end Cert.ReferenceIdeal.Run

end
-- ==== Proof.ReferenceLine.lean ====
/-
  Where the reference's three stretches write, and its run: it terminates, leaves its arguments, and no counter moves.
-/
module

public import proofs.«01_k».proof.Proof.Lines
public import proofs.«01_k».proof.Proof.ReferenceRun

@[expose] public section

set_option maxRecDepth 65536

noncomputable section

namespace Cert.ReferenceIdeal.Run

open Cert.ReferenceIdeal Cert.Lines
open Idealize.ShloMosaic Idealize.SL.Sem Idealize.ShloMosaic.StableHlo

variable {F : FTy → Type} [FloatOps F]

/-- The operations before the draw. -/
abbrev opsA : List (HloOp τ sig (Elt F)) := (mainSeq (F := F)).1

/-- The draw's operations. -/
abbrev opsB : List (HloOp τ sig (Elt F)) := (randSeq (F := F)).1

/-- The operations after the draw. -/
abbrev opsC : List (HloOp τ sig (Elt F)) := (mainSeq (F := F)).2.1

set_option maxHeartbeats 40000000 in
theorem within_A : (opsA (F := F)).Forall (Within 3 18) := by
  unfold opsA mainSeq
  dsimp only
  repeat
    refine forall_cons ?_ ?_
    · first
        | with_reducible refine Within.binary ?_
        | with_reducible refine Within.unary ?_
        | with_reducible refine Within.nullary ?_
      decide
  exact trivial

set_option maxHeartbeats 40000000 in
theorem within_B : (opsB (F := F)).Forall (Within 18 790) := by
  unfold opsB randSeq
  dsimp only
  repeat
    refine forall_cons ?_ ?_
    · first
        | with_reducible refine Within.binary ?_
        | with_reducible refine Within.unary ?_
        | with_reducible refine Within.nullary ?_
        | with_reducible refine Within.ternary ?_
        | with_reducible refine Within.reshape ?_
      decide
  exact trivial

set_option maxHeartbeats 40000000 in
theorem within_C : (opsC (F := F)).Forall (Within 790 10000) := by
  unfold opsC mainSeq
  dsimp only
  repeat
    refine forall_cons ?_ ?_
    · first
        | with_reducible refine Within.binary ?_
        | with_reducible refine Within.unary ?_
        | with_reducible refine Within.nullary ?_
        | with_reducible refine Within.ternary ?_
        | with_reducible refine Within.reshape ?_
        | with_reducible refine Within.nary ?_
      decide
  exact trivial

/-- The contents after the draw, in the reference. -/
abbrev VB (m : (ℓ : Loc nD τ sig) → Buf (Elt F) ℓ) (c : Dev nD) : Valuation τ sig (Elt F) :=
  after opsB (after opsA (launchContents m c))

/-- The reference's result. -/
def result (m : (ℓ : Loc nD τ sig) → Buf (Elt F) ℓ) (c : Dev nD) : main_v73.ty.Contents (Elt F) :=
  after opsC (VB m c) (Proc.devRef .tc main_v73)

/-- The reference terminates with its result there, its arguments unchanged and every counter at zero. -/
theorem value_run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v73) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 := by
  have hall : (opsA (F := F) ++ (opsB ++ opsC)).Forall fun op : HloOp τ sig (Elt F) => op.bufs ⊆ tcRefs τ sig ∧ op.fresh = ∅ :=
    forall_append (within_A.imp fun _ h => ⟨h.sub, h.fresh⟩)
      (forall_append (within_B.imp fun _ h => ⟨h.sub, h.fresh⟩) (within_C.imp fun _ h => ⟨h.sub, h.fresh⟩))
  refine (θ_run (defs (F := F)) _ _).mono (fun r h => ?_) (run_hlo defs (main (F := F)) (ops := opsA ++ (opsB ++ opsC)) (mainSeq (F := F)).2.2 (by decide) (by decide)
    (hall.imp fun _ h => h.1) (fun op hop => ((List.forall_iff_forall_mem.1 hall) op hop).2) m ρ)
  have arg : ∀ (c : Dev nD) (b : Ref sig .tc), b.idx.val < 3 → r.2.mem ((c.tc : Thread nD τ).loc b) = m ((c.tc : Thread nD τ).loc b) := by
    intro c b hb
    rw [h c b, StableHlo.after_append, StableHlo.after_append, after_outside within_C _ _ (by omega), after_outside within_B _ _ (by omega),
      after_outside within_A _ _ (by omega)]
  refine ⟨fun c => ⟨?_, arg c _ (by decide), arg c _ (by decide), arg c _ (by decide)⟩, sem_eq_zero_of_no_sems (by decide) _⟩
  rw [h c main_v73, StableHlo.after_append, StableHlo.after_append]
  rfl

end Cert.ReferenceIdeal.Run

end
-- ==== Proof.Sums.lean ====
/- Facts about finite sums and greatest elements of extended reals: the sum of a table by its counts, the greatest entry
   with a nonzero count, a masked softmax over a prefix, sums against a one-hot row, running sums in blocks. -/
module

public import Idealize.ShloMosaic.PureOps.Ideal.Laws
public import Idealize.ShloMosaic.Lib.IdealHost

@[expose] public section

noncomputable section

namespace Cert.Sums

open Finset Idealize.ShloMosaic

/-- A greatest element folded from −∞ is below a bound exactly when every entry is. -/
theorem fold_max_le {ι : Type*} (s : Finset ι) (f : ι → EReal) (b : EReal) : s.fold max ⊥ f ≤ b ↔ ∀ x ∈ s, f x ≤ b := by
  rw [Finset.fold_max_le]; simp

theorem le_fold_max {ι : Type*} (s : Finset ι) (f : ι → EReal) {x : ι} (hx : x ∈ s) : f x ≤ s.fold max ⊥ f :=
  (fold_max_le s f _).mp le_rfl x hx

/-- A greatest element is an entry that bounds all. -/
theorem fold_max_eq {ι : Type*} (s : Finset ι) (f : ι → EReal) {a : ι} (ha : a ∈ s) (h : ∀ x ∈ s, f x ≤ f a) :
    s.fold max ⊥ f = f a := le_antisymm ((fold_max_le s f _).mpr h) (le_fold_max s f ha)

/-- Two families with the same entries, −∞ aside, have the same greatest element. -/
theorem fold_max_congr {ι κ : Type*} (s : Finset ι) (t : Finset κ) (f : ι → EReal) (g : κ → EReal)
    (h : ∀ x ∈ s, f x = ⊥ ∨ ∃ y ∈ t, f x ≤ g y) (h' : ∀ y ∈ t, g y = ⊥ ∨ ∃ x ∈ s, g y ≤ f x) : s.fold max ⊥ f = t.fold max ⊥ g := by
  refine le_antisymm ((fold_max_le _ _ _).mpr fun x hx => ?_) ((fold_max_le _ _ _).mpr fun y hy => ?_)
  · rcases h x hx with e | ⟨y, hy, e⟩
    · rw [e]; exact bot_le
    · exact e.trans (le_fold_max t g hy)
  · rcases h' y hy with e | ⟨x, hx, e⟩
    · rw [e]; exact bot_le
    · exact e.trans (le_fold_max s f hx)

/-- A finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum against a one-hot row is the entry picked. -/
theorem sum_oneHot {ι : Type*} [Fintype ι] [DecidableEq ι] (p : ι → Prop) [DecidablePred p] (a : ι) (h : ∀ x, p x ↔ x = a) (f : ι → EReal) :
    ∑ x, (if p x then (1 : EReal) else 0) * f x = f a := by
  rw [sum_eq_single a]
  · rw [if_pos ((h a).mpr rfl), one_mul]
  · intro x _ hx; rw [if_neg (fun hp => hx ((h x).mp hp)), zero_mul]
  · intro hx; exact absurd (mem_univ a) hx

/-- How many samples of `idx` are `j`, as an extended real. -/
def count {m n : ℕ} (idx : Fin m → Fin n) (j : Fin n) : EReal := ∑ s, if idx s = j then (1 : EReal) else 0

theorem count_eq {m n : ℕ} (idx : Fin m → Fin n) (j : Fin n) : count idx j = ((((univ.filter fun s => idx s = j).card : ℕ) : ℝ) : EReal) := by
  rw [count, ← sum_filter, sum_const]
  simp

theorem count_pos {m n : ℕ} (idx : Fin m → Fin n) (j : Fin n) : 0 < count idx j ↔ ∃ s, idx s = j := by
  rw [count_eq, ← EReal.coe_zero, EReal.coe_lt_coe_iff, Nat.cast_pos, card_pos]
  constructor
  · rintro ⟨s, hs⟩; exact ⟨s, (mem_filter.mp hs).2⟩
  · rintro ⟨s, hs⟩; exact ⟨s, mem_filter.mpr ⟨mem_univ _, hs⟩⟩

/-- The sum of a table weighted by the counts is the sum of the samples. -/
theorem sum_count {m n : ℕ} (idx : Fin m → Fin n) (f : Fin n → ℝ) :
    ∑ j, (f j : EReal) * count idx j = ∑ s, (f (idx s) : EReal) := by
  have e : ∀ j, (f j : EReal) * count idx j = ∑ s, if idx s = j then (f j : EReal) else 0 := fun j => by
    rw [count_eq, ← EReal.coe_mul, ← sum_filter, sum_const, mul_comm]
    rw [EReal.nsmul_eq_mul, EReal.coe_mul]; simp
  rw [sum_congr rfl fun j _ => e j, sum_comm]
  exact sum_congr rfl fun s _ => by simp

/-- The greatest entry with a nonzero count is the greatest sample. -/
theorem fold_max_count {m n : ℕ} (idx : Fin m → Fin n) (f : Fin n → EReal) :
    (univ.fold max ⊥ fun j => if 0 < count idx j then f j else ⊥) = univ.fold max ⊥ fun s => f (idx s) := by
  refine fold_max_congr _ _ _ _ (fun j _ => ?_) (fun s _ => ?_)
  · by_cases h : 0 < count idx j
    · obtain ⟨s, rfl⟩ := (count_pos idx j).mp h
      exact Or.inr ⟨s, mem_univ _, by rw [if_pos h]⟩
    · exact Or.inl (if_neg h)
  · exact Or.inr ⟨idx s, mem_univ _, by rw [if_pos ((count_pos idx _).mpr ⟨s, rfl⟩)]⟩

theorem ofBits_negInf : Ideal.ofBits .f32 4286578688#32 = (⊥ : EReal) := by
  simp [Ideal.ofBits, Ideal.ieee]

theorem ofBits_2048 : Ideal.ofBits .f32 0x45000000#32 = ((2048 : ℝ) : EReal) := by
  have h : BitVec.extractLsb' 31 1 0x45000000#32 = 0#1 := by decide
  simp only [Ideal.ofBits, Ideal.ieee]
  norm_num [h, Nat.shiftRight_eq_div_pow]

theorem ofBits_inv2048 : Ideal.ofBits .f32 973078528#32 = (((1 : ℝ) / 2048 : ℝ) : EReal) := by
  have h : BitVec.extractLsb' 31 1 973078528#32 = 0#1 := by decide
  simp only [Ideal.ofBits, Ideal.ieee]
  norm_num [h, Nat.shiftRight_eq_div_pow]

theorem ofBits_inf : Ideal.ofBits .f32 0x7F800000#32 = (⊤ : EReal) := by
  simp [Ideal.ofBits, Ideal.ieee]

theorem div_coe (x y : ℝ) (hy : y ≠ 0) : Ideal.div (x : EReal) (y : EReal) = ((x / y : ℝ) : EReal) := by
  rw [Ideal.div, if_neg (by exact_mod_cast hy), div_eq_mul_inv, EReal.coe_mul, EReal.coe_inv]

/-- The greatest of finitely many reals (at least one) is a real. -/
theorem fold_max_real {m : ℕ} (hm : 0 < m) (f : Fin m → ℝ) : ∃ r : ℝ, (univ.fold max ⊥ fun s => (f s : EReal)) = r := by
  have : (univ : Finset (Fin m)).Nonempty := ⟨⟨0, hm⟩, mem_univ _⟩
  obtain ⟨a, ha, h⟩ := exists_max_image univ f this
  exact ⟨f a, fold_max_eq univ (fun s => (f s : EReal)) ha fun x hx => by exact_mod_cast h x hx⟩

/-- THE MEASURE OF A QUERY, by counts or by samples. -/
theorem measure_eq {m n : ℕ} (idx : Fin m → Fin n) (f : Fin n → ℝ) :
    (univ.fold max ⊥ fun j => if 0 < count idx j then (f j : EReal) else ⊥) - (∑ j, (f j : EReal) * count idx j) * Ideal.ofBits .f32 973078528#32
      = (univ.fold max ⊥ fun s => (f (idx s) : EReal)) - Ideal.div (∑ s, (f (idx s) : EReal)) (Ideal.ofBits .f32 0x45000000#32) := by
  rw [fold_max_count idx fun j => (f j : EReal), sum_count, ofBits_inv2048, ofBits_2048, ← coe_sum, div_coe _ _ (by norm_num), ← EReal.coe_mul]
  congr 2
  ring

/-- The measure is finite. -/
theorem measure_real {m n : ℕ} (hm : 0 < m) (idx : Fin m → Fin n) (f : Fin n → ℝ) :
    (⊥ : EReal) < (univ.fold max ⊥ fun s => (f (idx s) : EReal)) - Ideal.div (∑ s, (f (idx s) : EReal)) (Ideal.ofBits .f32 0x45000000#32) := by
  obtain ⟨r, hr⟩ := fold_max_real hm fun s => f (idx s)
  rw [hr, ofBits_2048, ← coe_sum, div_coe _ _ (by norm_num), ← EReal.coe_sub]
  exact EReal.bot_lt_coe _

/-- A sum over a range whose terms past the first `k` vanish. -/
theorem sum_prefix {k n : ℕ} (h : k ≤ n) (g : Fin n → EReal) (hg : ∀ c : Fin n, k ≤ c.val → g c = 0) :
    ∑ c, g c = ∑ c : Fin k, g (c.castLE h) := by
  classical
  rw [← sum_subset (subset_univ (univ.map (Fin.castLEEmb h)))]
  · rw [sum_map]; rfl
  · intro c _ hc
    refine hg c (not_lt.mp fun hlt => hc ?_)
    exact mem_map.mpr ⟨⟨c.val, hlt⟩, mem_univ _, Fin.ext rfl⟩

/-- A greatest element over a range whose entries past the first `k` are −∞. -/
theorem fold_max_prefix {k n : ℕ} (h : k ≤ n) (g : Fin n → EReal) (hg : ∀ c : Fin n, k ≤ c.val → g c = ⊥) :
    univ.fold max ⊥ g = univ.fold max ⊥ fun c : Fin k => g (c.castLE h) := by
  refine fold_max_congr _ _ _ _ (fun c _ => ?_) (fun c _ => Or.inr ⟨_, mem_univ _, le_rfl⟩)
  by_cases hc : c.val < k
  · exact Or.inr ⟨⟨c.val, hc⟩, mem_univ _, le_of_eq (congrArg g (Fin.ext rfl))⟩
  · exact Or.inl (hg c (not_lt.mp hc))

/-- The weight of key `c` for a query of rank `r`, keys after `r` masked, over `n` keys. -/
def weight {n : ℕ} (s : Fin n → EReal) (r : ℕ) (c : Fin n) : EReal :=
  Ideal.exp ((if r < c.val then ⊥ else s c) - univ.fold max ⊥ fun c : Fin n => if r < c.val then ⊥ else s c)

/-- Softmax-weighted sum of values, keys after `r` masked. -/
def attend {n : ℕ} (s : Fin n → EReal) (v : Fin n → EReal) (r : ℕ) : EReal :=
  ∑ c, Ideal.div (weight s r c) (∑ c', weight s r c') * v c

/-- A mask that leaves only the first `k` keys: the sum over all is the sum over these. -/
theorem attend_prefix {k n : ℕ} (h : k ≤ n) (s : Fin n → ℝ) (v : Fin n → EReal) (r : ℕ) (hr : r < k) :
    attend (fun c => (s c : EReal)) v r = attend (fun c : Fin k => (s (c.castLE h) : EReal)) (fun c => v (c.castLE h)) r := by
  have hfold : (univ.fold max ⊥ fun c : Fin n => if r < c.val then ⊥ else (s c : EReal))
      = univ.fold max ⊥ fun c : Fin k => if r < c.val then ⊥ else (s (c.castLE h) : EReal) :=
    fold_max_prefix h _ fun c hc => if_pos (hr.trans_le hc)
  obtain ⟨M, hM⟩ : ∃ M : ℝ, (univ.fold max ⊥ fun c : Fin k => if r < c.val then ⊥ else (s (c.castLE h) : EReal)) = M := by
    have : (univ.filter fun c : Fin k => ¬ r < c.val).Nonempty := ⟨⟨r, hr⟩, mem_filter.mpr ⟨mem_univ _, lt_irrefl _⟩⟩
    obtain ⟨a, ha, hmax⟩ := exists_max_image _ (fun c : Fin k => s (c.castLE h)) this
    refine ⟨s (a.castLE h), ?_⟩
    rw [fold_max_eq univ _ (mem_univ a) fun x _ => ?_, if_neg (mem_filter.mp ha).2]
    rw [if_neg (mem_filter.mp ha).2]
    split
    · exact bot_le
    · rename_i hx; exact_mod_cast hmax x (mem_filter.mpr ⟨mem_univ _, hx⟩)
  have hw : ∀ c : Fin k, weight (fun c => (s c : EReal)) r (c.castLE h) = weight (fun c : Fin k => (s (c.castLE h) : EReal)) r c := fun c => by
    unfold weight; rw [hfold]; rfl
  have hw0 : ∀ c : Fin n, k ≤ c.val → weight (fun c => (s c : EReal)) r c = 0 := fun c hc => by
    unfold weight; rw [hfold, hM, if_pos (hr.trans_le hc)]; rfl
  have hsum : ∑ c', weight (fun c => (s c : EReal)) r c' = ∑ c', weight (fun c : Fin k => (s (c.castLE h) : EReal)) r c' := by
    rw [sum_prefix h _ hw0]; exact sum_congr rfl fun c _ => hw c
  have hpos : ∑ c', weight (fun c : Fin k => (s (c.castLE h) : EReal)) r c' ≠ 0 := by
    have hnn : ∀ c : Fin k, 0 ≤ weight (fun c : Fin k => (s (c.castLE h) : EReal)) r c := fun c => by
      unfold weight; rw [hM]
      split
      · exact le_of_eq rfl
      · rw [← EReal.coe_sub]; exact EReal.coe_nonneg.mpr (Real.exp_pos _).le
    have hr' : 0 < weight (fun c : Fin k => (s (c.castLE h) : EReal)) r ⟨r, hr⟩ := by
      unfold weight; rw [hM, if_neg (lt_irrefl _), ← EReal.coe_sub]; exact EReal.coe_pos.mpr (Real.exp_pos _)
    exact (hr'.trans_le (single_le_sum (f := fun c => weight (fun c : Fin k => (s (c.castLE h) : EReal)) r c) (fun c _ => hnn c) (mem_univ _))).ne'
  unfold attend
  rw [hsum, sum_prefix h _ fun c hc => ?_]
  · exact sum_congr rfl fun c _ => by rw [hw]
  · rw [hw0 c hc, Ideal.div, if_neg hpos, zero_mul, zero_mul]

/-- A column of values extended by zeros. -/
def ext {n : ℕ} (v : Fin n → EReal) (i : ℕ) : EReal := if h : i < n then v ⟨i, h⟩ else 0

/-- The sum of the first `m` values. -/
def upto {n : ℕ} (v : Fin n → EReal) (m : ℕ) : EReal := ∑ i ∈ range m, ext v i

/-- A running sum taken block by block: the sum within the block, plus the sum before it. -/
theorem upto_block {n b : ℕ} (v : Fin n → EReal) (x : Fin b → EReal) (o : ℕ) (ho : o + b ≤ n)
    (hx : ∀ i : Fin b, x i = v ⟨o + i.val, by omega⟩) (a : Fin b) :
    (∑ i : Fin b, (if i.val ≤ a.val then (1 : EReal) else 0) * x i) + upto v o = upto v (o + (a.val + 1)) := by
  rw [upto, upto, sum_range_add, add_comm]
  congr 1
  have e : ∀ i : Fin b, (if i.val ≤ a.val then (1 : EReal) else 0) * x i
      = (fun i : ℕ => if i ≤ a.val then ext v (o + i) else 0) i.val := fun i => by
    show _ = (if i.val ≤ a.val then ext v (o + i.val) else 0)
    rw [ext, dif_pos (show o + i.val < n by omega), hx]
    split
    · rw [one_mul]
    · rw [zero_mul]
  rw [sum_congr rfl fun i _ => e i, Fin.sum_univ_eq_sum_range (fun i : ℕ => if i ≤ a.val then ext v (o + i) else 0) b, ← sum_filter]
  refine sum_congr (Finset.ext fun i => ?_) fun _ _ => rfl
  have := a.isLt
  simp only [mem_filter, mem_range]
  omega

end Cert.Sums

end
-- ==== Proof.Order.lean ====
/- The order a selection of the greatest entries follows: greater first, equal entries by position. Every position has a
   rank, the number of positions before it, and the ranks are a rearrangement of the positions. -/
module

public import Idealize.ShloMosaic.PureOps.Ideal

@[expose] public section

noncomputable section

namespace Cert.Order

open Finset

variable {n : ℕ} (w : Fin n → EReal)

/-- `a` comes before `b`: its entry is greater, or they are equal and `a` is the earlier position. -/
def Before (a b : Fin n) : Prop := w b < w a ∨ (w a = w b ∧ a < b)

theorem Before.irrefl (a : Fin n) : ¬ Before w a a := by
  rintro (h | ⟨-, h⟩)
  · exact lt_irrefl _ h
  · exact lt_irrefl _ h

theorem Before.trans {a b c : Fin n} (h : Before w a b) (h' : Before w b c) : Before w a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem Before.total {a b : Fin n} (h : a ≠ b) : Before w a b ∨ Before w b a := by
  rcases lt_trichotomy (w a) (w b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

open Classical in
/-- How many positions come before `a`. -/
def rank (a : Fin n) : ℕ := (univ.filter fun b => Before w b a).card

theorem rank_lt_of_before {a b : Fin n} (h : Before w a b) : rank w a < rank w b := by
  classical
  refine card_lt_card ⟨fun x hx => ?_, fun hs => ?_⟩
  · exact mem_filter.mpr ⟨mem_univ _, ((mem_filter.mp hx).2).trans w h⟩
  · exact Before.irrefl w a (mem_filter.mp (hs (mem_filter.mpr ⟨mem_univ _, h⟩))).2

theorem rank_injective : Function.Injective (rank w) := by
  intro a b e
  by_contra h
  rcases Before.total w h with h | h
  · exact absurd e (rank_lt_of_before w h).ne
  · exact absurd e (rank_lt_of_before w h).ne'

theorem before_of_rank_lt {a b : Fin n} (h : rank w a < rank w b) : Before w a b := by
  rcases Before.total w (a := a) (b := b) (fun e => by rw [e] at h; exact lt_irrefl _ h) with h' | h'
  · exact h'
  · exact absurd (rank_lt_of_before w h') (by omega)

theorem rank_lt (a : Fin n) : rank w a < n := by
  classical
  have : (univ.filter fun b => Before w b a).card < (univ : Finset (Fin n)).card :=
    card_lt_card ⟨filter_subset _ _, fun hs => Before.irrefl w a (mem_filter.mp (hs (mem_univ a))).2⟩
  simpa [rank] using this

/-- Some position has rank `r`. -/
theorem exists_rank {r : ℕ} (hr : r < n) : ∃ a, rank w a = r := by
  have hinj : Function.Injective fun a => (⟨rank w a, rank_lt w a⟩ : Fin n) :=
    fun a b e => rank_injective w (Fin.mk.inj e)
  obtain ⟨a, ha⟩ := (Finite.injective_iff_surjective.mp hinj) ⟨r, hr⟩
  exact ⟨a, Fin.mk.inj ha⟩

/-- The position of rank `r`. -/
def pos (r : Fin n) : Fin n := (exists_rank w r.isLt).choose

theorem rank_pos (r : Fin n) : rank w (pos w r) = r := (exists_rank w r.isLt).choose_spec

theorem pos_eq_iff (r a : Fin n) : pos w r = a ↔ rank w a = r := by
  constructor
  · rintro rfl; exact rank_pos w r
  · intro h; exact rank_injective w ((rank_pos w r).trans h.symm)

/-- Of the entries left when those of rank below `r` are replaced by −∞, the greatest is the one of rank `r`. -/
theorem left_le {r : ℕ} {a : Fin n} (ha : rank w a = r) (x : Fin n) : (if rank w x < r then ⊥ else w x) ≤ w a := by
  split
  · exact bot_le
  · rename_i h
    rcases eq_or_lt_of_le (not_lt.mp h) with h | h
    · rw [rank_injective w (ha.trans h)]
    · rcases before_of_rank_lt w (ha.trans_lt h) with h | ⟨h, -⟩
      · exact h.le
      · exact h.ge

/-- And it is the first position holding that entry. -/
theorem le_of_left_eq {r : ℕ} {a : Fin n} (ha : rank w a = r) (hw : ⊥ < w a) (x : Fin n)
    (h : (if rank w x < r then ⊥ else w x) = w a) : a ≤ x := by
  split at h
  · exact absurd h hw.ne
  · rename_i h'
    rcases eq_or_lt_of_le (not_lt.mp h') with h' | h'
    · rw [rank_injective w (ha.trans h')]
    · rcases before_of_rank_lt w (ha.trans_lt h') with h2 | ⟨-, h2⟩
      · exact absurd h h2.ne
      · exact h2.le

end Cert.Order

end
-- ==== Proof.Select.lean ====
/- The loop that picks a head's queries, read as mathematics: trip `r` picks the position of rank `r` of the measures. -/
module

public import proofs.«01_k».proof.Proof.Trips
public import proofs.«01_k».proof.Proof.Body
public import proofs.«01_k».proof.Proof.Order
public import proofs.«01_k».proof.Proof.Sums
public import Idealize.ShloMosaic.Lib.Pointwise

@[expose] public section

set_option maxRecDepth 16384

noncomputable section

namespace Cert.KernelIdeal.Value

open Cert.KernelIdeal Cert.KernelIdeal.Gen
open Idealize.ShloMosaic

/-- A least word, folded by the signed minimum: below every entry, and one of them. -/
theorem fold_minsi_eq {ι : Type} (s : Finset ι) (f : ι → BitVec 32) (z : BitVec 32) {a : ι} (ha : a ∈ s)
    (hz : (f a).toInt ≤ z.toInt) (h : ∀ x ∈ s, (f a).toInt ≤ (f x).toInt) :
    s.fold IntOp.minsi z f = f a := by
  classical
  have hmin : ∀ x y : BitVec 32, (IntOp.minsi x y).toInt = min x.toInt y.toInt := fun x y => by
    unfold IntOp.minsi
    split
    · rename_i hlt; rw [BitVec.slt_iff_toInt_lt] at hlt; omega
    · rename_i hlt; rw [BitVec.slt_iff_toInt_lt] at hlt; omega
  apply BitVec.eq_of_toInt_eq
  have e : (s.fold IntOp.minsi z f).toInt = s.fold min z.toInt fun x => (f x).toInt :=
    (Finset.fold_hom (op := IntOp.minsi) (op' := min) (m := BitVec.toInt) (fun x y => (hmin x y))).symm
  rw [e]
  refine le_antisymm ?_ ?_
  · exact (Finset.fold_min_le _).mpr (Or.inr ⟨a, ha, le_rfl⟩)
  · exact (Finset.le_fold_min _).mpr ⟨hz, h⟩

theorem lin_at (a : Fin 2048) : lin (ix2 0 a) = BitVec.ofNat 32 a.val := by
  pointwise [lin]

theorem toInt_ofNat (a : ℕ) (h : a ≤ 2048) : (BitVec.ofNat 32 a).toInt = a := by
  rw [BitVec.toInt_eq_toNat_of_lt (by rw [BitVec.toNat_ofNat]; omega), BitVec.toNat_ofNat, Nat.mod_eq_of_lt (by omega)]

theorem ofNat_inj (a b : Fin 2048) (h : BitVec.ofNat 32 a.val = BitVec.ofNat 32 b.val) : a = b := by
  have := congrArg BitVec.toInt h
  rw [toInt_ofNat _ (by omega), toInt_ofNat _ (by omega)] at this
  exact Fin.ext (by exact_mod_cast this)

/-- One trip's choice. -/
theorem pick_at (c : Vec Ideal S1x2048 .f32) (a : Fin 2048) (hmax : ∀ x : Fin 2048, c (ix2 0 x) ≤ c (ix2 0 a))
    (hfirst : ∀ x : Fin 2048, c (ix2 0 x) = c (ix2 0 a) → a ≤ x) (b : Fin 2048) :
    k0_pay22 (F := Ideal) lin c (ix2 0 b) = if b = a then 1#1 else 0#1 := by
  pointwise [k0_pay22]
  rw [Sums.ofBits_negInf]
  have hfold : (Finset.univ.fold max ⊥ fun x : Fin 1 × Fin 2048 => c (ix2 0 x.2)) = c (ix2 0 a) :=
    Sums.fold_max_eq (ι := Fin 1 × Fin 2048) Finset.univ (fun x => c (ix2 0 x.2)) (a := (0, a)) (Finset.mem_univ _) fun x _ => hmax x.2
  rw [hfold]
  have hmin : (Finset.univ.fold IntOp.minsi (2147483647#32) fun x : Fin 1 × Fin 2048 =>
      if c (ix2 0 x.2) = c (ix2 0 a) then lin (ix2 0 x.2) else 2048#32) = BitVec.ofNat 32 a.val := by
    have h := fold_minsi_eq (ι := Fin 1 × Fin 2048) Finset.univ (fun x => if c (ix2 0 x.2) = c (ix2 0 a) then lin (ix2 0 x.2) else 2048#32)
      2147483647#32 (a := (0, a)) (Finset.mem_univ _) ?_ fun x _ => ?_
    · rw [h, if_pos rfl, lin_at]
    · rw [if_pos rfl, lin_at, toInt_ofNat _ (by omega)]
      have : (2147483647#32 : BitVec 32).toInt = 2147483647 := by decide
      omega
    · rw [if_pos rfl, lin_at, toInt_ofNat _ (by omega)]
      split
      · rename_i hx
        rw [lin_at, toInt_ofNat _ (by omega)]
        exact_mod_cast hfirst x.2 hx
      · have : (2048#32 : BitVec 32).toInt = 2048 := by decide
        omega
  rw [hmin, lin_at]
  unfold IntOp.cmpi
  by_cases h : b = a
  · subst h; simp
  · rw [if_neg h]
    have : BitVec.ofNat 32 b.val ≠ BitVec.ofNat 32 a.val := fun e => h (ofNat_inj b a e)
    show BitVec.ofBool (BitVec.ofNat 32 b.val == BitVec.ofNat 32 a.val) = 0#1
    rw [beq_eq_false_iff_ne.mpr this]
    rfl

/-- After `r` trips the measures of the `r` picked positions are −∞, the others as they were. -/
theorem carry_at (start : Vec Ideal S1x2048 .f32) (hw : ∀ a : Fin 2048, (⊥ : EReal) < start (ix2 0 a)) :
    ∀ r : ℕ, r ≤ 2048 → ∀ a : Fin 2048, carry (F := Ideal) lin start r (ix2 0 a)
      = if Order.rank (fun a => start (ix2 0 a)) a < r then (⊥ : EReal) else start (ix2 0 a)
  | 0, _, a => by rw [if_neg (Nat.not_lt_zero _)]; rfl
  | r + 1, hr, a => by
    have ih := carry_at start hw r (by omega)
    obtain ⟨p, hp⟩ := Order.exists_rank (fun a => start (ix2 0 a)) (r := r) (by omega)
    have hpv : carry (F := Ideal) lin start r (ix2 0 p) = start (ix2 0 p) := by rw [ih, if_neg (by omega)]
    have hpick := pick_at (carry (F := Ideal) lin start r) p
      (fun x => by rw [hpv, ih]; exact Order.left_le (fun a => start (ix2 0 a)) hp x)
      (fun x hx => by rw [hpv, ih] at hx; exact Order.le_of_left_eq (fun a => start (ix2 0 a)) hp (hw p) x hx) a
    show k0_pay24 (F := Ideal) lin (carry (F := Ideal) lin start r) (ix2 0 a) = _
    pointwise [k0_pay24]
    rw [hpick, Sums.ofBits_negInf, ih]
    by_cases h : a = p
    · subst h
      rw [if_pos (show a = a from rfl), if_pos (show Order.rank (fun a => start (ix2 0 a)) a < r + 1 by omega)]
      rfl
    · have hne : Order.rank (fun a => start (ix2 0 a)) a ≠ r := fun e => h (Order.rank_injective _ (e.trans hp.symm))
      rw [if_neg h]
      show (if Order.rank (fun a => start (ix2 0 a)) a < r then (⊥ : EReal) else start (ix2 0 a)) = _
      by_cases h2 : Order.rank (fun a => start (ix2 0 a)) a < r
      · rw [if_pos h2, if_pos (by omega)]
      · rw [if_neg h2, if_neg (by omega)]

/-- The table of picks: row `r` is one-hot at the position of rank `r`. -/
theorem picks_at (start : Vec Ideal S1x2048 .f32) (hw : ∀ a : Fin 2048, (⊥ : EReal) < start (ix2 0 a)) (r : Fin 40) (a : Fin 2048) :
    picks (F := Ideal) lin start (ix2 r a) = if Order.rank (fun a => start (ix2 0 a)) a = r.val then (1 : EReal) else 0 := by
  have ih := carry_at start hw r.val (by omega)
  obtain ⟨p, hp⟩ := Order.exists_rank (fun a => start (ix2 0 a)) (r := r.val) (by omega)
  have hpv : carry (F := Ideal) lin start r.val (ix2 0 p) = start (ix2 0 p) := by rw [ih, if_neg (by omega)]
  have hpick := pick_at (carry (F := Ideal) lin start r.val) p
    (fun x => by rw [hpv, ih]; exact Order.left_le (fun a => start (ix2 0 a)) hp x)
    (fun x hx => by rw [hpv, ih] at hx; exact Order.le_of_left_eq (fun a => start (ix2 0 a)) hp (hw p) x hx) a
  show k0_pay23 (F := Ideal) lin (carry (F := Ideal) lin start r.val) (ix2 0 a) = _
  pointwise [k0_pay23]
  rw [hpick]
  by_cases h : a = p
  · subst h
    rw [if_pos rfl, if_pos hp]
    show ((((1#1 : BitVec 1).setWidth 32).toInt : ℝ) : EReal) = 1
    simp
  · rw [if_neg h, if_neg fun e => h (Order.rank_injective _ (e.trans hp.symm))]
    show ((((0#1 : BitVec 1).setWidth 32).toInt : ℝ) : EReal) = 0
    simp

end Cert.KernelIdeal.Value

end
-- ==== Proof.KernelInputs.lean ====
/- The arrays the kernel's region reads: the counts of the sampled keys, and the arguments reshaped. -/
module

public import proofs.«01_k».proof.Proof.KernelRun
public import proofs.«01_k».proof.Proof.Sums
public import proofs.«01_k».proof.Proof.Select
public import Idealize.ShloMosaic.Lib.StableHlo.ReadAt
public import Idealize.ShloMosaic.Lib.Routing.OpsPair
public import Idealize.ShloMosaic.Lib.Routing.OpsSet

@[expose] public section

set_option maxRecDepth 16384
set_option maxHeartbeats 4000000

noncomputable section

namespace Cert.KernelIdeal.Value

open Cert.KernelIdeal Cert.KernelIdeal.Gen
open Idealize.ShloMosaic Idealize.ShloMosaic.TcCoe Idealize.ShloMosaic.StableHlo

variable {F : FTy → Type} [FloatOps F]

theorem after_three {τ : Topo} {sig : RefSig} {Val : EltTy → Type} (A B C : List (HloOp τ sig Val)) (V : Valuation τ sig Val) :
    after (List.flatten [A, B, C]) V = after C (after B (after A V)) := by
  rw [← StableHlo.after_append, ← StableHlo.after_append]; simp

/-- The contents after the draw of the sampled keys. -/
def drawn (m : (ℓ : Loc nD τ sig) → Buf (Elt F) ℓ) (c : Dev nD) : Valuation τ sig (Elt F) := after hostOps0_1 (after hostOps0 fun b => m (c, b))

theorem V0_eq (m : (ℓ : Loc nD τ sig) → Buf (Elt F) ℓ) (c : Dev nD) : V0 m c = after hostOps0_2 (drawn m c) := after_three _ _ _ _

/-- The pairs of a sampled key and its query. -/
def pairs (i : IVec S2048x40 32) : IVec S2048x40x2 32 :=
  concatenate S2048x40x2 2
    [⟨S2048x40x1, broadcastInDim S2048x40x1 ![0, 1] bcast_S2048x40_S2048x40x1_0_1
      (select (cmpi .slt i (broadcastInDim S2048x40 ![] bcast_S_S2048x40 (constantI S_ 32 0#32)))
        (addi i (broadcastInDim S2048x40 ![] bcast_S_S2048x40 (constantI S_ 32 2048#32))) i)⟩,
     ⟨S2048x40x1, broadcastInDim S2048x40x1 ![0, 1] bcast_S2048x40_S2048x40x1_0_1 (broadcastInDim S2048x40 ![0, 1] bcast_S2048x1_S2048x40_0_1
      (select (cmpi .slt (broadcastInDim S2048x1 ![0] bcast_S2048_S2048x1_0 (iotaInDim S2048 32 0)) (broadcastInDim S2048x1 ![] bcast_S_S2048x1 (constantI S_ 32 0#32)))
        (addi (broadcastInDim S2048x1 ![0] bcast_S2048_S2048x1_0 (iotaInDim S2048 32 0)) (broadcastInDim S2048x1 ![] bcast_S_S2048x1 (constantI S_ 32 2048#32)))
        (broadcastInDim S2048x1 ![0] bcast_S2048_S2048x1_0 (iotaInDim S2048 32 0))))⟩] concatenates_S2048x40x1_S2048x40x1_S2048x40x2_d2

theorem counts_read (U : Valuation τ sig (Elt F)) : (after hostOps0_2 U (Proc.devRef .tc main_v26) : FVec F S2048x2048 .f32)
    = Host.scatterAdd scatter_S2048x2048_S2048x40x2_S2048x40_n_01_01_2 (broadcastInDim S2048x2048 ![] bcast_S_S2048x2048 (constant S_ .f32 0x00000000#32))
        (pairs (U (Proc.devRef .tc main_v7))) (broadcastInDim S2048x40 ![] bcast_S_S2048x40 (constant S_ .f32 0x3F800000#32)) := by
  unfold hostOps0_2; after_reads_simp; rfl

theorem q_read (U : Valuation τ sig (Elt F)) : (after hostOps0_2 U (Proc.devRef .tc main_v27) : FVec F S2x2048x1024 .f32)
    = shapeCast S2x2048x1024 (U (Proc.devRef .tc main_arg0) : FVec F S2x2048x16x64 .f32) shapeCasts_S2x2048x16x64_S2x2048x1024 := by
  unfold hostOps0_2; after_reads_simp; rfl
theorem k_read (U : Valuation τ sig (Elt F)) : (after hostOps0_2 U (Proc.devRef .tc main_v28) : FVec F S2x2048x1024 .f32)
    = shapeCast S2x2048x1024 (U (Proc.devRef .tc main_arg1) : FVec F S2x2048x16x64 .f32) shapeCasts_S2x2048x16x64_S2x2048x1024 := by
  unfold hostOps0_2; after_reads_simp; rfl
theorem v_read (U : Valuation τ sig (Elt F)) : (after hostOps0_2 U (Proc.devRef .tc main_v29) : FVec F S2x2048x1024 .f32)
    = shapeCast S2x2048x1024 (U (Proc.devRef .tc main_arg2) : FVec F S2x2048x16x64 .f32) shapeCasts_S2x2048x16x64_S2x2048x1024 := by
  unfold hostOps0_2; after_reads_simp; rfl

theorem arg0_read (U : Valuation τ sig (Elt F)) : after hostOps0_2 U (Proc.devRef .tc main_arg0) = U (Proc.devRef .tc main_arg0) := by
  unfold hostOps0_2; after_reads_simp
theorem arg1_read (U : Valuation τ sig (Elt F)) : after hostOps0_2 U (Proc.devRef .tc main_arg1) = U (Proc.devRef .tc main_arg1) := by
  unfold hostOps0_2; after_reads_simp
theorem arg2_read (U : Valuation τ sig (Elt F)) : after hostOps0_2 U (Proc.devRef .tc main_arg2) = U (Proc.devRef .tc main_arg2) := by
  unfold hostOps0_2; after_reads_simp

section
variable (m : (ℓ : Loc nD τ sig) → Buf (Elt F) ℓ) (c : Dev nD)

theorem V_q : (V m c main_v27 : FVec F S2x2048x1024 .f32)
    = shapeCast S2x2048x1024 (m ((c : Thread nD τ).loc main_arg0) : FVec F S2x2048x16x64 .f32) shapeCasts_S2x2048x16x64_S2x2048x1024 := by
  rw [← V_main_arg0 m c]
  show (V0 m c (Proc.devRef .tc main_v27) : FVec F S2x2048x1024 .f32) = shapeCast S2x2048x1024 (V0 m c (Proc.devRef .tc main_arg0) : FVec F S2x2048x16x64 .f32) _
  rw [V0_eq, arg0_read]; exact q_read _
theorem V_k : (V m c main_v28 : FVec F S2x2048x1024 .f32)
    = shapeCast S2x2048x1024 (m ((c : Thread nD τ).loc main_arg1) : FVec F S2x2048x16x64 .f32) shapeCasts_S2x2048x16x64_S2x2048x1024 := by
  rw [← V_main_arg1 m c]
  show (V0 m c (Proc.devRef .tc main_v28) : FVec F S2x2048x1024 .f32) = shapeCast S2x2048x1024 (V0 m c (Proc.devRef .tc main_arg1) : FVec F S2x2048x16x64 .f32) _
  rw [V0_eq, arg1_read]; exact k_read _
theorem V_v : (V m c main_v29 : FVec F S2x2048x1024 .f32)
    = shapeCast S2x2048x1024 (m ((c : Thread nD τ).loc main_arg2) : FVec F S2x2048x16x64 .f32) shapeCasts_S2x2048x16x64_S2x2048x1024 := by
  rw [← V_main_arg2 m c]
  show (V0 m c (Proc.devRef .tc main_v29) : FVec F S2x2048x1024 .f32) = shapeCast S2x2048x1024 (V0 m c (Proc.devRef .tc main_arg2) : FVec F S2x2048x16x64 .f32) _
  rw [V0_eq, arg2_read]; exact v_read _
theorem V_counts : (V m c main_v26 : FVec F S2048x2048 .f32)
    = Host.scatterAdd scatter_S2048x2048_S2048x40x2_S2048x40_n_01_01_2 (broadcastInDim S2048x2048 ![] bcast_S_S2048x2048 (constant S_ .f32 0x00000000#32))
        (pairs (drawn m c (Proc.devRef .tc main_v7))) (broadcastInDim S2048x40 ![] bcast_S_S2048x40 (constant S_ .f32 0x3F800000#32)) := by
  show (V0 m c (Proc.devRef .tc main_v26) : FVec F S2048x2048 .f32) = _
  rw [V0_eq]; exact counts_read _
end

end Cert.KernelIdeal.Value

end
-- ==== Proof.KernelCounts.lean ====
/- How often each key is sampled for each query, as the kernel counts it. -/
module

public import proofs.«01_k».proof.Proof.KernelInputs
public import Idealize.ShloMosaic.Lib.Pointwise
public import Idealize.ShloMosaic.Lib.Pointwise.IndexBridge

@[expose] public section

set_option maxRecDepth 16384

noncomputable section

namespace Cert.KernelIdeal.Value

open Cert.KernelIdeal Cert.KernelIdeal.Gen
open Idealize.ShloMosaic Idealize.ShloMosaic.TcCoe

theorem pairs_key (i : IVec S2048x40 32) (l : Fin 2048) (s : Fin 40) : pairs i (ix3 l s 0)
    = Scalar.select (IntOp.cmpi .slt (i (ix2 l s)) 0#32) (IntOp.addi (i (ix2 l s)) 2048#32) (i (ix2 l s)) := by
  pointwise [pairs]

theorem pairs_query (i : IVec S2048x40 32) (l : Fin 2048) (s : Fin 40) : pairs i (ix3 l s 1)
    = Scalar.select (IntOp.cmpi .slt (BitVec.ofNat 32 l.val) 0#32) (IntOp.addi (BitVec.ofNat 32 l.val) 2048#32) (BitVec.ofNat 32 l.val) := by
  pointwise [pairs]

theorem wrap_ofNat (a : Fin 2048) (x : BitVec 32) : Scalar.select (IntOp.cmpi .slt (BitVec.ofNat 32 a.val) 0#32) x (BitVec.ofNat 32 a.val) = BitVec.ofNat 32 a.val :=
  Routing.wrap_of_lt _ _ (by rw [BitVec.toNat_ofNat]; omega)

theorem lands (i : IVec S2048x40 32) (idx : Fin 2048 → Fin 40 → Fin 2048) (hidx : ∀ l s, i (ix2 l s) = BitVec.ofNat 32 (idx l s).val)
    (l' : Fin 2048) (s : Fin 40) (j l : Fin 2048) :
    scatter_S2048x2048_S2048x40x2_S2048x40_n_01_01_2.resultIdx? (ix2 l' s) (pairs i) = some (ix2 j l) ↔ l' = l ∧ idx l s = j := by
  have h := Routing.scatter_lands2 (R := 2048) (C := 2048) scatter_S2048x2048_S2048x40x2_S2048x40_n_01_01_2 rfl rfl rfl (pairs i) l' s j l
  rw [← ix2_eq_valueIdx, ← ix2_eq_valueIdx, ← ix3_eq_valueIdx, ← ix3_eq_valueIdx] at h
  refine h.trans ?_
  have e0 : pairs i (ix3 l' s 0) = BitVec.ofNat 32 (idx l' s).val := by rw [pairs_key, hidx, wrap_ofNat]
  have e1 : pairs i (ix3 l' s 1) = BitVec.ofNat 32 l'.val := by rw [pairs_query, wrap_ofNat]
  rw [show (pairs i (ix3 l' s (0 : Fin 2))) = _ from e0, show (pairs i (ix3 l' s (1 : Fin 2))) = _ from e1, toInt_ofNat _ (by omega), toInt_ofNat _ (by omega)]
  constructor
  · rintro ⟨a, b⟩
    have hl : l' = l := Fin.ext (by exact_mod_cast b)
    subst hl
    exact ⟨rfl, Fin.ext (by exact_mod_cast a)⟩
  · rintro ⟨rfl, rfl⟩; exact ⟨rfl, rfl⟩

theorem scatter_counts (i : IVec S2048x40 32) (idx : Fin 2048 → Fin 40 → Fin 2048) (hidx : ∀ l s, i (ix2 l s) = BitVec.ofNat 32 (idx l s).val) (j l : Fin 2048) :
    Host.scatterAdd (F := Ideal) scatter_S2048x2048_S2048x40x2_S2048x40_n_01_01_2 (broadcastInDim S2048x2048 ![] bcast_S_S2048x2048 (constant S_ .f32 0x00000000#32))
        (pairs i) (broadcastInDim S2048x40 ![] bcast_S_S2048x40 (constant S_ .f32 0x3F800000#32)) (ix2 j l) = Sums.count (idx l) j := by
  classical
  have e0 : (broadcastInDim S2048x2048 ![] bcast_S_S2048x2048 (constant S_ .f32 0x00000000#32) : FVec Ideal S2048x2048 .f32) (ix2 j l) = (0 : EReal) := by pointwise
  have e1 : ∀ (a : Fin 2048) (b : Fin 40), (broadcastInDim S2048x40 ![] bcast_S_S2048x40 (constant S_ .f32 0x3F800000#32) : FVec Ideal S2048x40 .f32) (ix2 a b) = (1 : EReal) := fun a b => by pointwise
  show (_ : EReal) + ∑ y ∈ Finset.univ.filter (fun y => scatter_S2048x2048_S2048x40x2_S2048x40_n_01_01_2.resultIdx? y (pairs i) = some (ix2 j l)), (_ : EReal) = _
  rw [e0, zero_add, Finset.sum_filter]
  refine (sum_idx2 (n0 := 2048) (n1 := 40) _).trans ?_
  rw [Sums.count, Finset.sum_eq_single l]
  · refine Finset.sum_congr rfl fun s _ => ?_
    rw [e1]
    exact if_congr ((lands i idx hidx l s j l).trans (and_iff_right rfl)) rfl rfl
  · intro l' _ hl
    refine Finset.sum_eq_zero fun s _ => ?_
    exact if_neg fun h => hl ((lands i idx hidx l' s j l).mp h).1
  · intro h; exact absurd (Finset.mem_univ _) h

theorem V_counts_at (m : (ℓ : Loc nD τ sig) → Buf (Elt Ideal) ℓ) (c : Dev nD) (idx : Fin 2048 → Fin 40 → Fin 2048)
    (hidx : ∀ l s, (drawn m c (Proc.devRef .tc main_v7) : IVec S2048x40 32) (ix2 l s) = BitVec.ofNat 32 (idx l s).val) (j l : Fin 2048) :
    (V m c main_v26 : FVec Ideal S2048x2048 .f32) (ix2 j l) = Sums.count (idx l) j := by
  rw [V_counts]; exact scatter_counts _ idx hidx j l

end Cert.KernelIdeal.Value

end
-- ==== Proof.KernelSums.lean ====
/- The kernel's running sums of the values, block of rows by block of rows, read at one index. -/
module

public import proofs.«01_k».proof.Proof.Body
public import proofs.«01_k».proof.Proof.Select
public import proofs.«01_k».proof.Proof.Sums
public import Idealize.ShloMosaic.Lib.Pointwise
public import Idealize.ShloMosaic.Lib.Writes

@[expose] public section

set_option maxRecDepth 16384

noncomputable section

namespace Cert.KernelIdeal.Value

open Cert.KernelIdeal Cert.KernelIdeal.Gen
open Idealize.ShloMosaic

/-- The triangle of ones. -/
theorem tri_at (a b : Fin 256) : (k0_pay2 (F := Ideal)) (ix2 a b) = if b.val ≤ a.val then (1 : EReal) else 0 := by
  have e : (k0_pay2 (F := Ideal)) (ix2 a b)
      = FloatOps.sitofp .f32 (BitVec.setWidth 32 (IntOp.cmpi .sge (BitVec.ofNat 32 a.val) (BitVec.ofNat 32 b.val))) := by
    pointwise [k0_pay2]
  rw [e]
  have ha : (BitVec.ofNat 32 a.val).toInt = a.val := toInt_ofNat _ (by omega)
  have hb : (BitVec.ofNat 32 b.val).toInt = b.val := toInt_ofNat _ (by omega)
  have h : IntOp.cmpi .sge (BitVec.ofNat 32 a.val) (BitVec.ofNat 32 b.val) = if b.val ≤ a.val then 1#1 else 0#1 := by
    simp only [IntOp.cmpi, BitVec.sle_eq_decide, ha, hb, Nat.cast_le]
    split <;> simp [*]
  rw [h]
  split
  · show (((1 : ℤ) : ℝ) : EReal) = 1
    simp
  · show (((0 : ℤ) : ℝ) : EReal) = 0
    simp

/-- One block's stored running sums: the sums within the block, plus the row carried into it. -/
theorem pay3_at (x : Vec Ideal S1x256x128 .f32) (a : Fin 256) (b : Fin 128) :
    k0_pay3 (F := Ideal) x (ix2 a b) = (∑ i : Fin 256, k0_pay2 (F := Ideal) (ix2 a i) * x (ix3 0 i b) : EReal) + 0 := by
  pointwise [k0_pay3]

theorem pay5_at (x y : Vec Ideal S1x256x128 .f32) (a : Fin 256) (b : Fin 128) :
    k0_pay5 (F := Ideal) x y (ix2 a b) = (∑ i : Fin 256, k0_pay2 (F := Ideal) (ix2 a i) * y (ix3 0 i b) : EReal) + k0_pay3 (F := Ideal) x (ix2 255 b) := by
  pointwise [k0_pay5]

theorem pay7_at (x y z : Vec Ideal S1x256x128 .f32) (a : Fin 256) (b : Fin 128) :
    k0_pay7 (F := Ideal) x y z (ix2 a b) = (∑ i : Fin 256, k0_pay2 (F := Ideal) (ix2 a i) * z (ix3 0 i b) : EReal) + k0_pay5 (F := Ideal) x y (ix2 255 b) := by
  pointwise [k0_pay7]

theorem pay9_at (x y z : Vec Ideal S1x256x128 .f32) (b : Fin 128) :
    k0_pay9 (F := Ideal) x y z (ix2 0 b) = k0_pay7 (F := Ideal) x y z (ix2 255 b) := by
  pointwise [k0_pay9]

theorem pay10_at (t : FVec Ideal S256x256 .f32) (c : FVec Ideal S1x128 .f32) (x : Vec Ideal S1x256x128 .f32) (a : Fin 256) (b : Fin 128) :
    k0_pay10 (F := Ideal) t c x (ix2 a b) = (∑ i : Fin 256, t (ix2 a i) * x (ix3 0 i b) : EReal) + c (ix2 0 b) := by
  pointwise [k0_pay10]

theorem pay12_at (t : FVec Ideal S256x256 .f32) (c : FVec Ideal S1x128 .f32) (x y : Vec Ideal S1x256x128 .f32) (a : Fin 256) (b : Fin 128) :
    k0_pay12 (F := Ideal) t c x y (ix2 a b) = (∑ i : Fin 256, t (ix2 a i) * y (ix3 0 i b) : EReal) + k0_pay10 (F := Ideal) t c x (ix2 255 b) := by
  pointwise [k0_pay12]

theorem pay14_at (t : FVec Ideal S256x256 .f32) (c : FVec Ideal S1x128 .f32) (x y z : Vec Ideal S1x256x128 .f32) (a : Fin 256) (b : Fin 128) :
    k0_pay14 (F := Ideal) t c x y z (ix2 a b) = (∑ i : Fin 256, t (ix2 a i) * z (ix3 0 i b) : EReal) + k0_pay12 (F := Ideal) t c x y (ix2 255 b) := by
  pointwise [k0_pay14]

theorem pay16_at (t : FVec Ideal S256x256 .f32) (c : FVec Ideal S1x128 .f32) (x y z u : Vec Ideal S1x256x128 .f32) (a : Fin 256) (b : Fin 128) :
    k0_pay16 (F := Ideal) t c x y z u (ix2 a b) = (∑ i : Fin 256, t (ix2 a i) * u (ix3 0 i b) : EReal) + k0_pay14 (F := Ideal) t c x y z (ix2 255 b) := by
  pointwise [k0_pay16]

theorem pay18_at (t : FVec Ideal S256x256 .f32) (s : FVec Ideal S256x128 .f32) (x : Vec Ideal S1x256x128 .f32) (a : Fin 256) (b : Fin 128) :
    k0_pay18 (F := Ideal) t s x (ix3 0 a b) = (∑ i : Fin 256, t (ix2 a i) * x (ix3 0 i b) : EReal) + s (ix2 255 b) := by
  pointwise [k0_pay18]

theorem pay4_at (x : Vec Ideal S1x256x128 .f32) (a : Fin 256) (b : Fin 128) : k0_pay4 (F := Ideal) x (ix3 0 a b) = k0_pay3 x (ix2 a b) := by
  pointwise [k0_pay4]
theorem pay6_at (x y : Vec Ideal S1x256x128 .f32) (a : Fin 256) (b : Fin 128) : k0_pay6 (F := Ideal) x y (ix3 0 a b) = k0_pay5 x y (ix2 a b) := by
  pointwise [k0_pay6]
theorem pay8_at (x y z : Vec Ideal S1x256x128 .f32) (a : Fin 256) (b : Fin 128) : k0_pay8 (F := Ideal) x y z (ix3 0 a b) = k0_pay7 x y z (ix2 a b) := by
  pointwise [k0_pay8]
theorem pay11_at (t : FVec Ideal S256x256 .f32) (c : FVec Ideal S1x128 .f32) (x : Vec Ideal S1x256x128 .f32) (a : Fin 256) (b : Fin 128) :
    k0_pay11 (F := Ideal) t c x (ix3 0 a b) = k0_pay10 t c x (ix2 a b) := by
  pointwise [k0_pay11]
theorem pay13_at (t : FVec Ideal S256x256 .f32) (c : FVec Ideal S1x128 .f32) (x y : Vec Ideal S1x256x128 .f32) (a : Fin 256) (b : Fin 128) :
    k0_pay13 (F := Ideal) t c x y (ix3 0 a b) = k0_pay12 t c x y (ix2 a b) := by
  pointwise [k0_pay13]
theorem pay15_at (t : FVec Ideal S256x256 .f32) (c : FVec Ideal S1x128 .f32) (x y z : Vec Ideal S1x256x128 .f32) (a : Fin 256) (b : Fin 128) :
    k0_pay15 (F := Ideal) t c x y z (ix3 0 a b) = k0_pay14 t c x y z (ix2 a b) := by
  pointwise [k0_pay15]
theorem pay17_at (s : FVec Ideal S256x128 .f32) (a : Fin 256) (b : Fin 128) : k0_pay17 (F := Ideal) s (ix3 0 a b) = s (ix2 a b) := by
  pointwise [k0_pay17]

/-- The rows of block `o`. -/
theorem rows_at (x3 : Vec Ideal S1x2048x128 .f32) (o : ℕ) (ho : o + 256 ≤ 2048) (inb) (i : Fin 256) (b : Fin 128) :
    (View.ld x3 (Rect.unit (s := S1x2048x128) ![0, o, 0] S1x256x128.size inb) : Vec Ideal S1x256x128 .f32) (ix3 0 i b) = x3 (ix3 0 ⟨o + i.val, by omega⟩ b) := by
  show x3 _ = x3 _
  congr 1
  funext a
  fin_cases a
  · exact Fin.ext (by simp [Rect.unit, LoadRect.idx, Rect.toLoadRect])
  · exact Fin.ext (by simp [Rect.unit, LoadRect.idx, Rect.toLoadRect])
  · exact Fin.ext (by simp [Rect.unit, LoadRect.idx, Rect.toLoadRect])

/-- One block's step, the triangle's row summed. -/
theorem sums_step (x3 : Vec Ideal S1x2048x128 .f32) (b : Fin 128) (x : Vec Ideal S1x256x128 .f32) (o : ℕ) (ho : o + 256 ≤ 2048)
    (hx : ∀ i : Fin 256, x (ix3 0 i b) = x3 (ix3 0 ⟨o + i.val, by omega⟩ b)) (a : Fin 256) (c : EReal)
    (hc : c = Sums.upto (fun i : Fin 2048 => x3 (ix3 0 i b)) o) :
    (∑ i : Fin 256, k0_pay2 (F := Ideal) (ix2 a i) * x (ix3 0 i b) : EReal) + c = Sums.upto (fun i : Fin 2048 => x3 (ix3 0 i b)) (o + (a.val + 1)) := by
  rw [hc, ← Sums.upto_block (fun i : Fin 2048 => x3 (ix3 0 i b)) (fun i => x (ix3 0 i b)) o ho hx a]
  congr 1
  exact Finset.sum_congr rfl fun i _ => by rw [tri_at]

theorem upto_zero (v : Fin 2048 → EReal) : (0 : EReal) = Sums.upto v 0 := by simp [Sums.upto]

/-- The running sums the pieces hold. -/
theorem cum_at (x3 : Vec Ideal S1x2048x128 .f32) (l : Fin 2048) (b : Fin 128) :
    View.canon (cumPieces (F := Ideal) x3) (ix3 0 l b) = Sums.upto (fun i : Fin 2048 => x3 (ix3 0 i b)) (l.val + 1) := by
  let G : S1x2048x128.Idx → EReal := fun y => Sums.upto (fun i : Fin 2048 => x3 (ix3 0 i (y 2))) ((y 1).val + 1)
  have hG : ∀ (o : ℕ) (ho : o + 256 ≤ 2048) (inb) (p : Vec Ideal S1x256x128 .f32)
      (hp : ∀ a b, p (ix3 0 a b) = Sums.upto (fun i : Fin 2048 => x3 (ix3 0 i b)) (o + (a.val + 1)))
      (x : (Rect.unit (s := S1x2048x128) ![0, o, 0] S1x256x128.size inb).shape.Idx), p x = G ((Rect.unit (s := S1x2048x128) ![0, o, 0] S1x256x128.size inb).emb x) := by
    intro o ho inb p hp x
    have ex : x = ix3 (n0 := 1) (n1 := 256) (n2 := 128) (x 0) (x 1) (x 2) := by funext a; match a with | ⟨0, _⟩ => rfl | ⟨1, _⟩ => rfl | ⟨2, _⟩ => rfl
    have e0 : x 0 = (0 : Fin 1) := Subsingleton.elim (α := Fin 1) _ _
    have e2 : ((Rect.unit (s := S1x2048x128) ![0, o, 0] S1x256x128.size inb).emb x) 2 = (x 2 : Fin 128) :=
      Fin.ext (by show 0 + 1 * (x 2).val = (x 2).val; omega)
    have e1 : (((Rect.unit (s := S1x2048x128) ![0, o, 0] S1x256x128.size inb).emb x) 1).val + 1 = o + ((x 1).val + 1) := by
      show o + 1 * (x 1).val + 1 = _; omega
    show p x = Sums.upto (fun i : Fin 2048 => x3 (ix3 0 i (((Rect.unit (s := S1x2048x128) ![0, o, 0] S1x256x128.size inb).emb x) 2))) _
    rw [e1, e2, ← hp (x 1) (x 2)]
    rw [e0] at ex
    exact congrArg p ex
  have h0 := fun b a => (pay3_at (View.ld x3 (Rect.unit (s := S1x2048x128) ![0, 0, 0] S1x256x128.size inb_S1x2048x128_S1x256x128_0_0_0)) a b).trans
    (sums_step x3 b _ 0 (by omega) (fun i => rows_at x3 0 (by omega) _ i b) a 0 (upto_zero _))
  have h1 := fun b a => (pay5_at _ (View.ld x3 (Rect.unit (s := S1x2048x128) ![0, 256, 0] S1x256x128.size inb_S1x2048x128_S1x256x128_0_256_0)) a b).trans
    (sums_step x3 b _ 256 (by omega) (fun i => rows_at x3 256 (by omega) _ i b) a _ (h0 b 255))
  have h2 := fun b a => (pay7_at _ _ (View.ld x3 (Rect.unit (s := S1x2048x128) ![0, 512, 0] S1x256x128.size inb_S1x2048x128_S1x256x128_0_512_0)) a b).trans
    (sums_step x3 b _ 512 (by omega) (fun i => rows_at x3 512 (by omega) _ i b) a _ (h1 b 255))
  have h3 := fun b a => (pay10_at k0_pay2 _ (View.ld x3 (Rect.unit (s := S1x2048x128) ![0, 768, 0] S1x256x128.size inb_S1x2048x128_S1x256x128_0_768_0)) a b).trans
    (sums_step x3 b _ 768 (by omega) (fun i => rows_at x3 768 (by omega) _ i b) a _ ((pay9_at _ _ _ b).trans (h2 b 255)))
  have h4 := fun b a => (pay12_at k0_pay2 _ _ (View.ld x3 (Rect.unit (s := S1x2048x128) ![0, 1024, 0] S1x256x128.size inb_S1x2048x128_S1x256x128_0_1024_0)) a b).trans
    (sums_step x3 b _ 1024 (by omega) (fun i => rows_at x3 1024 (by omega) _ i b) a _ (h3 b 255))
  have h5 := fun b a => (pay14_at k0_pay2 _ _ _ (View.ld x3 (Rect.unit (s := S1x2048x128) ![0, 1280, 0] S1x256x128.size inb_S1x2048x128_S1x256x128_0_1280_0)) a b).trans
    (sums_step x3 b _ 1280 (by omega) (fun i => rows_at x3 1280 (by omega) _ i b) a _ (h4 b 255))
  have h6 := fun b a => (pay16_at k0_pay2 _ _ _ _ (View.ld x3 (Rect.unit (s := S1x2048x128) ![0, 1536, 0] S1x256x128.size inb_S1x2048x128_S1x256x128_0_1536_0)) a b).trans
    (sums_step x3 b _ 1536 (by omega) (fun i => rows_at x3 1536 (by omega) _ i b) a _ (h5 b 255))
  have h7 := fun b a => (pay18_at k0_pay2 _ (View.ld x3 (Rect.unit (s := S1x2048x128) ![0, 1792, 0] S1x256x128.size inb_S1x2048x128_S1x256x128_0_1792_0)) a b).trans
    (sums_step x3 b _ 1792 (by omega) (fun i => rows_at x3 1792 (by omega) _ i b) a _ (h6 b 255))
  refine (View.canon_apply_of_pieces (Val := Elt Ideal) (e := .f32) G _ ?_ (ix3 0 l b) ?_)
  · intro p hp
    simp only [cumPieces, List.mem_cons, List.not_mem_nil, or_false] at hp
    rcases hp with rfl | rfl | rfl | rfl | rfl | rfl | rfl | rfl
    · exact hG 1792 (by omega) inb_S1x2048x128_S1x256x128_0_1792_0 _ fun a b => h7 b a
    · exact hG 1536 (by omega) inb_S1x2048x128_S1x256x128_0_1536_0 _ fun a b => (pay17_at _ a b).trans (h6 b a)
    · exact hG 1280 (by omega) inb_S1x2048x128_S1x256x128_0_1280_0 _ fun a b => (pay15_at _ _ _ _ _ a b).trans (h5 b a)
    · exact hG 1024 (by omega) inb_S1x2048x128_S1x256x128_0_1024_0 _ fun a b => (pay13_at _ _ _ _ a b).trans (h4 b a)
    · exact hG 768 (by omega) inb_S1x2048x128_S1x256x128_0_768_0 _ fun a b => (pay11_at _ _ _ a b).trans (h3 b a)
    · exact hG 512 (by omega) inb_S1x2048x128_S1x256x128_0_512_0 _ fun a b => (pay8_at _ _ _ a b).trans (h2 b a)
    · exact hG 256 (by omega) inb_S1x2048x128_S1x256x128_0_256_0 _ fun a b => (pay6_at _ _ a b).trans (h1 b a)
    · exact hG 0 (by omega) inb_S1x2048x128_S1x256x128_0_0_0 _ fun a b => (pay4_at _ a b).trans (h0 b a)
  · have hm : ∀ (o : ℕ) (inb) (w), o ≤ l.val → l.val < o + 256 →
        ix3 0 l b ∈ (⟨Rect.unit (s := S1x2048x128) ![0, o, 0] S1x256x128.size inb, w⟩ : View.Piece (Elt Ideal) S1x2048x128 .f32).1.set := by
      intro o inb w h1 h2
      refine (LoadRect.mem_set _).mpr fun c => ?_
      fin_cases c
      · exact ⟨0, Nat.one_pos, rfl⟩
      · exact ⟨l.val - o, by show l.val - o < 256; omega, by show l.val = o + 1 * (l.val - o); omega⟩
      · exact ⟨b.val, b.isLt, by show b.val = 0 + 1 * b.val; omega⟩
    have hl := l.isLt
    by_cases c1 : l.val < 256
    · exact ⟨_, .tail _ (.tail _ (.tail _ (.tail _ (.tail _ (.tail _ (.tail _ (.head _))))))), hm 0 _ _ (by omega) (by omega)⟩
    by_cases c2 : l.val < 512
    · exact ⟨_, .tail _ (.tail _ (.tail _ (.tail _ (.tail _ (.tail _ (.head _)))))), hm 256 _ _ (by omega) (by omega)⟩
    by_cases c3 : l.val < 768
    · exact ⟨_, .tail _ (.tail _ (.tail _ (.tail _ (.tail _ (.head _))))), hm 512 _ _ (by omega) (by omega)⟩
    by_cases c4 : l.val < 1024
    · exact ⟨_, .tail _ (.tail _ (.tail _ (.tail _ (.head _)))), hm 768 _ _ (by omega) (by omega)⟩
    by_cases c5 : l.val < 1280
    · exact ⟨_, .tail _ (.tail _ (.tail _ (.head _))), hm 1024 _ _ (by omega) (by omega)⟩
    by_cases c6 : l.val < 1536
    · exact ⟨_, .tail _ (.tail _ (.head _)), hm 1280 _ _ (by omega) (by omega)⟩
    by_cases c7 : l.val < 1792
    · exact ⟨_, .tail _ (.head _), hm 1536 _ _ (by omega) (by omega)⟩
    · exact ⟨_, .head _, hm 1792 _ _ (by omega) (by omega)⟩

end Cert.KernelIdeal.Value

end
-- ==== Proof.KernelMeasure.lean ====
/- The kernel's measures of the queries, half by half and head by head, read at one index. -/
module

public import proofs.«01_k».proof.Proof.Body
public import proofs.«01_k».proof.Proof.Sums
public import Idealize.ShloMosaic.Lib.Pointwise
public import Idealize.ShloMosaic.Lib.Writes

@[expose] public section

set_option maxRecDepth 16384

noncomputable section

namespace Cert.KernelIdeal.Value

open Cert.KernelIdeal Cert.KernelIdeal.Gen
open Idealize.ShloMosaic

/-- A query's measure from its products with all keys and how often each key is sampled. -/
def measureOf (n p : Fin 2048 → EReal) : EReal :=
  (Finset.univ.fold max (Ideal.ofBits .f32 4286578688#32) fun j => Scalar.select (Ideal.cmp .ogt (n j) 0) (p j) (Ideal.ofBits .f32 4286578688#32))
    - (∑ j, p j * n j) * Ideal.ofBits .f32 973078528#32

theorem pay19_at (k : Vec Ideal S1x2048x64 .f32) (q : Vec Ideal S1x1024x64 .f32) (n : Vec Ideal S2048x1024 .f32) (l : Fin 1024) :
    k0_pay19 (F := Ideal) k q n (ix2 0 l) = measureOf (fun j => n (ix2 j l)) (fun j => ∑ y : Fin 64, (k (ix3 0 j y) * q (ix3 0 l y) : EReal)) := by
  pointwise [k0_pay19, measureOf]

theorem pay20_at (x : FVec Ideal S1x1024 .f32) (l : Fin 1024) : k0_pay20 (F := Ideal) x (ix2 0 l) = x (ix2 0 l) := by
  pointwise [k0_pay20]

theorem pay21_at (k : Vec Ideal S1x2048x64 .f32) (q : Vec Ideal S1x1024x64 .f32) (n : Vec Ideal S2048x1024 .f32) (l : Fin 1024) :
    k0_pay21 (F := Ideal) k q n (ix2 0 l) = measureOf (fun j => n (ix2 j l)) (fun j => ∑ y : Fin 64, (k (ix3 0 j y) * q (ix3 0 l y) : EReal)) := by
  pointwise [k0_pay21, measureOf]

theorem pay28_at (k : Vec Ideal S1x2048x64 .f32) (q : Vec Ideal S1x1024x64 .f32) (n : Vec Ideal S2048x1024 .f32) (l : Fin 1024) :
    k0_pay28 (F := Ideal) k q n (ix2 0 l) = measureOf (fun j => n (ix2 j l)) (fun j => ∑ y : Fin 64, (k (ix3 0 j y) * q (ix3 0 l y) : EReal)) := by
  pointwise [k0_pay28, measureOf]

theorem pay32_at (k : Vec Ideal S1x2048x64 .f32) (q : Vec Ideal S1x1024x64 .f32) (n : Vec Ideal S2048x1024 .f32) (l : Fin 1024) :
    k0_pay32 (F := Ideal) (k0_pay29 k q) (k0_pay30 n) k0_pay31 (ix2 0 l)
      = measureOf (fun j => n (ix2 j l)) (fun j => ∑ y : Fin 64, (k (ix3 0 j y) * q (ix3 0 l y) : EReal)) := by
  pointwise [k0_pay32, k0_pay29, k0_pay30, k0_pay31, measureOf]

end Cert.KernelIdeal.Value

end
-- ==== Proof.KernelHead.lean ====
/- The kernel's attention of a head over its picked queries, read at one index. -/
module

public import proofs.«01_k».proof.Proof.Body
public import proofs.«01_k».proof.Proof.Sums
public import Idealize.ShloMosaic.Lib.Pointwise
public import Idealize.ShloMosaic.Lib.Writes

@[expose] public section

set_option maxRecDepth 16384

noncomputable section

namespace Cert.KernelIdeal.Value

open Cert.KernelIdeal Cert.KernelIdeal.Gen
open Idealize.ShloMosaic

/-- The first head's steps are the second head's. -/
theorem pay26_eq (r c : IVec S40x40 32) (oh : Vec Ideal S40x2048 .f32) (q : Vec Ideal S1x2048x64 .f32) (k v : Vec Ideal S1x40x64 .f32)
    (x : Vec Ideal S1x2048x64 .f32) :
    k0_pay27 (F := Ideal) (k0_pay26 r c oh (k0_pay25 q) k v oh x) = k0_pay1 (k0_pay36 r c oh q k) v oh x := rfl

theorem pay36_at (r c : IVec S40x40 32) (oh : Vec Ideal S40x2048 .f32) (q : Vec Ideal S1x2048x64 .f32) (k : Vec Ideal S1x40x64 .f32) (a b : Fin 40) :
    k0_pay36 (F := Ideal) r c oh q k (ix2 a b)
      = Ideal.exp (Scalar.select (IntOp.cmpi .sgt (c (ix2 a b)) (r (ix2 a b))) (Ideal.ofBits .f32 4286578688#32)
          ((∑ x : Fin 64, (∑ i : Fin 2048, (oh (ix2 a i) * q (ix3 0 i x) : EReal)) * k (ix3 0 b x)) * Ideal.ofBits .f32 1040187392#32)
        - Finset.univ.fold max (Ideal.ofBits .f32 4286578688#32) fun b : Fin 40 =>
          Scalar.select (IntOp.cmpi .sgt (c (ix2 a b)) (r (ix2 a b))) (Ideal.ofBits .f32 4286578688#32)
          ((∑ x : Fin 64, (∑ i : Fin 2048, (oh (ix2 a i) * q (ix3 0 i x) : EReal)) * k (ix3 0 b x)) * Ideal.ofBits .f32 1040187392#32)) := by
  pointwise [k0_pay36]

theorem pay1_at (e : FVec Ideal S40x40 .f32) (v : Vec Ideal S1x40x64 .f32) (oh : Vec Ideal S40x2048 .f32) (c : Vec Ideal S1x2048x64 .f32) (l : Fin 2048) (d : Fin 64) :
    k0_pay1 (F := Ideal) e v oh c (ix3 0 l d)
      = if (0 : EReal) < ∑ x : Fin 40, oh (ix2 x l) then
          ∑ x : Fin 40, (oh (ix2 x l) * ∑ y : Fin 40, (Ideal.div (e (ix2 x y)) (∑ z : Fin 40, (e (ix2 x z) : EReal)) * v (ix3 0 y d) : EReal) : EReal)
        else c (ix3 0 l d) := by
  pointwise [k0_pay1]

theorem row_at (a b : Fin 40) : iota .tc S40x40 32 [0] iota_S40x40_d0_w32 (ix2 a b) = BitVec.ofNat 32 a.val := by pointwise
theorem col_at (a b : Fin 40) : iota .tc S40x40 32 [1] iota_S40x40_d1_w32 (ix2 a b) = BitVec.ofNat 32 b.val := by pointwise

end Cert.KernelIdeal.Value

end
-- ==== Proof.KernelBlock.lean ====
/- The block one run of the kernel's body leaves, read at one index: a query among the forty of greatest measure attends, any
   other gets the running sum of the values. -/
module

public import proofs.«01_k».proof.Proof.KernelSums
public import proofs.«01_k».proof.Proof.KernelMeasure
public import proofs.«01_k».proof.Proof.KernelHead
public import proofs.«01_k».proof.Proof.Select

@[expose] public section

set_option maxRecDepth 16384

noncomputable section

namespace Cert.KernelIdeal.Value

open Cert.KernelIdeal Cert.KernelIdeal.Gen
open Idealize.ShloMosaic

/-- What a head's query `l` gets at coordinate `d`. -/
def headOut (M : Fin 2048 → EReal) (q k v : Fin 2048 → Fin 64 → EReal) (l : Fin 2048) (d : Fin 64) : EReal :=
  if Order.rank M l < 40 then
    Sums.attend (fun b : Fin 40 => (∑ x : Fin 64, q l x * k (b.castLE (by omega)) x) * Ideal.ofBits .f32 1040187392#32)
      (fun b : Fin 40 => v (b.castLE (by omega)) d) (Order.rank M l)
  else Sums.upto (fun i => v i d) (l.val + 1)

/-- Coordinate `d` of the block's head `h`. -/
def col (h : Fin 2) (d : Fin 64) : Fin 128 := ⟨64 * h.val + d.val, by omega⟩

/-- A head's measures from the block's arrays. -/
def blockMeasure (x0 : Vec Ideal S2048x2048 .f32) (x1 x2 : Vec Ideal S1x2048x128 .f32) (h : Fin 2) (l : Fin 2048) : EReal :=
  measureOf (fun j => x0 (ix2 j l)) (fun j => ∑ y : Fin 64, (x2 (ix3 0 j (col h y)) * x1 (ix3 0 l (col h y)) : EReal))

theorem ld3 (x : Vec Ideal S1x2048x128 .f32) (o c n m : ℕ) (inb) (i : Fin n) (y : Fin m) (hi : o + i.val < 2048) (hc : c + y.val < 128) :
    View.ld x (Rect.unit (s := S1x2048x128) ![0, o, c] ![1, n, m] inb) (ix3 (n0 := 1) (n1 := n) (n2 := m) 0 i y) = x (ix3 0 ⟨o + i.val, hi⟩ ⟨c + y.val, hc⟩) := by
  show x _ = x _
  congr 1
  funext a
  fin_cases a
  · rfl
  · exact Fin.ext (by show o + 1 * i.val = o + i.val; omega)
  · exact Fin.ext (by show c + 1 * y.val = c + y.val; omega)

theorem ld2 (x : Vec Ideal S2048x2048 .f32) (o : ℕ) (inb) (j : Fin 2048) (l : Fin 1024) (hl : o + l.val < 2048) :
    View.ld x (Rect.unit (s := S2048x2048) ![0, o] ![2048, 1024] inb) (ix2 (n0 := 2048) (n1 := 1024) j l) = x (ix2 j ⟨o + l.val, hl⟩) := by
  show x _ = x _
  congr 1
  funext a
  fin_cases a
  · exact Fin.ext (by show 0 + 1 * j.val = j.val; omega)
  · exact Fin.ext (by show o + 1 * l.val = o + l.val; omega)

theorem half_at (w1 w0 : Vec Ideal S1x1024 .f32) (L : List (View.Piece (Elt Ideal) S1x2048 .f32)) (l : Fin 2048) :
    View.canon ((⟨Rect.unit ![0, 1024] S1x1024.size inb_S1x2048_S1x1024_0_1024, w1⟩ : View.Piece (Elt Ideal) S1x2048 .f32)
        :: (⟨Rect.unit ![0, 0] S1x1024.size inb_S1x2048_S1x1024_0_0, w0⟩ : View.Piece (Elt Ideal) S1x2048 .f32) :: L) (ix2 0 l)
      = if h : l.val < 1024 then w0 (ix2 0 ⟨l.val, h⟩) else w1 (ix2 0 ⟨l.val - 1024, by omega⟩) := by
  by_cases h : l.val < 1024
  · rw [dif_pos h, View.canon_cons_of_not_mem]
    · have e : (ix2 0 l : S1x2048.Idx) = (Rect.unit (s := S1x2048) ![0, 0] S1x1024.size inb_S1x2048_S1x1024_0_0).emb (ix2 (n0 := 1) (n1 := 1024) 0 ⟨l.val, h⟩) := by
        refine (Rect.emb_eq_of_coords _ _ _ fun a => ?_).symm
        fin_cases a
        · rfl
        · show l.val = 0 + 1 * l.val; omega
      rw [e]; exact View.canon_cons_emb _ _ _ _
    · exact Rect.not_mem_set_of_axis _ _ 1 1024 1024 rfl rfl rfl (Or.inl h)
  · rw [dif_neg h]
    have e : (ix2 0 l : S1x2048.Idx) = (Rect.unit (s := S1x2048) ![0, 1024] S1x1024.size inb_S1x2048_S1x1024_0_1024).emb (ix2 (n0 := 1) (n1 := 1024) 0 ⟨l.val - 1024, by omega⟩) := by
      refine (Rect.emb_eq_of_coords _ _ _ fun a => ?_).symm
      fin_cases a
      · rfl
      · show l.val = 1024 + 1 * (l.val - 1024); omega
    rw [e]; exact View.canon_cons_emb _ _ _ _

theorem whole_idx (l : Fin 2048) : (Rect.unit (s := S1x2048) ![0, 0] S1x2048.size inb_S1x2048_S1x2048_0_0).idx (ix2 (n0 := 1) (n1 := 2048) 0 l) = ix2 0 l := by
  funext a
  fin_cases a
  · rfl
  · exact Fin.ext (by show 0 + 1 * l.val = l.val; omega)

theorem measure_congr (n n' p p' : Fin 2048 → EReal) (hn : ∀ j, n j = n' j) (hp : ∀ j, p j = p' j) : measureOf n p = measureOf n' p' := by
  rw [funext hn, funext hp]

theorem start0_at (x0 : Vec Ideal S2048x2048 .f32) (x1 x2 : Vec Ideal S1x2048x128 .f32) (l : Fin 2048) :
    start0 (F := Ideal) x0 x1 x2 (ix2 0 l) = blockMeasure x0 x1 x2 0 l := by
  show View.canon (measPieces0 x0 x1 x2) ((Rect.unit (s := S1x2048) ![0, 0] S1x2048.size inb_S1x2048_S1x2048_0_0).idx (ix2 (n0 := 1) (n1 := 2048) 0 l)) = _
  rw [whole_idx, measPieces0]
  refine (half_at _ _ _ l).trans ?_
  split
  · rename_i h
    refine (pay20_at _ _).trans ((pay19_at _ _ _ _).trans (measure_congr _ _ _ _ (fun j => ?_) fun j => Finset.sum_congr rfl fun y _ => congrArg₂ (· * ·) ?_ ?_))
    · refine (ld2 x0 0 _ j ⟨l.val, h⟩ (by show 0 + l.val < 2048; omega)).trans (congrArg x0 ?_)
      exact congrArg (ix2 j) (Fin.ext (by show 0 + l.val = l.val; omega))
    · refine (ld3 x2 0 0 2048 64 _ j y (by omega) (by omega)).trans (congrArg x2 ?_)
      exact congrArg₂ (ix3 0) (Fin.ext (by show 0 + j.val = j.val; omega)) (Fin.ext (by show 0 + y.val = 64 * 0 + y.val; omega))
    · refine (ld3 x1 0 0 1024 64 _ ⟨l.val, h⟩ y (by show 0 + l.val < 2048; omega) (by omega)).trans (congrArg x1 ?_)
      exact congrArg₂ (ix3 0) (Fin.ext (by show 0 + l.val = l.val; omega)) (Fin.ext (by show 0 + y.val = 64 * 0 + y.val; omega))
  · rename_i h
    refine (pay21_at _ _ _ _).trans (measure_congr _ _ _ _ (fun j => ?_) fun j => Finset.sum_congr rfl fun y _ => congrArg₂ (· * ·) ?_ ?_)
    · refine (ld2 x0 1024 _ j ⟨l.val - 1024, by omega⟩ (by show 1024 + (l.val - 1024) < 2048; omega)).trans (congrArg x0 ?_)
      exact congrArg (ix2 j) (Fin.ext (by show 1024 + (l.val - 1024) = l.val; omega))
    · refine (ld3 x2 0 0 2048 64 _ j y (by omega) (by omega)).trans (congrArg x2 ?_)
      exact congrArg₂ (ix3 0) (Fin.ext (by show 0 + j.val = j.val; omega)) (Fin.ext (by show 0 + y.val = 64 * 0 + y.val; omega))
    · refine (ld3 x1 1024 0 1024 64 _ ⟨l.val - 1024, by omega⟩ y (by show 1024 + (l.val - 1024) < 2048; omega) (by omega)).trans (congrArg x1 ?_)
      exact congrArg₂ (ix3 0) (Fin.ext (by show 1024 + (l.val - 1024) = l.val; omega)) (Fin.ext (by show 0 + y.val = 64 * 0 + y.val; omega))

theorem start1_at (x0 : Vec Ideal S2048x2048 .f32) (x1 x2 : Vec Ideal S1x2048x128 .f32) (l : Fin 2048) :
    start1 (F := Ideal) x0 x1 x2 (ix2 0 l) = blockMeasure x0 x1 x2 1 l := by
  show View.canon (measPieces1 x0 x1 x2 ++ measPieces0 x0 x1 x2) ((Rect.unit (s := S1x2048) ![0, 0] S1x2048.size inb_S1x2048_S1x2048_0_0).idx (ix2 (n0 := 1) (n1 := 2048) 0 l)) = _
  rw [whole_idx, measPieces1]
  refine (half_at _ _ _ l).trans ?_
  split
  · rename_i h
    refine (pay28_at _ _ _ _).trans (measure_congr _ _ _ _ (fun j => ?_) fun j => Finset.sum_congr rfl fun y _ => congrArg₂ (· * ·) ?_ ?_)
    · refine (ld2 x0 0 _ j ⟨l.val, h⟩ (by show 0 + l.val < 2048; omega)).trans (congrArg x0 ?_)
      exact congrArg (ix2 j) (Fin.ext (by show 0 + l.val = l.val; omega))
    · refine (ld3 x2 0 64 2048 64 _ j y (by omega) (by omega)).trans (congrArg x2 ?_)
      exact congrArg₂ (ix3 0) (Fin.ext (by show 0 + j.val = j.val; omega)) (Fin.ext (by show 64 + y.val = 64 * 1 + y.val; omega))
    · refine (ld3 x1 0 64 1024 64 _ ⟨l.val, h⟩ y (by show 0 + l.val < 2048; omega) (by omega)).trans (congrArg x1 ?_)
      exact congrArg₂ (ix3 0) (Fin.ext (by show 0 + l.val = l.val; omega)) (Fin.ext (by show 64 + y.val = 64 * 1 + y.val; omega))
  · rename_i h
    refine (pay32_at _ _ _ _).trans (measure_congr _ _ _ _ (fun j => ?_) fun j => Finset.sum_congr rfl fun y _ => congrArg₂ (· * ·) ?_ ?_)
    · refine (ld2 x0 1024 _ j ⟨l.val - 1024, by omega⟩ (by show 1024 + (l.val - 1024) < 2048; omega)).trans (congrArg x0 ?_)
      exact congrArg (ix2 j) (Fin.ext (by show 1024 + (l.val - 1024) = l.val; omega))
    · refine (ld3 x2 0 64 2048 64 _ j y (by omega) (by omega)).trans (congrArg x2 ?_)
      exact congrArg₂ (ix3 0) (Fin.ext (by show 0 + j.val = j.val; omega)) (Fin.ext (by show 64 + y.val = 64 * 1 + y.val; omega))
    · refine (ld3 x1 1024 64 1024 64 _ ⟨l.val - 1024, by omega⟩ y (by show 1024 + (l.val - 1024) < 2048; omega) (by omega)).trans (congrArg x1 ?_)
      exact congrArg₂ (ix3 0) (Fin.ext (by show 1024 + (l.val - 1024) = l.val; omega)) (Fin.ext (by show 64 + y.val = 64 * 1 + y.val; omega))

/-- The mask, as a case distinction. -/
theorem mask_at (a b : Fin 40) (x y : EReal) : Scalar.select (IntOp.cmpi .sgt (iota .tc S40x40 32 [1] iota_S40x40_d1_w32 (ix2 a b)) (iota .tc S40x40 32 [0] iota_S40x40_d0_w32 (ix2 a b))) x y
    = if a.val < b.val then x else y := by
  rw [row_at, col_at]
  have h : IntOp.cmpi .sgt (BitVec.ofNat 32 b.val) (BitVec.ofNat 32 a.val) = if a.val < b.val then 1#1 else 0#1 := by
    simp only [IntOp.cmpi, BitVec.slt_eq_decide, toInt_ofNat b.val (by omega), toInt_ofNat a.val (by omega), Nat.cast_lt]
    split <;> simp [*]
  rw [h]
  split <;> simp [Scalar.select, *]

/-- A head's attention over the queries its table picks. -/
theorem attend_at (oh : Vec Ideal S40x2048 .f32) (M : Fin 2048 → EReal) (hoh : ∀ r a, oh (ix2 r a) = if Order.rank M a = r.val then (1 : EReal) else 0)
    (q : Vec Ideal S1x2048x64 .f32) (k v : Vec Ideal S1x40x64 .f32) (c : Vec Ideal S1x2048x64 .f32) (l : Fin 2048) (d : Fin 64) :
    k0_pay1 (F := Ideal) (k0_pay36 (iota .tc S40x40 32 [0] iota_S40x40_d0_w32) (iota .tc S40x40 32 [1] iota_S40x40_d1_w32) oh q k) v oh c (ix3 0 l d)
      = if Order.rank M l < 40 then
          Sums.attend (fun b : Fin 40 => (∑ x : Fin 64, (q (ix3 0 l x) * k (ix3 0 b x) : EReal)) * Ideal.ofBits .f32 1040187392#32)
            (fun b => v (ix3 0 b d)) (Order.rank M l)
        else c (ix3 0 l d) := by
  rw [pay1_at]
  by_cases hr : Order.rank M l < 40
  · have hs : ∀ f : Fin 40 → EReal, ∑ x : Fin 40, oh (ix2 x l) * f x = f ⟨Order.rank M l, hr⟩ := fun f => by
      rw [← Sums.sum_oneHot (fun x : Fin 40 => Order.rank M l = x.val) ⟨Order.rank M l, hr⟩ (fun x => ⟨fun e => Fin.ext e.symm, fun e => by rw [e]⟩) f]
      exact Finset.sum_congr rfl fun x _ => by rw [hoh]
    have h1 : ∑ x : Fin 40, (oh (ix2 x l) : EReal) = 1 := by
      rw [← hs fun _ => 1]; exact Finset.sum_congr rfl fun x _ => (mul_one _).symm
    rw [h1, if_pos zero_lt_one, if_pos hr, hs]
    have hq : ∀ x : Fin 64, ∑ i : Fin 2048, (oh (ix2 (⟨Order.rank M l, hr⟩ : Fin 40) i) * q (ix3 0 i x) : EReal) = q (ix3 0 l x) := fun x => by
      rw [← Sums.sum_oneHot (fun i : Fin 2048 => Order.rank M i = Order.rank M l) l (fun i => ⟨fun e => Order.rank_injective M e, fun e => by rw [e]⟩) fun i => q (ix3 0 i x)]
      exact Finset.sum_congr rfl fun i _ => by rw [hoh]
    have hw : ∀ b : Fin 40, k0_pay36 (F := Ideal) (iota .tc S40x40 32 [0] iota_S40x40_d0_w32) (iota .tc S40x40 32 [1] iota_S40x40_d1_w32) oh q k (ix2 (⟨Order.rank M l, hr⟩ : Fin 40) b)
        = Sums.weight (fun b : Fin 40 => (∑ x : Fin 64, (q (ix3 0 l x) * k (ix3 0 b x) : EReal)) * Ideal.ofBits .f32 1040187392#32) (Order.rank M l) b := fun b => by
      rw [pay36_at, Sums.weight]
      simp only [hq, Sums.ofBits_negInf]
      exact congrArg Ideal.exp (congrArg₂ (· - ·) (mask_at ⟨Order.rank M l, hr⟩ b _ _) (Finset.fold_congr fun x _ => mask_at ⟨Order.rank M l, hr⟩ x _ _))
    unfold Sums.attend
    refine Finset.sum_congr rfl fun b _ => ?_
    simp only [hw]
  · have h0 : ∑ x : Fin 40, (oh (ix2 x l) : EReal) = 0 := Finset.sum_eq_zero fun x _ => by rw [hoh, if_neg (by have := x.isLt; omega)]
    rw [h0, if_neg (lt_irrefl _), if_neg hr]

theorem emb_col (h : Fin 2) (o : ℕ) (ho : o = 64 * h.val) (inb) (l : Fin 2048) (d : Fin 64) :
    (Rect.unit (s := S1x2048x128) ![0, 0, o] ![1, 2048, 64] inb).emb (ix3 (n0 := 1) (n1 := 2048) (n2 := 64) 0 l d) = ix3 0 l (col h d) := by
  refine Rect.emb_eq_of_coords _ _ _ fun a => ?_
  fin_cases a
  · rfl
  · show l.val = 0 + 1 * l.val; omega
  · show 64 * h.val + d.val = o + 1 * d.val; omega

theorem headOut_eq (M : Fin 2048 → EReal) (x1 x2 x3 : Vec Ideal S1x2048x128 .f32) (h : Fin 2) (oh : Vec Ideal S40x2048 .f32)
    (hoh : ∀ r a, oh (ix2 r a) = if Order.rank M a = r.val then (1 : EReal) else 0)
    (q : Vec Ideal S1x2048x64 .f32) (k v : Vec Ideal S1x40x64 .f32) (c : Vec Ideal S1x2048x64 .f32)
    (hq : ∀ l d, q (ix3 0 l d) = x1 (ix3 0 l (col h d))) (hk : ∀ (b : Fin 40) d, k (ix3 0 b d) = x2 (ix3 0 (b.castLE (by omega)) (col h d)))
    (hv : ∀ (b : Fin 40) d, v (ix3 0 b d) = x3 (ix3 0 (b.castLE (by omega)) (col h d)))
    (hc : ∀ (l : Fin 2048) d, c (ix3 0 l d) = Sums.upto (fun i : Fin 2048 => x3 (ix3 0 i (col h d))) (l.val + 1)) (l : Fin 2048) (d : Fin 64) :
    k0_pay1 (F := Ideal) (k0_pay36 (iota .tc S40x40 32 [0] iota_S40x40_d0_w32) (iota .tc S40x40 32 [1] iota_S40x40_d1_w32) oh q k) v oh c (ix3 0 l d)
      = headOut M (fun l d => x1 (ix3 0 l (col h d))) (fun l d => x2 (ix3 0 l (col h d))) (fun l d => x3 (ix3 0 l (col h d))) l d := by
  rw [attend_at oh M hoh, headOut, hc]
  simp only [hq, hk, hv]

theorem head0_at (x0 : Vec Ideal S2048x2048 .f32) (x1 x2 x3 : Vec Ideal S1x2048x128 .f32) (hM : ∀ l, ⊥ < blockMeasure x0 x1 x2 0 l) (l : Fin 2048) (d : Fin 64) :
    head0 (F := Ideal) x0 x1 x2 x3 (ix3 0 l d) = headOut (blockMeasure x0 x1 x2 0) (fun l d => x1 (ix3 0 l (col 0 d))) (fun l d => x2 (ix3 0 l (col 0 d)))
      (fun l d => x3 (ix3 0 l (col 0 d))) l d := by
  have e : (fun a => start0 (F := Ideal) x0 x1 x2 (ix2 0 a)) = blockMeasure x0 x1 x2 0 := funext fun a => start0_at x0 x1 x2 a
  refine (congrFun (pay26_eq _ _ _ _ _ _ _) _).trans (headOut_eq (blockMeasure x0 x1 x2 0) x1 x2 x3 0 _ (fun r a => ?_) _ _ _ _ (fun l d => ?_) (fun b d => ?_) (fun b d => ?_) (fun l d => ?_) l d)
  · rw [picks_at _ (fun a => by rw [start0_at]; exact hM a), e]
  · refine (ld3 x1 0 0 2048 64 _ l d (by omega) (by omega)).trans (congrArg x1 ?_)
    exact congrArg₂ (ix3 0) (Fin.ext (by show 0 + l.val = l.val; omega)) (Fin.ext (by show 0 + d.val = 64 * 0 + d.val; omega))
  · refine (ld3 x2 0 0 40 64 _ b d (by omega) (by omega)).trans (congrArg x2 ?_)
    exact congrArg₂ (ix3 0) (Fin.ext (by show 0 + b.val = b.val; omega)) (Fin.ext (by show 0 + d.val = 64 * 0 + d.val; omega))
  · refine (ld3 x3 0 0 40 64 _ b d (by omega) (by omega)).trans (congrArg x3 ?_)
    exact congrArg₂ (ix3 0) (Fin.ext (by show 0 + b.val = b.val; omega)) (Fin.ext (by show 0 + d.val = 64 * 0 + d.val; omega))
  · rw [← cum_at]
    exact congrArg (View.canon (cumPieces (F := Ideal) x3)) (emb_col 0 0 rfl _ l d)

theorem head1_at (x0 : Vec Ideal S2048x2048 .f32) (x1 x2 x3 : Vec Ideal S1x2048x128 .f32) (hM : ∀ l, ⊥ < blockMeasure x0 x1 x2 1 l) (l : Fin 2048) (d : Fin 64) :
    head1 (F := Ideal) x0 x1 x2 x3 (ix3 0 l d) = headOut (blockMeasure x0 x1 x2 1) (fun l d => x1 (ix3 0 l (col 1 d))) (fun l d => x2 (ix3 0 l (col 1 d)))
      (fun l d => x3 (ix3 0 l (col 1 d))) l d := by
  have e : (fun a => start1 (F := Ideal) x0 x1 x2 (ix2 0 a)) = blockMeasure x0 x1 x2 1 := funext fun a => start1_at x0 x1 x2 a
  refine headOut_eq (blockMeasure x0 x1 x2 1) x1 x2 x3 1 _ (fun r a => ?_) _ _ _ _ (fun l d => ?_) (fun b d => ?_) (fun b d => ?_) (fun l d => ?_) l d
  · rw [picks_at _ (fun a => by rw [start1_at]; exact hM a), e]
  · refine (ld3 x1 0 64 2048 64 _ l d (by omega) (by omega)).trans (congrArg x1 ?_)
    exact congrArg₂ (ix3 0) (Fin.ext (by show 0 + l.val = l.val; omega)) (Fin.ext (by show 64 + d.val = 64 * 1 + d.val; omega))
  · refine (ld3 x2 0 64 40 64 _ b d (by omega) (by omega)).trans (congrArg x2 ?_)
    exact congrArg₂ (ix3 0) (Fin.ext (by show 0 + b.val = b.val; omega)) (Fin.ext (by show 64 + d.val = 64 * 1 + d.val; omega))
  · refine (ld3 x3 0 64 40 64 _ b d (by omega) (by omega)).trans (congrArg x3 ?_)
    exact congrArg₂ (ix3 0) (Fin.ext (by show 0 + b.val = b.val; omega)) (Fin.ext (by show 64 + d.val = 64 * 1 + d.val; omega))
  · rw [← cum_at]
    refine (congrArg (View.canon (outPieces (F := Ideal) x0 x1 x2 x3)) (emb_col 1 64 rfl _ l d)).trans ?_
    exact View.canon_cons_of_not_mem _ _ (Rect.not_mem_set_of_axis _ _ 2 0 64 rfl rfl rfl (Or.inr (by show 0 + 64 ≤ 64 * 1 + d.val; omega)))

theorem blockOut_at (x0 : Vec Ideal S2048x2048 .f32) (x1 x2 x3 : Vec Ideal S1x2048x128 .f32) (h : Fin 2) (hM : ∀ h l, ⊥ < blockMeasure x0 x1 x2 h l)
    (l : Fin 2048) (d : Fin 64) :
    blockOut (F := Ideal) x0 x1 x2 x3 (ix3 0 l (col h d)) = headOut (blockMeasure x0 x1 x2 h) (fun l d => x1 (ix3 0 l (col h d))) (fun l d => x2 (ix3 0 l (col h d)))
      (fun l d => x3 (ix3 0 l (col h d))) l d := by
  fin_cases h
  · refine (View.canon_cons_of_not_mem _ _ (Rect.not_mem_set_of_axis _ _ 2 64 64 rfl rfl rfl (Or.inl (by show 64 * 0 + d.val < 64; omega)))).trans ?_
    refine Eq.trans ?_ (head0_at x0 x1 x2 x3 (hM 0) l d)
    refine (congrArg (View.canon (outPieces (F := Ideal) x0 x1 x2 x3)) (emb_col 0 0 rfl inb_S1x2048x128_S1x2048x64_0_0_0 l d).symm).trans ?_
    exact View.canon_cons_emb _ _ _ _
  · refine Eq.trans ?_ (head1_at x0 x1 x2 x3 (hM 1) l d)
    refine (congrArg (blockOut (F := Ideal) x0 x1 x2 x3) (emb_col 1 64 rfl inb_S1x2048x128_S1x2048x64_0_0_64 l d).symm).trans ?_
    exact View.canon_cons_emb _ _ _ _

end Cert.KernelIdeal.Value

end
-- ==== Proof.KernelLayout.lean ====
/- The kernel's result array from its blocks, and the result read at one index: batch, query, head and coordinate. -/
module

public import proofs.«01_k».proof.Proof.KernelInputs
public import proofs.«01_k».proof.Proof.KernelBlock
public import Idealize.ShloMosaic.Lib.Pipeline.ValueKit
public import Idealize.ShloMosaic.Lib.Pointwise

@[expose] public section

set_option maxRecDepth 16384
set_option maxHeartbeats 4000000

noncomputable section

namespace Cert.KernelIdeal.Value

open Cert.KernelIdeal Cert.KernelIdeal.Gen
open Idealize.ShloMosaic Idealize.ShloMosaic.TcCoe Idealize.ShloMosaic.StableHlo

/-- The columns of a pair of heads of one batch. -/
def blk (X : FVec Ideal S2x2048x1024 .f32) (b : Fin 2) (p : Fin 8) : Vec Ideal S1x2048x128 .f32 :=
  fun x => X (ix3 b (x 1) ⟨128 * p.val + (x 2).val, by have h : (x 2).val < 128 := (x 2).isLt; omega⟩)

theorem index1 : ∀ t : Fin cfg0.N, win0_1.index t = ![(grid0.coords t 0).val, 0, (grid0.coords t 1).val] := (by decide +kernel : ∀ t : Fin grid0.N, _)
theorem index2 : ∀ t : Fin cfg0.N, win0_2.index t = ![(grid0.coords t 0).val, 0, (grid0.coords t 1).val] := (by decide +kernel : ∀ t : Fin grid0.N, _)
theorem index3 : ∀ t : Fin cfg0.N, win0_3.index t = ![(grid0.coords t 0).val, 0, (grid0.coords t 1).val] := (by decide +kernel : ∀ t : Fin grid0.N, _)
theorem index4 : ∀ t : Fin cfg0.N, win0_4.index t = ![(grid0.coords t 0).val, 0, (grid0.coords t 1).val] := (by decide +kernel : ∀ t : Fin grid0.N, _)
theorem index0 : ∀ t : Fin cfg0.N, win0_0.index t = ![0, 0] := (by decide +kernel : ∀ t : Fin grid0.N, _)

variable (m : (ℓ : Loc nD τ sig) → Buf (Elt Ideal) ℓ) (c : Dev nD)

theorem iblk0 (t : Fin cfg0.N) : (iblk m c 0 t : Vec Ideal S2048x2048 .f32) = (V m c main_v26 : FVec Ideal S2048x2048 .f32) := by
  funext x
  blk_simp [iblk]
  congr 1
  funext a
  fin_cases a
  · refine Fin.ext ?_; blk_simp [index0]
  · refine Fin.ext ?_; blk_simp [index0]

theorem iblk1 (t : Fin cfg0.N) : (iblk m c 1 t : Vec Ideal S1x2048x128 .f32) = blk (V m c main_v27) (grid0.coords t 0) (grid0.coords t 1) := by
  funext x
  blk_simp [iblk]
  unfold blk
  congr 1
  funext a
  fin_cases a
  · refine Fin.ext ?_; blk_simp [index1]; rfl
  · refine Fin.ext ?_; blk_simp [index1]; rfl
  · refine Fin.ext ?_; blk_simp [index1]; exact congrArg (· + _) (Nat.mul_comm _ _)

theorem iblk2 (t : Fin cfg0.N) : (iblk m c 2 t : Vec Ideal S1x2048x128 .f32) = blk (V m c main_v28) (grid0.coords t 0) (grid0.coords t 1) := by
  funext x
  blk_simp [iblk]
  unfold blk
  congr 1
  funext a
  fin_cases a
  · refine Fin.ext ?_; blk_simp [index2]; rfl
  · refine Fin.ext ?_; blk_simp [index2]; rfl
  · refine Fin.ext ?_; blk_simp [index2]; exact congrArg (· + _) (Nat.mul_comm _ _)

theorem iblk3 (t : Fin cfg0.N) : (iblk m c 3 t : Vec Ideal S1x2048x128 .f32) = blk (V m c main_v29) (grid0.coords t 0) (grid0.coords t 1) := by
  funext x
  blk_simp [iblk]
  unfold blk
  congr 1
  funext a
  fin_cases a
  · refine Fin.ext ?_; blk_simp [index3]; rfl
  · refine Fin.ext ?_; blk_simp [index3]; rfl
  · refine Fin.ext ?_; blk_simp [index3]; exact congrArg (· + _) (Nat.mul_comm _ _)

/-- The result array. -/
def outArray (n : FVec Ideal S2048x2048 .f32) (q k v : FVec Ideal S2x2048x1024 .f32) : FVec Ideal S2x2048x1024 .f32 := fun i =>
  blockOut n (blk q (i 0) ⟨(i 2).val / 128, by have h : (i 2).val < 1024 := (i 2).isLt; omega⟩) (blk k (i 0) ⟨(i 2).val / 128, by have h : (i 2).val < 1024 := (i 2).isLt; omega⟩)
    (blk v (i 0) ⟨(i 2).val / 128, by have h : (i 2).val < 1024 := (i 2).isLt; omega⟩) (ix3 0 (i 1) ⟨(i 2).val % 128, by omega⟩)

theorem outArray_at (n : FVec Ideal S2048x2048 .f32) (q k v : FVec Ideal S2x2048x1024 .f32) (b : Fin 2) (p : Fin 8) (l : Fin 2048) (y : Fin 128) :
    outArray n q k v (ix3 b l ⟨128 * p.val + y.val, by omega⟩) = blockOut n (blk q b p) (blk k b p) (blk v b p) (ix3 0 l y) := by
  have e1 : (⟨(128 * p.val + y.val) / 128, by omega⟩ : Fin 8) = p := Fin.ext (by show (128 * p.val + y.val) / 128 = p.val; omega)
  have e2 : (⟨(128 * p.val + y.val) % 128, by omega⟩ : Fin 128) = y := Fin.ext (by show (128 * p.val + y.val) % 128 = y.val; omega)
  have key : ∀ (p' : Fin 8) (y' : Fin 128), p' = p → y' = y →
      blockOut n (blk q b p') (blk k b p') (blk v b p') (ix3 0 l y') = blockOut n (blk q b p) (blk k b p) (blk v b p) (ix3 0 l y) := by
    rintro _ _ rfl rfl; rfl
  exact key _ _ e1 e2

theorem arr_eq : (dats m 0 c).arrAt 4 cfg0.N = outArray (V m c main_v26) (V m c main_v27) (V m c main_v28) (V m c main_v29) := by
  refine (dats m 0 c).arrAt_eq_of_covers 4 _ (by decide +kernel) fun t hf y => ?_
  blk_simp
  rw [after0_4]
  rw [iblk0, iblk1, iblk2, iblk3]
  have e : ((win0_4.blk t).view.emb y : S2x2048x1024.Idx) = ix3 (grid0.coords t 0) (y 1) ⟨128 * (grid0.coords t 1).val + (y 2).val, by
      have h : (y 2).val < 128 := (y 2).isLt
      have h' : (grid0.coords t 1).val < 8 := (grid0.coords t 1).isLt
      omega⟩ := by
    funext a
    fin_cases a
    · refine Fin.ext ?_; blk_simp [index4]; rfl
    · refine Fin.ext ?_; blk_simp [index4]; rfl
    · refine Fin.ext ?_; blk_simp [index4]; exact congrArg (· + _) (Nat.mul_comm _ _)
  refine Eq.trans ?_ (congrArg (outArray _ _ _ _) e).symm
  have h2 : (y 2).val < 128 := (y 2).isLt
  have hy : (y : S1x2048x128.Idx) = ix3 0 (y 1) (y 2) := by
    funext a
    fin_cases a
    · exact Subsingleton.elim (α := Fin 1) _ _
    · rfl
    · rfl
  exact (congrArg _ hy).trans (outArray_at (V m c main_v26) (V m c main_v27) (V m c main_v28) (V m c main_v29) (grid0.coords t 0) (grid0.coords t 1) (y 1) (y 2)).symm

theorem result_eq : (result m c : FVec Ideal S2x2048x16x64 .f32)
    = shapeCast S2x2048x16x64 (outArray (V m c main_v26) (V m c main_v27) (V m c main_v28) (V m c main_v29)) shapeCasts_S2x2048x1024_S2x2048x16x64 := by
  rw [← arr_eq]
  unfold result Pipeline.afterTail₀ hostOps1
  simp only [List.flatten_cons, List.flatten_nil, List.append_nil, List.cons_append, List.nil_append]
  after_reads_simp
  exact congrArg (fun z : FVec Ideal S2x2048x1024 .f32 => shapeCast S2x2048x16x64 z shapeCasts_S2x2048x1024_S2x2048x16x64)
    (Pipeline.withArrays_arr (cfgs 0).spec (by decide) c _ _ 4)

/-- The kernel's measure of a query of one head. -/
def keyMeasure (n : FVec Ideal S2048x2048 .f32) (q k : FVec Ideal S2x2048x16x64 .f32) (b : Fin 2) (h : Fin 16) (l : Fin 2048) : EReal :=
  measureOf (fun j => n (ix2 j l)) (fun j => ∑ y : Fin 64, (k (ix4 b j h y) * q (ix4 b l h y) : EReal))

theorem merged_at (q : FVec Ideal S2x2048x16x64 .f32) (b : Fin 2) (l : Fin 2048) (h : Fin 16) (p : Fin 8) (hh : Fin 2) (hp : h.val = 2 * p.val + hh.val) (d : Fin 64) :
    blk (shapeCast S2x2048x1024 q shapeCasts_S2x2048x16x64_S2x2048x1024) b p (ix3 0 l (col hh d)) = q (ix4 b l h d) := by
  have e : blk (shapeCast S2x2048x1024 q shapeCasts_S2x2048x16x64_S2x2048x1024) b p (ix3 0 l (col hh d))
      = shapeCast S2x2048x1024 q shapeCasts_S2x2048x16x64_S2x2048x1024 (ix3 b l ⟨64 * h.val + d.val, by omega⟩) := by
    unfold blk col
    congr 1
    funext a
    fin_cases a
    · rfl
    · rfl
    · refine Fin.ext ?_
      show 128 * p.val + (64 * hh.val + d.val) = 64 * h.val + d.val
      omega
  rw [e]
  have e' : ∀ n : Fin 1024, shapeCast S2x2048x1024 q shapeCasts_S2x2048x16x64_S2x2048x1024 (ix3 b l n)
      = q (ix4 b l ⟨n.val / 64, by omega⟩ ⟨n.val % 64, by omega⟩) := fun n => by pointwise
  rw [e']
  have key : ∀ (h' : Fin 16) (d' : Fin 64), h' = h → d' = d → q (ix4 b l h' d') = q (ix4 b l h d) := by rintro _ _ rfl rfl; rfl
  exact key _ _ (Fin.ext (by show (64 * h.val + d.val) / 64 = h.val; omega)) (Fin.ext (by show (64 * h.val + d.val) % 64 = d.val; omega))

/-- The output array, split into heads, at one index. -/
theorem split_at (n : FVec Ideal S2048x2048 .f32) (q k v : FVec Ideal S2x2048x16x64 .f32)
    (hM : ∀ b h l, ⊥ < keyMeasure n q k b h l) (b : Fin 2) (l : Fin 2048) (h : Fin 16) (d : Fin 64) :
    shapeCast S2x2048x16x64 (outArray n (shapeCast S2x2048x1024 q shapeCasts_S2x2048x16x64_S2x2048x1024) (shapeCast S2x2048x1024 k shapeCasts_S2x2048x16x64_S2x2048x1024)
        (shapeCast S2x2048x1024 v shapeCasts_S2x2048x16x64_S2x2048x1024)) shapeCasts_S2x2048x1024_S2x2048x16x64 (ix4 b l h d)
      = headOut (keyMeasure n q k b h) (fun l d => q (ix4 b l h d)) (fun l d => k (ix4 b l h d)) (fun l d => v (ix4 b l h d)) l d := by
  obtain ⟨p, hh, hp⟩ : ∃ (p : Fin 8) (hh : Fin 2), h.val = 2 * p.val + hh.val := ⟨⟨h.val / 2, by omega⟩, ⟨h.val % 2, by omega⟩, by show h.val = 2 * (h.val / 2) + h.val % 2; omega⟩
  have e : ∀ o : FVec Ideal S2x2048x1024 .f32, shapeCast S2x2048x16x64 o shapeCasts_S2x2048x1024_S2x2048x16x64 (ix4 b l h d)
      = o (ix3 b l ⟨h.val * 64 + d.val, by omega⟩) := fun o => by pointwise
  rw [e]
  have e2 : (⟨h.val * 64 + d.val, by omega⟩ : Fin 1024) = ⟨128 * p.val + (col hh d).val, by have := (col hh d).isLt; omega⟩ :=
    Fin.ext (by show h.val * 64 + d.val = 128 * p.val + (64 * hh.val + d.val); omega)
  rw [e2, outArray_at]
  have hb : ∀ (g : Fin 2) (h' : Fin 16), h'.val = 2 * p.val + g.val →
      blockMeasure n (blk (shapeCast S2x2048x1024 q shapeCasts_S2x2048x16x64_S2x2048x1024) b p) (blk (shapeCast S2x2048x1024 k shapeCasts_S2x2048x16x64_S2x2048x1024) b p) g
        = keyMeasure n q k b h' := by
    intro g h' hg
    funext l
    unfold blockMeasure keyMeasure
    refine congrArg _ (funext fun j => Finset.sum_congr rfl fun y _ => ?_)
    rw [merged_at q b l h' p g hg, merged_at k b j h' p g hg]
  rw [blockOut_at]
  · rw [hb hh h hp]
    simp only [merged_at _ b _ h p hh hp]
  · intro g l
    rw [hb g ⟨2 * p.val + g.val, by omega⟩ rfl]
    exact hM _ _ _

/-- The result, at one index. -/
theorem result_at (hM : ∀ b h l, ⊥ < keyMeasure (V m c main_v26) (m ((c : Thread nD τ).loc main_arg0)) (m ((c : Thread nD τ).loc main_arg1)) b h l)
    (b : Fin 2) (l : Fin 2048) (h : Fin 16) (d : Fin 64) :
    (result m c : FVec Ideal S2x2048x16x64 .f32) (ix4 b l h d)
      = headOut (keyMeasure (V m c main_v26) (m ((c : Thread nD τ).loc main_arg0)) (m ((c : Thread nD τ).loc main_arg1)) b h)
        (fun l d => (m ((c : Thread nD τ).loc main_arg0) : FVec Ideal S2x2048x16x64 .f32) (ix4 b l h d))
        (fun l d => (m ((c : Thread nD τ).loc main_arg1) : FVec Ideal S2x2048x16x64 .f32) (ix4 b l h d))
        (fun l d => (m ((c : Thread nD τ).loc main_arg2) : FVec Ideal S2x2048x16x64 .f32) (ix4 b l h d)) l d := by
  rw [result_eq, V_q, V_k, V_v]
  exact split_at _ _ _ _ hM b l h d

end Cert.KernelIdeal.Value

end
-- ==== Proof.DrawRange.lean ====
/- The range of the drawn sample indices: the draw ends by reducing modulo the span, which is the number of keys. -/
module

public import proofs.«01_k».proof.Proof.Lines
public import proofs.«01_k».proof.Proof.KernelInputs
public import Idealize.ShloMosaic.Lib.StableHlo.ReadAt
public import Idealize.ShloMosaic.Lib.Pointwise

@[expose] public section

set_option maxRecDepth 65536
set_option maxHeartbeats 4000000

noncomputable section

namespace Cert.Lines

open Idealize.ShloMosaic Idealize.ShloMosaic.StableHlo

variable {τ : Topo} {sig : RefSig} {Val : EltTy → Type}

/-- The operations write the buffers numbered from `n` on, one each, in order. -/
def Numbered : ℕ → List (HloOp τ sig Val) → Prop
  | _, [] => True
  | n, op :: ops => Within n (n + 1) op ∧ Numbered (n + 1) ops

theorem Numbered.cons {n : ℕ} {op : HloOp τ sig Val} {ops : List (HloOp τ sig Val)} (h : Within n (n + 1) op) (hs : Numbered (n + 1) ops) :
    Numbered n (op :: ops) := ⟨h, hs⟩

/-- A buffer numbered below `n + k` is as the first `k` operations leave it. -/
theorem Numbered.after_take {ops : List (HloOp τ sig Val)} : ∀ {n : ℕ} (_ : Numbered n ops) (k : ℕ) (V : Valuation τ sig Val) (r : Ref sig .tc),
    r.idx.val < n + k → after ops V (Proc.devRef .tc r) = after (ops.take k) V (Proc.devRef .tc r) := by
  induction ops with
  | nil => intro n _ k V r _; rw [List.take_nil]
  | cons op ops ih =>
    intro n h k V r hr
    cases k with
    | zero =>
      have e := ih h.2 0 (op.result V) r (by omega)
      refine e.trans ?_
      show op.result V (Proc.devRef .tc r) = V (Proc.devRef .tc r)
      exact after_outside (ops := [op]) (lo := n) (hi := n + 1) (List.forall_iff_forall_mem.2 (by simpa using h.1)) V r (Or.inl (by omega))
    | succ k => exact ih h.2 k (op.result V) r (by omega)

end Cert.Lines

namespace Cert.KernelIdeal.Value

open Cert.KernelIdeal Cert.KernelIdeal.Gen Cert.Lines
open Idealize.ShloMosaic Idealize.ShloMosaic.TcCoe Idealize.ShloMosaic.StableHlo

variable {F : FTy → Type} [FloatOps F]

set_option maxHeartbeats 40000000 in
theorem numbered_draw : Numbered 15 (hostOps0_1 : List (HloOp τ sig (Elt F))) := by
  unfold hostOps0_1
  iterate 772
    refine Numbered.cons ?_ ?_
    · first
        | with_reducible refine Within.binary ?_
        | with_reducible refine Within.unary ?_
        | with_reducible refine Within.nullary ?_
        | with_reducible refine Within.ternary ?_
        | with_reducible refine Within.reshape ?_
      decide
  exact trivial

/-- The draw's first operations: the bounds. -/
def opsBounds : List (HloOp τ sig (Elt F)) :=
  [ StableHlo.TRef.nullary (.of main_call0_c : StableHlo.TRef sig ⟨S_, .i32⟩) (constantI S_ 32 2147483647#32),
    StableHlo.TRef.nullary (.of main_call0_c_0 : StableHlo.TRef sig ⟨S_, .i32⟩) (constantI S_ 32 2147483648#32),
    StableHlo.TRef.nullary (.of main_call0_c_1 : StableHlo.TRef sig ⟨S_, .i32⟩) (constantI S_ 32 2147483647#32),
    StableHlo.TRef.binary (.of main_call0_c_0 : StableHlo.TRef sig ⟨S_, .i32⟩) (.of main_call0_c : StableHlo.TRef sig ⟨S_, .i32⟩) (.of main_call0_call0_v0 : StableHlo.TRef sig ⟨S_, .i32⟩) maxsi,
    StableHlo.TRef.binary (.of main_call0_c_1 : StableHlo.TRef sig ⟨S_, .i32⟩) (.of main_call0_call0_v0 : StableHlo.TRef sig ⟨S_, .i32⟩) (.of main_call0_v0 : StableHlo.TRef sig ⟨S_, .i32⟩) minsi,
    StableHlo.TRef.binary (.of main_c_3 : StableHlo.TRef sig ⟨S_, .i32⟩) main_call0_call0.v1 (.of main_call0_v1 : StableHlo.TRef sig ⟨S_, .i1⟩) (cmpi .sgt),
    StableHlo.TRef.nullary (.of main_call0_c_2 : StableHlo.TRef sig ⟨S_, .i32⟩) (constantI S_ 32 2147483648#32),
    StableHlo.TRef.nullary (.of main_call0_c_3 : StableHlo.TRef sig ⟨S_, .i32⟩) (constantI S_ 32 2147483647#32),
    StableHlo.TRef.binary (.of main_call0_c_2 : StableHlo.TRef sig ⟨S_, .i32⟩) (.of main_c_2 : StableHlo.TRef sig ⟨S_, .i32⟩) (.of main_call0_call1_v0 : StableHlo.TRef sig ⟨S_, .i32⟩) maxsi,
    StableHlo.TRef.binary (.of main_call0_c_3 : StableHlo.TRef sig ⟨S_, .i32⟩) (.of main_call0_call1_v0 : StableHlo.TRef sig ⟨S_, .i32⟩) (.of main_call0_v2 : StableHlo.TRef sig ⟨S_, .i32⟩) minsi,
    StableHlo.TRef.unary main_call0_call1.v1 (.of main_call0_v3 : StableHlo.TRef sig ⟨S_, .i32⟩) id,
    StableHlo.TRef.nullary (.of main_call0_c_4 : StableHlo.TRef sig ⟨S_, .i32⟩) (constantI S_ 32 2147483648#32),
    StableHlo.TRef.nullary (.of main_call0_c_5 : StableHlo.TRef sig ⟨S_, .i32⟩) (constantI S_ 32 2147483647#32),
    StableHlo.TRef.binary (.of main_call0_c_4 : StableHlo.TRef sig ⟨S_, .i32⟩) (.of main_c_3 : StableHlo.TRef sig ⟨S_, .i32⟩) (.of main_call0_call2_v0 : StableHlo.TRef sig ⟨S_, .i32⟩) maxsi,
    StableHlo.TRef.binary (.of main_call0_c_5 : StableHlo.TRef sig ⟨S_, .i32⟩) (.of main_call0_call2_v0 : StableHlo.TRef sig ⟨S_, .i32⟩) (.of main_call0_v4 : StableHlo.TRef sig ⟨S_, .i32⟩) minsi,
    StableHlo.TRef.unary main_call0_call2.v1 (.of main_call0_v5 : StableHlo.TRef sig ⟨S_, .i32⟩) id,
    StableHlo.TRef.unary (.of main_call0_v3 : StableHlo.TRef sig ⟨S_, .i32⟩) (.of main_call0_v6 : StableHlo.TRef sig ⟨S1x1, .i32⟩) (broadcastInDim S1x1 ![] bcast_S_S1x1),
    StableHlo.TRef.unary (.of main_call0_v5 : StableHlo.TRef sig ⟨S_, .i32⟩) (.of main_call0_v7 : StableHlo.TRef sig ⟨S1x1, .i32⟩) (broadcastInDim S1x1 ![] bcast_S_S1x1) ]

/-- The span. -/
def opsSpan : List (HloOp τ sig (Elt F)) :=
  [ StableHlo.TRef.binary (.of main_call0_v7 : StableHlo.TRef sig ⟨S1x1, .i32⟩) (.of main_call0_v6 : StableHlo.TRef sig ⟨S1x1, .i32⟩) (.of main_call0_v47 : StableHlo.TRef sig ⟨S1x1, .i32⟩) subi,
    StableHlo.TRef.unary (.of main_call0_v47 : StableHlo.TRef sig ⟨S1x1, .i32⟩) (.of main_call0_v48 : StableHlo.TRef sig ⟨S1x1, .i32⟩) id,
    StableHlo.TRef.binary (.of main_call0_v7 : StableHlo.TRef sig ⟨S1x1, .i32⟩) (.of main_call0_v6 : StableHlo.TRef sig ⟨S1x1, .i32⟩) (.of main_call0_v49 : StableHlo.TRef sig ⟨S1x1, .i1⟩) (cmpi .sle),
    StableHlo.TRef.nullary (.of main_call0_c_12 : StableHlo.TRef sig ⟨S_, .i32⟩) (constantI S_ 32 1#32),
    StableHlo.TRef.unary (.of main_call0_c_12 : StableHlo.TRef sig ⟨S_, .i32⟩) (.of main_call0_v50 : StableHlo.TRef sig ⟨S1x1, .i32⟩) (broadcastInDim S1x1 ![] bcast_S_S1x1),
    StableHlo.TRef.ternary (.of main_call0_v49 : StableHlo.TRef sig ⟨S1x1, .i1⟩) (.of main_call0_v50 : StableHlo.TRef sig ⟨S1x1, .i32⟩) (.of main_call0_v48 : StableHlo.TRef sig ⟨S1x1, .i32⟩) (.of main_call0_v51 : StableHlo.TRef sig ⟨S1x1, .i32⟩) select,
    StableHlo.TRef.binary (.of main_call0_v7 : StableHlo.TRef sig ⟨S1x1, .i32⟩) (.of main_call0_v6 : StableHlo.TRef sig ⟨S1x1, .i32⟩) (.of main_call0_v52 : StableHlo.TRef sig ⟨S1x1, .i1⟩) (cmpi .sgt),
    StableHlo.TRef.unary (.of main_call0_v1 : StableHlo.TRef sig ⟨S_, .i1⟩) (.of main_call0_v53 : StableHlo.TRef sig ⟨S1x1, .i1⟩) (broadcastInDim S1x1 ![] bcast_S_S1x1),
    StableHlo.TRef.binary (.of main_call0_v53 : StableHlo.TRef sig ⟨S1x1, .i1⟩) (.of main_call0_v52 : StableHlo.TRef sig ⟨S1x1, .i1⟩) (.of main_call0_v54 : StableHlo.TRef sig ⟨S1x1, .i1⟩) andi,
    StableHlo.TRef.nullary (.of main_call0_c_13 : StableHlo.TRef sig ⟨S_, .i32⟩) (constantI S_ 32 1#32),
    StableHlo.TRef.unary (.of main_call0_c_13 : StableHlo.TRef sig ⟨S_, .i32⟩) (.of main_call0_v55 : StableHlo.TRef sig ⟨S1x1, .i32⟩) (broadcastInDim S1x1 ![] bcast_S_S1x1),
    StableHlo.TRef.binary (.of main_call0_v51 : StableHlo.TRef sig ⟨S1x1, .i32⟩) (.of main_call0_v55 : StableHlo.TRef sig ⟨S1x1, .i32⟩) (.of main_call0_v56 : StableHlo.TRef sig ⟨S1x1, .i32⟩) addi,
    StableHlo.TRef.ternary (.of main_call0_v54 : StableHlo.TRef sig ⟨S1x1, .i1⟩) (.of main_call0_v56 : StableHlo.TRef sig ⟨S1x1, .i32⟩) (.of main_call0_v51 : StableHlo.TRef sig ⟨S1x1, .i32⟩) (.of main_call0_v57 : StableHlo.TRef sig ⟨S1x1, .i32⟩) select ]

/-- The reduction modulo the span, and the shift by the lower bound. -/
def opsReduce : List (HloOp τ sig (Elt F)) :=
  [ StableHlo.TRef.unary (.of main_call0_v57 : StableHlo.TRef sig ⟨S1x1, .i32⟩) (.of main_call0_v69 : StableHlo.TRef sig ⟨S2048x40, .i32⟩) (broadcastInDim S2048x40 ![0, 1] bcast_S1x1_S2048x40_0_1),
    StableHlo.TRef.binary (.of main_call0_v68 : StableHlo.TRef sig ⟨S2048x40, .i32⟩) (.of main_call0_v69 : StableHlo.TRef sig ⟨S2048x40, .i32⟩) (.of main_call0_v70 : StableHlo.TRef sig ⟨S2048x40, .i32⟩) Host.remui,
    StableHlo.TRef.unary (.of main_call0_v70 : StableHlo.TRef sig ⟨S2048x40, .i32⟩) (.of main_call0_v71 : StableHlo.TRef sig ⟨S2048x40, .i32⟩) id,
    StableHlo.TRef.unary (.of main_call0_v6 : StableHlo.TRef sig ⟨S1x1, .i32⟩) (.of main_call0_v72 : StableHlo.TRef sig ⟨S2048x40, .i32⟩) (broadcastInDim S2048x40 ![0, 1] bcast_S1x1_S2048x40_0_1),
    StableHlo.TRef.binary (.of main_call0_v72 : StableHlo.TRef sig ⟨S2048x40, .i32⟩) (.of main_call0_v71 : StableHlo.TRef sig ⟨S2048x40, .i32⟩) (.of main_v7 : StableHlo.TRef sig ⟨S2048x40, .i32⟩) addi ]

theorem take_bounds : (hostOps0_1 : List (HloOp τ sig (Elt F))).take 18 = opsBounds := rfl
theorem take_span : ((hostOps0_1 : List (HloOp τ sig (Elt F))).drop 742).take 13 = opsSpan := rfl
theorem drop_reduce : (hostOps0_1 : List (HloOp τ sig (Elt F))).drop 767 = opsReduce := rfl

theorem reduce_read (U : Valuation τ sig (Elt F)) : (after opsReduce U (Proc.devRef .tc main_v7) : IVec S2048x40 32)
    = addi (broadcastInDim S2048x40 ![0, 1] bcast_S1x1_S2048x40_0_1 (U (Proc.devRef .tc main_call0_v6) : IVec S1x1 32))
        (Host.remui (U (Proc.devRef .tc main_call0_v68) : IVec S2048x40 32) (broadcastInDim S2048x40 ![0, 1] bcast_S1x1_S2048x40_0_1 (U (Proc.devRef .tc main_call0_v57) : IVec S1x1 32))) := by
  unfold opsReduce; after_reads_simp
  simp -implicitDefEqProofs only [TRef.toBuf, TRef.ofBuf, cast_cast, cast_eq]
  rfl

/-- The span from the bounds and the overflow flag. -/
def span (a b : IVec S1x1 32) (o : IVec S_ 1) : IVec S1x1 32 :=
  let d := select (cmpi .sle b a) (broadcastInDim S1x1 ![] bcast_S_S1x1 (constantI S_ 32 1#32)) (subi b a)
  select (andi (broadcastInDim S1x1 ![] bcast_S_S1x1 o) (cmpi .sgt b a)) (addi d (broadcastInDim S1x1 ![] bcast_S_S1x1 (constantI S_ 32 1#32))) d

theorem span_read (U : Valuation τ sig (Elt F)) : (after opsSpan U (Proc.devRef .tc main_call0_v57) : IVec S1x1 32)
    = span (U (Proc.devRef .tc main_call0_v6)) (U (Proc.devRef .tc main_call0_v7)) (U (Proc.devRef .tc main_call0_v1)) := by
  unfold opsSpan; after_reads_simp
  simp -implicitDefEqProofs only [TRef.toBuf, TRef.ofBuf, cast_cast, cast_eq]
  rfl

theorem low_read (U : Valuation τ sig (Elt F)) : (after opsBounds U (Proc.devRef .tc main_call0_v6) : IVec S1x1 32)
    = broadcastInDim S1x1 ![] bcast_S_S1x1 (minsi (constantI S_ 32 2147483647#32) (maxsi (constantI S_ 32 2147483648#32) (U (Proc.devRef .tc main_c_2) : IVec S_ 32))) := by
  unfold opsBounds; after_reads_simp
  simp -implicitDefEqProofs only [TRef.toBuf, TRef.ofBuf, cast_cast, cast_eq]
  rfl

theorem high_read (U : Valuation τ sig (Elt F)) : (after opsBounds U (Proc.devRef .tc main_call0_v7) : IVec S1x1 32)
    = broadcastInDim S1x1 ![] bcast_S_S1x1 (minsi (constantI S_ 32 2147483647#32) (maxsi (constantI S_ 32 2147483648#32) (U (Proc.devRef .tc main_c_3) : IVec S_ 32))) := by
  unfold opsBounds; after_reads_simp
  simp -implicitDefEqProofs only [TRef.toBuf, TRef.ofBuf, cast_cast, cast_eq]
  rfl

theorem flag_read (U : Valuation τ sig (Elt F)) : (after opsBounds U (Proc.devRef .tc main_call0_v1) : IVec S_ 1)
    = cmpi .sgt (U (Proc.devRef .tc main_c_3) : IVec S_ 32) (minsi (constantI S_ 32 2147483647#32) (maxsi (constantI S_ 32 2147483648#32) (constantI S_ 32 2147483647#32))) := by
  unfold opsBounds; after_reads_simp
  simp -implicitDefEqProofs only [TRef.toBuf, TRef.ofBuf, cast_cast, cast_eq]

theorem start_low (U : Valuation τ sig (Elt F)) : (after hostOps0 U (Proc.devRef .tc main_c_2) : IVec S_ 32) = constantI S_ 32 0#32 := by
  unfold hostOps0; after_reads_simp
theorem start_high (U : Valuation τ sig (Elt F)) : (after hostOps0 U (Proc.devRef .tc main_c_3) : IVec S_ 32) = constantI S_ 32 2048#32 := by
  unfold hostOps0; after_reads_simp

section
variable (m : (ℓ : Loc nD τ sig) → Buf (Elt F) ℓ) (c : Dev nD)

theorem drawn_low : (drawn m c (Proc.devRef .tc main_call0_v6) : IVec S1x1 32)
    = broadcastInDim S1x1 ![] bcast_S_S1x1 (minsi (constantI S_ 32 2147483647#32) (maxsi (constantI S_ 32 2147483648#32) (constantI S_ 32 0#32))) := by
  unfold drawn
  rw [numbered_draw.after_take 18 _ main_call0_v6 (by decide), take_bounds]
  exact (low_read _).trans (by rw [start_low])

theorem drawn_high : (drawn m c (Proc.devRef .tc main_call0_v7) : IVec S1x1 32)
    = broadcastInDim S1x1 ![] bcast_S_S1x1 (minsi (constantI S_ 32 2147483647#32) (maxsi (constantI S_ 32 2147483648#32) (constantI S_ 32 2048#32))) := by
  unfold drawn
  rw [numbered_draw.after_take 18 _ main_call0_v7 (by decide), take_bounds]
  exact (high_read _).trans (by rw [start_high])

theorem drawn_flag : (drawn m c (Proc.devRef .tc main_call0_v1) : IVec S_ 1)
    = cmpi .sgt (constantI S_ 32 2048#32) (minsi (constantI S_ 32 2147483647#32) (maxsi (constantI S_ 32 2147483648#32) (constantI S_ 32 2147483647#32))) := by
  unfold drawn
  rw [numbered_draw.after_take 18 _ main_call0_v1 (by decide), take_bounds]
  exact (flag_read _).trans (by rw [start_high])

theorem drawn_span : (drawn m c (Proc.devRef .tc main_call0_v57) : IVec S1x1 32)
    = span (drawn m c (Proc.devRef .tc main_call0_v6)) (drawn m c (Proc.devRef .tc main_call0_v7)) (drawn m c (Proc.devRef .tc main_call0_v1)) := by
  unfold drawn
  rw [numbered_draw.after_take 755 _ main_call0_v57 (by decide), numbered_draw.after_take 742 _ main_call0_v6 (by decide),
    numbered_draw.after_take 742 _ main_call0_v7 (by decide), numbered_draw.after_take 742 _ main_call0_v1 (by decide),
    show List.take 755 (hostOps0_1 : List (HloOp τ sig (Elt F))) = List.take 742 hostOps0_1 ++ opsSpan from by rw [← take_span]; exact (List.take_add : List.take (742 + 13) (hostOps0_1 : List (HloOp τ sig (Elt F))) = _), StableHlo.after_append]
  exact span_read _

theorem drawn_keys : (drawn m c (Proc.devRef .tc main_v7) : IVec S2048x40 32)
    = addi (broadcastInDim S2048x40 ![0, 1] bcast_S1x1_S2048x40_0_1 (drawn m c (Proc.devRef .tc main_call0_v6) : IVec S1x1 32))
        (Host.remui (drawn m c (Proc.devRef .tc main_call0_v68) : IVec S2048x40 32) (broadcastInDim S2048x40 ![0, 1] bcast_S1x1_S2048x40_0_1 (drawn m c (Proc.devRef .tc main_call0_v57) : IVec S1x1 32))) := by
  unfold drawn
  rw [numbered_draw.after_take 767 _ main_call0_v57 (by decide), numbered_draw.after_take 767 _ main_call0_v6 (by decide),
    numbered_draw.after_take 767 _ main_call0_v68 (by decide)]
  have e : ∀ U, after (hostOps0_1 : List (HloOp τ sig (Elt F))) U = after opsReduce (after (List.take 767 hostOps0_1) U) := fun U => by
    rw [← StableHlo.after_append, ← drop_reduce, List.take_append_drop]
  rw [e]
  exact reduce_read _

end

theorem span_at : span (broadcastInDim S1x1 ![] bcast_S_S1x1 (minsi (constantI S_ 32 2147483647#32) (maxsi (constantI S_ 32 2147483648#32) (constantI S_ 32 0#32))))
    (broadcastInDim S1x1 ![] bcast_S_S1x1 (minsi (constantI S_ 32 2147483647#32) (maxsi (constantI S_ 32 2147483648#32) (constantI S_ 32 2048#32))))
    (cmpi .sgt (constantI S_ 32 2048#32) (minsi (constantI S_ 32 2147483647#32) (maxsi (constantI S_ 32 2147483648#32) (constantI S_ 32 2147483647#32))))
    = fun _ => 2048#32 := by
  funext i
  have hi : i = ix2 0 0 := by
    funext a
    fin_cases a
    · exact Subsingleton.elim (α := Fin 1) _ _
    · exact Subsingleton.elim (α := Fin 1) _ _
  subst hi
  rfl

/-- A drawn index, as a number below the number of keys. -/
def key (m : (ℓ : Loc nD τ sig) → Buf (Elt F) ℓ) (c : Dev nD) (l : Fin 2048) (s : Fin 40) : Fin 2048 :=
  ⟨((drawn m c (Proc.devRef .tc main_call0_v68) : IVec S2048x40 32) (ix2 l s)).toNat % 2048, Nat.mod_lt _ (by decide)⟩

theorem reduced_at (x : IVec S2048x40 32) (l : Fin 2048) (s : Fin 40) :
    addi (broadcastInDim S2048x40 ![0, 1] bcast_S1x1_S2048x40_0_1 (broadcastInDim S1x1 ![] bcast_S_S1x1
          (minsi (constantI S_ 32 2147483647#32) (maxsi (constantI S_ 32 2147483648#32) (constantI S_ 32 0#32)))))
      (Host.remui x (broadcastInDim S2048x40 ![0, 1] bcast_S1x1_S2048x40_0_1 (fun _ => 2048#32 : IVec S1x1 32))) (ix2 l s) = BitVec.ofNat 32 ((x (ix2 l s)).toNat % 2048) := by
  have e0 : (broadcastInDim S2048x40 ![0, 1] bcast_S1x1_S2048x40_0_1 (broadcastInDim S1x1 ![] bcast_S_S1x1
      (minsi (constantI S_ 32 2147483647#32) (maxsi (constantI S_ 32 2147483648#32) (constantI S_ 32 0#32)))) : IVec S2048x40 32) (ix2 l s) = 0#32 := rfl
  show IntOp.addi _ (IntOp.remui .host (x (ix2 l s)) 2048#32) = _
  rw [e0]
  show 0#32 + (if (2048#32 : BitVec 32) = 0 then _ else x (ix2 l s) % 2048#32) = _
  rw [if_neg (by decide), BitVec.zero_add]
  apply BitVec.eq_of_toNat_eq
  rw [BitVec.toNat_umod, BitVec.toNat_ofNat]
  have h : (x (ix2 l s)).toNat % 2048 < 2048 := Nat.mod_lt _ (by decide)
  show (x (ix2 l s)).toNat % 2048 = (x (ix2 l s)).toNat % 2048 % 2 ^ 32
  omega

theorem drawn_at (m : (ℓ : Loc nD τ sig) → Buf (Elt F) ℓ) (c : Dev nD) (l : Fin 2048) (s : Fin 40) :
    (drawn m c (Proc.devRef .tc main_v7) : IVec S2048x40 32) (ix2 l s) = BitVec.ofNat 32 (key m c l s).val := by
  rw [drawn_keys, drawn_span, drawn_low, drawn_high, drawn_flag, span_at]
  exact reduced_at _ l s

end Cert.KernelIdeal.Value

end
-- ==== Proof.Simulate.lean ====
/- Two programs that hold the same straight line of operations, over buffers numbered with an offset, compute the same
   contents: if the buffers below `n` agree, and the next operation of both is the same function of such buffers, then
   the buffers below `n + 1` agree. -/
module

public import Idealize.ShloMosaic.Lib.StableHlo.Run

@[expose] public section

namespace Cert.Simulate

open Idealize.ShloMosaic Idealize.ShloMosaic.StableHlo

variable {τ τ' : Topo} {sig sig' : RefSig} {Val : EltTy → Type}

/-- The buffer is in the device's main memory and has this number. -/
def IsAt {sig : RefSig} (r : Ref sig .tc) (i : Nat) : Prop := r.space = .hbm ∧ r.idx.val = i

theorem IsAt.ext {sig : RefSig} {r s : Ref sig .tc} {i : Nat} (h : IsAt r i) (h' : IsAt s i) : r = s := by
  obtain ⟨sp, ix, hn⟩ := r
  obtain ⟨sp', ix', hn'⟩ := s
  obtain ⟨h1, h2⟩ := h
  obtain ⟨h3, h4⟩ := h'
  dsimp only at h1 h2 h3 h4
  subst h1; subst h3
  have e : ix = ix' := Fin.ext (h2.trans h4.symm)
  subst e; rfl

theorem IsAt.ne {sig : RefSig} {r s : Ref sig .tc} {i j : Nat} (h : IsAt r i) (h' : IsAt s j) (hne : i ≠ j) : r ≠ s := by
  rintro rfl; exact hne (h.2.symm.trans h'.2)

/-- Every buffer numbered from `lo` and below `n` of the first program holds what the buffer numbered `k` more of the
    second holds, whenever both are of the same type. -/
def Agree (k lo n : Nat) (V : Valuation τ sig Val) (V' : Valuation τ' sig' Val) : Prop :=
  ∀ (i : Nat), lo ≤ i → i < n → ∀ (T : BufTy) (x : TRef sig T) (x' : TRef sig' T), IsAt x.ref i → IsAt x'.ref (i + k) →
    x.ofBuf (V (Proc.devRef .tc x.ref)) = x'.ofBuf (V' (Proc.devRef .tc x'.ref))

/-- The two lines take agreeing contents below `n` to agreeing contents below `N`. -/
structure Sim (k lo n N : Nat) (ops : List (HloOp τ sig Val)) (ops' : List (HloOp τ' sig' Val)) : Prop where
  run : ∀ V V', Agree k lo n V V' → Agree k lo N (after ops V) (after ops' V')

theorem Sim.nil (k lo N : Nat) : Sim k lo N N ([] : List (HloOp τ sig Val)) ([] : List (HloOp τ' sig' Val)) :=
  ⟨fun _ _ h => h⟩

/-- Where `x` is in both programs: at `i` and at `i + k`, one of the buffers that agree. -/
def Both (k lo n : Nat) {T : BufTy} (x : TRef sig T) (x' : TRef sig' T) : Prop :=
  (x.ref.space = .hbm ∧ x'.ref.space = .hbm) ∧ x'.ref.idx.val = x.ref.idx.val + k ∧ lo ≤ x.ref.idx.val ∧ x.ref.idx.val < n

theorem Both.read {k lo n : Nat} {T : BufTy} {x : TRef sig T} {x' : TRef sig' T} (h : Both k lo n x x')
    {V : Valuation τ sig Val} {V' : Valuation τ' sig' Val} (hV : Agree k lo n V V') :
    x.ofBuf (V (Proc.devRef .tc x.ref)) = x'.ofBuf (V' (Proc.devRef .tc x'.ref)) :=
  hV x.ref.idx.val h.2.2.1 h.2.2.2 T x x' ⟨h.1.1, rfl⟩ ⟨h.1.2, h.2.1⟩

/-- One operation on each side, writing the next buffer with the same value: the buffers below `n + 1` agree after it. -/
theorem agree_step {k lo n : Nat} {T : BufTy} {y : TRef sig T} {y' : TRef sig' T} {op : HloOp τ sig Val} {op' : HloOp τ' sig' Val}
    {V : Valuation τ sig Val} {V' : Valuation τ' sig' Val} (hV : Agree k lo n V V') (hy : IsAt y.ref n) (hy' : IsAt y'.ref (n + k))
    (v : T.Contents Val)
    (hr : op.result V (Proc.devRef .tc y.ref) = y.toBuf v) (hr' : op'.result V' (Proc.devRef .tc y'.ref) = y'.toBuf v)
    (hne : ∀ r : Ref sig .tc, r ≠ y.ref → op.result V (Proc.devRef .tc r) = V (Proc.devRef .tc r))
    (hne' : ∀ r : Ref sig' .tc, r ≠ y'.ref → op'.result V' (Proc.devRef .tc r) = V' (Proc.devRef .tc r)) :
    Agree k lo (n + 1) (op.result V) (op'.result V') := by
  intro i hlo hi S x x' hx hx'
  by_cases hin : i = n
  · subst hin
    have e := hx.ext hy
    have e' := hx'.ext hy'
    obtain ⟨xr, xt, x1, x2⟩ := x
    obtain ⟨yr, yt, y1, y2⟩ := y
    obtain ⟨xr', xt', x1', x2'⟩ := x'
    obtain ⟨yr', yt', y1', y2'⟩ := y'
    dsimp only at e e' hr hr'
    subst e; subst e'
    have hT : S = T := xt.symm.trans yt
    subst hT
    simp only [hr, hr', TRef.ofBuf, TRef.toBuf, cast_cast, cast_eq]
  · rw [hne _ (hx.ne hy hin), hne' _ (hx'.ne hy' (by omega))]
    exact hV i hlo (by omega) S x x' hx hx'

/-- One operation of each: contents that agree below `n` become contents that agree below `n + 1`. -/
structure Step (k lo n : Nat) (op : HloOp τ sig Val) (op' : HloOp τ' sig' Val) : Prop where
  run : ∀ V V', Agree k lo n V V' → Agree k lo (n + 1) (op.result V) (op'.result V')

theorem Sim.cons {k lo n N : Nat} {op : HloOp τ sig Val} {op' : HloOp τ' sig' Val} {ops : List (HloOp τ sig Val)}
    {ops' : List (HloOp τ' sig' Val)} (hs : Step k lo n op op') (h : Sim k lo (n + 1) N ops ops') :
    Sim k lo n N (op :: ops) (op' :: ops') := ⟨fun V V' hV => h.run _ _ (hs.run V V' hV)⟩

/-- Where an operation writes: the next buffer of both programs. -/
def Next (k n : Nat) {T : BufTy} (y : TRef sig T) (y' : TRef sig' T) : Prop :=
  (y.ref.space = .hbm ∧ y'.ref.space = .hbm) ∧ y.ref.idx.val = n ∧ y'.ref.idx.val = n + k

section Steps

variable {k lo n : Nat} {Ta Tb Tc T : BufTy}

theorem Step.nullary {y : TRef sig T} {y' : TRef sig' T} {v : T.Contents Val} (hy : Next k n y y') :
    Step k lo n (TRef.nullary y v : HloOp τ sig Val) (TRef.nullary y' v : HloOp τ' sig' Val) := ⟨fun V V' hV =>
  agree_step hV ⟨hy.1.1, hy.2.1⟩ ⟨hy.1.2, hy.2.2⟩ v (nullary_result ..) (nullary_result ..)
    (fun _ hr => nullary_result_ne (h := hr) ..) fun _ hr => nullary_result_ne (h := hr) ..⟩

theorem Step.unary {a : TRef sig Ta} {a' : TRef sig' Ta} {y : TRef sig T} {y' : TRef sig' T} {f : Ta.Contents Val → T.Contents Val}
    (hy : Next k n y y') (ha : Both k lo n a a') :
    Step k lo n (TRef.unary a y f : HloOp τ sig Val) (TRef.unary a' y' f : HloOp τ' sig' Val) := ⟨fun V V' hV =>
  agree_step hV ⟨hy.1.1, hy.2.1⟩ ⟨hy.1.2, hy.2.2⟩ _ (unary_result ..) (by rw [unary_result, ← ha.read hV])
    (fun _ hr => unary_result_ne (h := hr) ..) fun _ hr => unary_result_ne (h := hr) ..⟩

theorem Step.binary {a : TRef sig Ta} {a' : TRef sig' Ta} {b : TRef sig Tb} {b' : TRef sig' Tb} {y : TRef sig T} {y' : TRef sig' T}
    {f : Ta.Contents Val → Tb.Contents Val → T.Contents Val}
    (hy : Next k n y y') (ha : Both k lo n a a') (hb : Both k lo n b b') :
    Step k lo n (TRef.binary a b y f : HloOp τ sig Val) (TRef.binary a' b' y' f : HloOp τ' sig' Val) := ⟨fun V V' hV =>
  agree_step hV ⟨hy.1.1, hy.2.1⟩ ⟨hy.1.2, hy.2.2⟩ _ (binary_result ..) (by rw [binary_result, ← ha.read hV, ← hb.read hV])
    (fun _ hr => binary_result_ne (h := hr) ..) fun _ hr => binary_result_ne (h := hr) ..⟩

theorem Step.ternary {c : TRef sig Tc} {c' : TRef sig' Tc} {a : TRef sig Ta} {a' : TRef sig' Ta} {b : TRef sig Tb} {b' : TRef sig' Tb}
    {y : TRef sig T} {y' : TRef sig' T} {f : Tc.Contents Val → Ta.Contents Val → Tb.Contents Val → T.Contents Val}
    (hy : Next k n y y') (hc : Both k lo n c c') (ha : Both k lo n a a') (hb : Both k lo n b b') :
    Step k lo n (TRef.ternary c a b y f : HloOp τ sig Val) (TRef.ternary c' a' b' y' f : HloOp τ' sig' Val) := ⟨fun V V' hV =>
  agree_step hV ⟨hy.1.1, hy.2.1⟩ ⟨hy.1.2, hy.2.2⟩ _ (ternary_result ..)
    (by rw [ternary_result, ← hc.read hV, ← ha.read hV, ← hb.read hV])
    (fun _ hr => ternary_result_ne (h := hr) ..) fun _ hr => ternary_result_ne (h := hr) ..⟩

/-- A reshape leaves the same elements under the result's shape. -/
theorem reshape_read {a : TRef sig Ta} {y : TRef sig T} (he : Ta.elt = T.elt) (hn : Ta.shape.ShapeCasts T.shape) (V : Valuation τ sig Val) :
    (TRef.reshape a y he hn : HloOp τ sig Val).result V (Proc.devRef .tc y.ref)
      = y.toBuf (fun i => he ▸ shapeCast T.shape (a.ofBuf (V (Proc.devRef .tc a.ref))) hn i) := by
  obtain ⟨ar, at', a1, a2⟩ := a
  obtain ⟨yr, yt, y1, y2⟩ := y
  subst at'; subst yt
  exact reshape_result ..

theorem Step.reshape {a : TRef sig Ta} {a' : TRef sig' Ta} {y : TRef sig T} {y' : TRef sig' T} {he : Ta.elt = T.elt}
    {hn : Ta.shape.ShapeCasts T.shape}
    (hy : Next k n y y') (ha : Both k lo n a a') :
    Step k lo n (TRef.reshape a y he hn : HloOp τ sig Val) (TRef.reshape a' y' he hn : HloOp τ' sig' Val) := ⟨fun V V' hV =>
  agree_step hV ⟨hy.1.1, hy.2.1⟩ ⟨hy.1.2, hy.2.2⟩ _ (reshape_read ..) (by rw [reshape_read, ← ha.read hV])
    (fun _ hr => reshape_result_ne (h := hr) ..) fun _ hr => reshape_result_ne (h := hr) ..⟩

end Steps

end Cert.Simulate

end
-- ==== Proof.DrawSim.lean ====
/-
  The two programs draw the same sample indices: their draws are the same 772 operations, buffer for buffer.
-/
module

public import proofs.«01_k».proof.Proof.Simulate
public import proofs.«01_k».proof.Proof.ReferenceLine
public import proofs.«01_k».proof.Proof.Gen.KernelIdeal.Launch

@[expose] public section

set_option maxRecDepth 65536

noncomputable section

namespace Cert.Draw

open Idealize.ShloMosaic Idealize.SL.Sem Idealize.ShloMosaic.StableHlo Cert.Simulate

variable {F : FTy → Type} [FloatOps F]

set_option maxHeartbeats 40000000 in
theorem sim_draw : Sim (Val := Elt F) 3 12 15 787 Cert.KernelIdeal.Gen.hostOps0_1 Cert.ReferenceIdeal.Run.opsB := by
  unfold Cert.KernelIdeal.Gen.hostOps0_1 Cert.ReferenceIdeal.Run.opsB Cert.ReferenceIdeal.Run.randSeq
  iterate 772
    refine Sim.cons ?_ ?_
    · first
        | exact Step.binary ⟨⟨rfl, rfl⟩, rfl, rfl⟩ ⟨⟨rfl, rfl⟩, rfl, by decide, by decide⟩ ⟨⟨rfl, rfl⟩, rfl, by decide, by decide⟩
        | exact Step.unary ⟨⟨rfl, rfl⟩, rfl, rfl⟩ ⟨⟨rfl, rfl⟩, rfl, by decide, by decide⟩
        | exact Step.nullary ⟨⟨rfl, rfl⟩, rfl, rfl⟩
        | exact Step.reshape ⟨⟨rfl, rfl⟩, rfl, rfl⟩ ⟨⟨rfl, rfl⟩, rfl, by decide, by decide⟩
        | exact Step.ternary ⟨⟨rfl, rfl⟩, rfl, rfl⟩ ⟨⟨rfl, rfl⟩, rfl, by decide, by decide⟩ ⟨⟨rfl, rfl⟩, rfl, by decide, by decide⟩ ⟨⟨rfl, rfl⟩, rfl, by decide, by decide⟩
  exact Sim.nil ..
end Cert.Draw

end
-- ==== Proof.Agreement.lean ====
/- The two programs draw the same indices. -/
module

public import proofs.«01_k».proof.Proof.DrawSim
public import proofs.«01_k».proof.Proof.KernelInputs
public import Idealize.ShloMosaic.Lib.StableHlo.ReadAt

@[expose] public section

set_option maxRecDepth 65536
set_option maxHeartbeats 4000000

noncomputable section

namespace Cert.Draw

open Idealize.ShloMosaic Idealize.SL.Sem Idealize.ShloMosaic.StableHlo Cert.Simulate

variable {F : FTy → Type} [FloatOps F]

/-- A buffer of the same type and content in both programs. -/
def Same {τ τ' : Topo} {sig sig' : RefSig} {Val : EltTy → Type} (V : Valuation τ sig Val) (V' : Valuation τ' sig' Val) (i k : ℕ) : Prop :=
  ∀ (T : BufTy) (x : TRef sig T) (x' : TRef sig' T), IsAt x.ref i → IsAt x'.ref (i + k) →
    x.ofBuf (V (Proc.devRef .tc x.ref)) = x'.ofBuf (V' (Proc.devRef .tc x'.ref))

theorem Same.of {τ τ' : Topo} {sig sig' : RefSig} {Val : EltTy → Type} {V : Valuation τ sig Val} {V' : Valuation τ' sig' Val} {i k : ℕ}
    {T : BufTy} (y : TRef sig T) (y' : TRef sig' T) (hy : IsAt y.ref i) (hy' : IsAt y'.ref (i + k))
    (h : y.ofBuf (V (Proc.devRef .tc y.ref)) = y'.ofBuf (V' (Proc.devRef .tc y'.ref))) : Same V V' i k := by
  intro S x x' hx hx'
  have e := hx.ext hy
  have e' := hx'.ext hy'
  obtain ⟨xr, xt, x1, x2⟩ := x
  obtain ⟨yr, yt, y1, y2⟩ := y
  obtain ⟨xr', xt', x1', x2'⟩ := x'
  obtain ⟨yr', yt', y1', y2'⟩ := y'
  dsimp only at e e' h
  subst e; subst e'
  have hT : S = T := xt.symm.trans yt
  subst hT
  exact h

/-- The buffers the draw reads hold the same in both programs. -/
theorem start (m : (ℓ : Loc Cert.KernelIdeal.nD Cert.KernelIdeal.τ Cert.KernelIdeal.sig) → Buf (Elt F) ℓ) (c : Dev Cert.KernelIdeal.nD)
    (m' : (ℓ : Loc Cert.ReferenceIdeal.nD Cert.ReferenceIdeal.τ Cert.ReferenceIdeal.sig) → Buf (Elt F) ℓ) (c' : Dev Cert.ReferenceIdeal.nD) :
    Agree (Val := Elt F) 3 12 15 (after Cert.KernelIdeal.Gen.hostOps0 fun b => m (c, b)) (after Cert.ReferenceIdeal.Run.opsA (launchContents m' c')) := by
  intro i hlo hi
  have h : i = 12 ∨ i = 13 ∨ i = 14 := by omega
  rcases h with rfl | rfl | rfl
  · refine Same.of (T := ⟨Cert.KernelIdeal.S2, .i32⟩) (.of Cert.KernelIdeal.main_v6) (.of Cert.ReferenceIdeal.main_v9) ⟨rfl, rfl⟩ ⟨rfl, rfl⟩ ?_
    unfold Cert.KernelIdeal.Gen.hostOps0 Cert.ReferenceIdeal.Run.opsA Cert.ReferenceIdeal.Run.mainSeq
    dsimp only
    after_reads_simp
    rfl
  · refine Same.of (T := ⟨Cert.KernelIdeal.S_, .i32⟩) (.of Cert.KernelIdeal.main_c_2) (.of Cert.ReferenceIdeal.main_c_2) ⟨rfl, rfl⟩ ⟨rfl, rfl⟩ ?_
    unfold Cert.KernelIdeal.Gen.hostOps0 Cert.ReferenceIdeal.Run.opsA Cert.ReferenceIdeal.Run.mainSeq
    dsimp only
    after_reads_simp
  · refine Same.of (T := ⟨Cert.KernelIdeal.S_, .i32⟩) (.of Cert.KernelIdeal.main_c_3) (.of Cert.ReferenceIdeal.main_c_3) ⟨rfl, rfl⟩ ⟨rfl, rfl⟩ ?_
    unfold Cert.KernelIdeal.Gen.hostOps0 Cert.ReferenceIdeal.Run.opsA Cert.ReferenceIdeal.Run.mainSeq
    dsimp only
    after_reads_simp

/-- The sampled indices are the same in both programs. -/
theorem keys_eq (m : (ℓ : Loc Cert.KernelIdeal.nD Cert.KernelIdeal.τ Cert.KernelIdeal.sig) → Buf (Elt F) ℓ) (c : Dev Cert.KernelIdeal.nD)
    (m' : (ℓ : Loc Cert.ReferenceIdeal.nD Cert.ReferenceIdeal.τ Cert.ReferenceIdeal.sig) → Buf (Elt F) ℓ) (c' : Dev Cert.ReferenceIdeal.nD) :
    (Cert.ReferenceIdeal.Run.VB m' c' (Proc.devRef .tc Cert.ReferenceIdeal.main_v10) : IVec Cert.ReferenceIdeal.S2048x40 32)
      = (Cert.KernelIdeal.Value.drawn m c (Proc.devRef .tc Cert.KernelIdeal.main_v7) : IVec Cert.KernelIdeal.S2048x40 32) :=
  (sim_draw.run _ _ (start m c m' c') 786 (by decide) (by decide) ⟨Cert.KernelIdeal.S2048x40, .i32⟩ (.of Cert.KernelIdeal.main_v7)
    (.of Cert.ReferenceIdeal.main_v10) ⟨rfl, rfl⟩ ⟨rfl, rfl⟩).symm

end Cert.Draw

end
-- ==== Proof.ReferenceSteps.lean ====
/- The reference's last segment, buffer by buffer: each of the buffers named here as the operations' term over the buffers
   before it. -/
module

public import proofs.«01_k».proof.Proof.ReferenceLine
public import Idealize.ShloMosaic.Lib.StableHlo.ReadAt

@[expose] public section

set_option maxRecDepth 16384
set_option maxHeartbeats 4000000

noncomputable section

namespace Cert.ReferenceIdeal.Run

open Cert.ReferenceIdeal Cert.Lines Facts₀ Facts
open Idealize.ShloMosaic Idealize.ShloMosaic.StableHlo

variable {F : FTy → Type} [FloatOps F] (V : Valuation τ sig (Elt F))

/-- The contents after the last segment. -/
abbrev W (V : Valuation τ sig (Elt F)) : Valuation τ sig (Elt F) := after opsC V

theorem W_split (n : ℕ) : W V = after (opsC.drop n) (after (opsC.take n) V) := by
  rw [← StableHlo.after_append, List.take_append_drop]

/-- A buffer written before the segment. -/
theorem W_old (r : Ref sig .tc) (hr : r.idx.val < 790) : W V (Proc.devRef .tc r) = V (Proc.devRef .tc r) :=
  after_outside within_C _ _ (Or.inl hr)

/-- A word index made nonnegative: below zero, the axis's length added. -/
def wrap {s : Shape} (n : BitVec 32) (h : S_.BroadcastsInDim s (![] : Fin 0 → Fin s.rank)) (x : IVec s 32) : IVec s 32 :=
  select (cmpi .slt x (broadcastInDim s ![] h (constantI S_ 32 0#32))) (addi x (broadcastInDim s ![] h (constantI S_ 32 n))) x

theorem step16 : (W V (Proc.devRef .tc main_v16) : IVec S2048x40x1 32)
    = broadcastInDim S2048x40x1 ![0, 1] bcast_S2048x40_S2048x40x1_0_1 (wrap 2048#32 bcast_S_S2048x40 (W V (Proc.devRef .tc main_v10) : IVec S2048x40 32)) := by
  rw [W_split V 0]; generalize after (opsC.take 0) V = U
  unfold opsC mainSeq; dsimp only [List.drop, List.cons_append, List.nil_append]; after_reads_simp; rfl

theorem step17 : (W V (Proc.devRef .tc main_v17) : FVec F S2x16x2048x40x64 .f32)
    = Host.gather gather_S2x16x2048x64_S2048x40x1_S2x16x2048x40x64_014_2_n_n_2_2_216164
        (W V (Proc.devRef .tc main_v1) : FVec F S2x16x2048x64 .f32) (W V (Proc.devRef .tc main_v16) : IVec S2048x40x1 32) := by
  rw [W_split V 8]; generalize after (opsC.take 8) V = U
  unfold opsC mainSeq; dsimp only [List.drop, List.cons_append, List.nil_append]; after_reads_simp

/-- The measure of every query from the sampled products. -/
def measure (q : FVec F S2x16x2048x64 .f32) (k : FVec F S2x16x2048x40x64 .f32) : FVec F S2x16x2048 .f32 :=
  subf (Host.reduce FloatOps.maximumf (Host.dotGeneral dot_S2x16x2048x64_S2x16x2048x40x64_S2x16x2048x40_3_4_n_3_012_012 none q k : FVec F S2x16x2048x40 .f32)
      (constant S_ .f32 0xFF800000#32 : FVec F S_ .f32) reducesTo_S2x16x2048x40_S2x16x2048_d3 h_S_)
    (Host.divf (Host.reduceAdd (Host.dotGeneral dot_S2x16x2048x64_S2x16x2048x40x64_S2x16x2048x40_3_4_n_3_012_012 none q k : FVec F S2x16x2048x40 .f32)
      (constant S_ .f32 0x00000000#32) reducesTo_S2x16x2048x40_S2x16x2048_d3 h_S_)
      (broadcastInDim S2x16x2048 ![] bcast_S_S2x16x2048 (constant S_ .f32 0x45000000#32)))

theorem step23 : (W V (Proc.devRef .tc main_v23) : FVec F S2x16x2048 .f32)
    = measure (W V (Proc.devRef .tc main_v0)) (W V (Proc.devRef .tc main_v17)) := by
  rw [W_split V 9]; generalize after (opsC.take 9) V = U
  unfold opsC mainSeq; dsimp only [List.drop, List.cons_append, List.nil_append]; after_reads_simp; rfl

theorem stepTop : (W V (Proc.devRef .tc main_indices) : IVec S2x16x40 32)
    = (Host.topK S2x16x40 2 (FloatOps.cmpfTotal .gt) (W V (Proc.devRef .tc main_v23) : FVec F S2x16x2048 .f32) sliceFits_S2x16x2048_S2x16x40).2 := by
  rw [W_split V 18]; generalize after (opsC.take 18) V = U
  unfold opsC mainSeq; dsimp only [List.drop, List.cons_append, List.nil_append]; after_reads_simp

/-- The rows of `q` at positions `i`, a position outside the axis giving the filler. -/
def takeRows (q : FVec F S2x16x2048x64 .f32) (i : IVec S2x16x40x1 32) : FVec F S2x16x40x64 .f32 :=
  select (broadcastInDim S2x16x40x64 ![0, 1, 2] bcast_S2x16x40_S2x16x40x64_0_1_2
      (Host.reduce IntOp.andi (andi (cmpi .sge i (broadcastInDim S2x16x40x1 ![] bcast_S_S2x16x40x1 (constantI S_ 32 0#32)))
        (cmpi .sle i (broadcastInDim S2x16x40x1 ![0, 1, 2, 3] bcast_S1x1x1x1_S2x16x40x1_0_1_2_3
          (broadcastInDim S1x1x1x1 ![3] bcast_S1_S1x1x1x1_3 (constantI S1 32 2047#32))))) (constantI S_ 1 1#1) reducesTo_S2x16x40x1_S2x16x40_d3 h_S_))
    (Host.gather gather_S2x16x2048x64_S2x16x40x1_S2x16x40x64_3_2_01_01_2_3_11164 q i)
    (broadcastInDim S2x16x40x64 ![] bcast_S_S2x16x40x64 (constant S_ .f32 0x7FC00000#32))

theorem step25 : (W V (Proc.devRef .tc main_v25) : FVec F S2x16x40x64 .f32)
    = takeRows (W V (Proc.devRef .tc main_v0)) (wrap 2048#32 bcast_S_S2x16x40x1
        (broadcastInDim S2x16x40x1 ![0, 1, 2] bcast_S2x16x40_S2x16x40x1_0_1_2 (W V (Proc.devRef .tc main_indices) : IVec S2x16x40 32))) := by
  rw [W_split V 20]; generalize after (opsC.take 20) V = U
  unfold opsC mainSeq; dsimp only [List.drop, List.cons_append, List.nil_append]; after_reads_simp
  simp -implicitDefEqProofs only [TRef.toBuf, TRef.ofBuf, cast_cast, cast_eq]
  rfl

/-- The masked scores of the picked queries `q` against the keys. -/
def scores (q : FVec F S2x16x40x64 .f32) (k : FVec F S2x16x2048x64 .f32) : FVec F S2x16x40x2048 .f32 :=
  select (broadcastInDim S2x16x40x2048 ![0, 1, 2, 3] bcast_S1x1x40x2048_S2x16x40x2048_0_1_2_3
      (broadcastInDim S1x1x40x2048 ![2, 3] bcast_S40x2048_S1x1x40x2048_2_3
        (extractStridedSlice S40x2048 ![0, 0]
          (select (cmpi .sge (addi (iotaInDim S2048x2048 32 0) (broadcastInDim S2048x2048 ![] bcast_S_S2048x2048 (constantI S_ 32 0#32))) (iotaInDim S2048x2048 32 1))
            (broadcastInDim S2048x2048 ![] bcast_S_S2048x2048 (constantI S_ 1 0#1))
            (broadcastInDim S2048x2048 ![] bcast_S_S2048x2048 (constantI S_ 1 1#1))) slices_S2048x2048_S40x2048_0_0)))
    (broadcastInDim S2x16x40x2048 ![] bcast_S_S2x16x40x2048 (constant S_ .f32 0xFF800000#32))
    (mulf (Host.dotGeneral dot_S2x16x40x64_S2x16x2048x64_S2x16x40x2048_3_3_2_2_01_01 none q k : FVec F S2x16x40x2048 .f32)
      (broadcastInDim S2x16x40x2048 ![] bcast_S_S2x16x40x2048 (constant S_ .f32 0x3E000000#32)))

theorem step34 : (W V (Proc.devRef .tc main_v34) : FVec F S2x16x40x2048 .f32)
    = scores (W V (Proc.devRef .tc main_v25)) (W V (Proc.devRef .tc main_v1)) := by
  rw [W_split V 43]; generalize after (opsC.take 43) V = U
  unfold opsC mainSeq; dsimp only [List.drop, List.cons_append, List.nil_append]; after_reads_simp
  simp -implicitDefEqProofs only [TRef.toBuf, TRef.ofBuf, cast_cast, cast_eq]
  rfl

/-- The exponentials of the scores, each row's greatest subtracted. -/
def expScores (s : FVec F S2x16x40x2048 .f32) : FVec F S2x16x40x2048 .f32 :=
  Host.exp (subf s (broadcastInDim S2x16x40x2048 ![0, 1, 2, 3] bcast_S2x16x40x1_S2x16x40x2048_0_1_2_3
    (broadcastInDim S2x16x40x1 ![0, 1, 2] bcast_S2x16x40_S2x16x40x1_0_1_2
      (maximumf (broadcastInDim S2x16x40 ![] bcast_S_S2x16x40 (constant S_ .f32 0xFF800000#32))
        (Host.reduce FloatOps.maximumf s (constant S_ .f32 0xFF800000#32 : FVec F S_ .f32) reducesTo_S2x16x40x2048_S2x16x40_d3 h_S_)))))

theorem step41 : (W V (Proc.devRef .tc main_v41) : FVec F S2x16x40x2048 .f32) = expScores (W V (Proc.devRef .tc main_v34)) := by
  rw [W_split V 68]; generalize after (opsC.take 68) V = U
  unfold opsC mainSeq; dsimp only [List.drop, List.cons_append, List.nil_append]; after_reads_simp; rfl

/-- The values averaged by the exponentials. -/
def average (e : FVec F S2x16x40x2048 .f32) (v : FVec F S2x16x2048x64 .f32) : FVec F S2x16x40x64 .f32 :=
  Host.dotGeneral dot_S2x16x40x2048_S2x16x2048x64_S2x16x40x64_3_2_2_3_01_01 none
    (Host.divf e (broadcastInDim S2x16x40x2048 ![0, 1, 2, 3] bcast_S2x16x40x1_S2x16x40x2048_0_1_2_3
      (broadcastInDim S2x16x40x1 ![0, 1, 2] bcast_S2x16x40_S2x16x40x1_0_1_2
        (Host.reduceAdd e (constant S_ .f32 0x00000000#32) reducesTo_S2x16x40x2048_S2x16x40_d3 h_S_)))) v

theorem step46 : (W V (Proc.devRef .tc main_v46) : FVec F S2x16x40x64 .f32)
    = average (W V (Proc.devRef .tc main_v41)) (W V (Proc.devRef .tc main_v2)) := by
  rw [W_split V 77]; generalize after (opsC.take 77) V = U
  unfold opsC mainSeq; dsimp only [List.drop, List.cons_append, List.nil_append]; after_reads_simp; rfl

theorem step29 : (W V (Proc.devRef .tc main_v29) : FVec F S2x16x2048x64 .f32)
    = Host.reduceWindowAdd ![1, 1, 2048, 1] ![1, 1, 1, 1] ![0, 0, 2047, 0] ![0, 0, 0, 0] (W V (Proc.devRef .tc main_v2) : FVec F S2x16x2048x64 .f32)
        (broadcastInDim S_ ![] bcast_S_S_ (constant S_ .f32 0x00000000#32)) reduceWindows_S2x16x2048x64_S2x16x2048x64_w1s1p0_0_w1s1p0_0_w2048s1p2047_0_w1s1p0_0 h_S_ := by
  rw [W_split V 43]; generalize after (opsC.take 43) V = U
  unfold opsC mainSeq; dsimp only [List.drop, List.cons_append, List.nil_append]; after_reads_simp
  simp -implicitDefEqProofs only [TRef.toBuf, TRef.ofBuf, cast_cast, cast_eq]

/-- Where each picked query's row goes: batch, head and position. -/
def places (i : IVec S2x16x40 32) : IVec S2x16x40x3 32 :=
  concatenate S2x16x40x3 3 [
    ⟨S2x16x40x1, broadcastInDim S2x16x40x1 ![0, 1, 2] bcast_S2x16x40_S2x16x40x1_0_1_2 (broadcastInDim S2x16x40 ![0, 1, 2] bcast_S2x1x1_S2x16x40_0_1_2
      (wrap 2#32 bcast_S_S2x1x1 (broadcastInDim S2x1x1 ![0] bcast_S2_S2x1x1_0 (iotaInDim S2 32 0))))⟩,
    ⟨S2x16x40x1, broadcastInDim S2x16x40x1 ![0, 1, 2] bcast_S2x16x40_S2x16x40x1_0_1_2 (broadcastInDim S2x16x40 ![0, 1, 2] bcast_S1x16x1_S2x16x40_0_1_2
      (wrap 16#32 bcast_S_S1x16x1 (broadcastInDim S1x16x1 ![1] bcast_S16_S1x16x1_1 (iotaInDim S16 32 0))))⟩,
    ⟨S2x16x40x1, broadcastInDim S2x16x40x1 ![0, 1, 2] bcast_S2x16x40_S2x16x40x1_0_1_2 (wrap 2048#32 bcast_S_S2x16x40 i)⟩] concatenates_S2x16x40x1_S2x16x40x1_S2x16x40x1_S2x16x40x3_d3

theorem step71 : (W V (Proc.devRef .tc main_v71) : IVec S2x16x40x3 32) = places (W V (Proc.devRef .tc main_indices)) := by
  rw [W_split V 83]; generalize after (opsC.take 83) V = U
  unfold opsC mainSeq; dsimp only [List.drop, List.cons_append, List.nil_append]; after_reads_simp; rfl

theorem step73 : (W V (Proc.devRef .tc main_v73) : FVec F S2x2048x16x64 .f32)
    = transpose S2x2048x16x64 [0, 2, 1, 3] (Host.scatter scatter_S2x16x2048x64_S2x16x40x3_S2x16x40x64_3_012_012_3 (fun _ b => b)
        (W V (Proc.devRef .tc main_v29) : FVec F S2x16x2048x64 .f32) (W V (Proc.devRef .tc main_v71) : IVec S2x16x40x3 32)
        (W V (Proc.devRef .tc main_v46) : FVec F S2x16x40x64 .f32)) transposes_S2x16x2048x64_S2x2048x16x64_0_2_1_3 := by
  rw [W_split V 114]; generalize after (opsC.take 114) V = U
  unfold opsC mainSeq; dsimp only [List.drop, List.cons_append, List.nil_append]; after_reads_simp; rfl

end Cert.ReferenceIdeal.Run

end
-- ==== Proof.ReferenceGather.lean ====
/- The reference's gathers and its scatter, each at one index. -/
module

public import proofs.«01_k».proof.Proof.ReferenceSteps
public import proofs.«01_k».proof.Proof.Select
public import Idealize.ShloMosaic.Lib.Pointwise
public import Idealize.ShloMosaic.Lib.Routing.OpsSet

@[expose] public section

set_option maxRecDepth 16384

noncomputable section

namespace Cert.ReferenceIdeal.Run

open Cert.ReferenceIdeal Cert.Lines Facts₀ Facts
open Idealize.ShloMosaic

/-- The sampled keys: the key row the index names. -/
theorem sampledKeys_at (k : FVec Ideal S2x16x2048x64 .f32) (i : IVec S2048x40x1 32) (b : Fin 2) (h : Fin 16) (l : Fin 2048) (s : Fin 40) (d : Fin 64) (a : Fin 2048)
    (ha : (i (ix3 l s (0 : Fin 1))).toInt = a.val) :
    Host.gather gather_S2x16x2048x64_S2048x40x1_S2x16x2048x40x64_014_2_n_n_2_2_216164 k i (ix5 b h l s d) = k (ix4 b h a d) := by
  unfold Host.gather
  refine congrArg k (funext fun x => Fin.ext ?_)
  have e1 : ∀ p, gather_S2x16x2048x64_S2048x40x1_S2x16x2048x40x64_014_2_n_n_2_2_216164.siIdx (ix5 b h l s d) ⟨0, p⟩ = ix3 l s (0 : Fin 1) := fun p => by
    funext y
    fin_cases y <;> rfl
  have e2 : min (i (ix3 l s (0 : Fin 1))).toInt.toNat (2048 - 1) = a.val := by rw [ha]; omega
  fin_cases x
  · show 0 + 0 + b.val = b.val; omega
  · show 0 + 0 + h.val = h.val; omega
  · refine Eq.trans ?_ e2
    rw [← e1 (by decide)]
    rfl
  · show 0 + 0 + d.val = d.val; omega

/-- The picked queries: the query row the index names. -/
theorem takenRows_at (q : FVec Ideal S2x16x2048x64 .f32) (i : IVec S2x16x40x1 32) (b : Fin 2) (h : Fin 16) (r : Fin 40) (d : Fin 64) (a : Fin 2048)
    (ha : (i (ix4 b h r (0 : Fin 1))).toInt = a.val) :
    Host.gather gather_S2x16x2048x64_S2x16x40x1_S2x16x40x64_3_2_01_01_2_3_11164 q i (ix4 b h r d) = q (ix4 b h a d) := by
  unfold Host.gather
  refine congrArg q (funext fun x => Fin.ext ?_)
  have e1 : ∀ p, gather_S2x16x2048x64_S2x16x40x1_S2x16x40x64_3_2_01_01_2_3_11164.siIdx (ix4 b h r d) ⟨0, p⟩ = ix4 b h r (0 : Fin 1) := fun p => by
    funext y
    fin_cases y <;> rfl
  have e2 : min (i (ix4 b h r (0 : Fin 1))).toInt.toNat (2048 - 1) = a.val := by rw [ha]; omega
  fin_cases x
  · show 0 + b.val + 0 = b.val; omega
  · show 0 + h.val + 0 = h.val; omega
  · refine Eq.trans ?_ e2
    rw [← e1 (by decide)]
    rfl
  · show 0 + 0 + d.val = d.val; omega

/-- Where the scatter's update lands. -/
theorem scatter_lands (i : IVec S2x16x40x3 32) (b : Fin 2) (h : Fin 16) (r : Fin 40) (d : Fin 64) (b' : Fin 2) (h' : Fin 16) (l : Fin 2048) (d' : Fin 64) :
    scatter_S2x16x2048x64_S2x16x40x3_S2x16x40x64_3_012_012_3.resultIdx? (ix4 b h r d) i = some (ix4 b' h' l d')
      ↔ (i (ix4 b h r (0 : Fin 3))).toInt = b'.val ∧ (i (ix4 b h r (1 : Fin 3))).toInt = h'.val ∧ (i (ix4 b h r (2 : Fin 3))).toInt = l.val ∧ d = d' := by
  refine (Routing.resultIdx?_eq_some _ _ _ _).trans ?_
  have e0 : ∀ p, scatter_S2x16x2048x64_S2x16x40x3_S2x16x40x64_3_012_012_3.siIdx (ix4 b h r d) ⟨0, p⟩ = ix4 b h r (0 : Fin 3) := fun p => by
    funext y
    fin_cases y <;> rfl
  have e1 : ∀ p, scatter_S2x16x2048x64_S2x16x40x3_S2x16x40x64_3_012_012_3.siIdx (ix4 b h r d) ⟨1, p⟩ = ix4 b h r (1 : Fin 3) := fun p => by
    funext y
    fin_cases y <;> rfl
  have e2 : ∀ p, scatter_S2x16x2048x64_S2x16x40x3_S2x16x40x64_3_012_012_3.siIdx (ix4 b h r d) ⟨2, p⟩ = ix4 b h r (2 : Fin 3) := fun p => by
    funext y
    fin_cases y <;> rfl
  rw [← e0 (by decide), ← e1 (by decide), ← e2 (by decide)]
  constructor
  · intro H
    have h0 := H 0
    have h1 := H 1
    have h2 := H 2
    have h3 : (0 : Int) + (d.val : Int) = d'.val := H 3
    exact ⟨(Int.add_zero _).symm.trans h0, (Int.add_zero _).symm.trans h1, (Int.add_zero _).symm.trans h2, Fin.ext (by omega)⟩
  · rintro ⟨h0, h1, h2, rfl⟩ x
    fin_cases x
    · exact (Int.add_zero _).trans h0
    · exact (Int.add_zero _).trans h1
    · exact (Int.add_zero _).trans h2
    · show (0 : Int) + (d.val : Int) = d.val; omega

end Cert.ReferenceIdeal.Run

end
-- ==== Proof.ReferencePlaces.lean ====
/- The reference's index arithmetic and its transposed arguments, at one index. -/
module

public import proofs.«01_k».proof.Proof.ReferenceGather
public import proofs.«01_k».proof.Proof.Sums
public import Idealize.ShloMosaic.Lib.Pointwise
public import Idealize.ShloMosaic.Lib.StableHlo.ReadAt

@[expose] public section

set_option maxRecDepth 16384

noncomputable section

namespace Cert.ReferenceIdeal.Run

open Cert.ReferenceIdeal Cert.Lines Facts₀ Facts
open Idealize.ShloMosaic Idealize.ShloMosaic.StableHlo Idealize.ShloMosaic.TcCoe

/-- A word index that is a natural number below the axis's length is left as it is. -/
theorem wrap_ofNat (a : ℕ) (ha : a ≤ 2048) (n : BitVec 32) :
    Scalar.select (IntOp.cmpi .slt (BitVec.ofNat 32 a) 0#32) (IntOp.addi (BitVec.ofNat 32 a) n) (BitVec.ofNat 32 a) = BitVec.ofNat 32 a :=
  Routing.wrap_of_lt _ _ (by rw [BitVec.toNat_ofNat]; omega)

theorem toInt_word (a : ℕ) (h : a ≤ 2048) : (BitVec.ofNat 32 a).toInt = a := by
  rw [BitVec.toInt_eq_toNat_cond, BitVec.toNat_ofNat]
  omega

/-- The three words of an update's place. -/
theorem places_zero (i : IVec S2x16x40 32) (b : Fin 2) (h : Fin 16) (r : Fin 40) : places i (ix4 b h r (0 : Fin 3)) = BitVec.ofNat 32 b.val := by
  have e : places i (ix4 b h r (0 : Fin 3)) = Scalar.select (IntOp.cmpi .slt (BitVec.ofNat 32 b.val) 0#32) (IntOp.addi (BitVec.ofNat 32 b.val) 2#32) (BitVec.ofNat 32 b.val) := by
    pointwise [places, wrap]
  rw [e, wrap_ofNat _ (by omega)]

theorem places_one (i : IVec S2x16x40 32) (b : Fin 2) (h : Fin 16) (r : Fin 40) : places i (ix4 b h r (1 : Fin 3)) = BitVec.ofNat 32 h.val := by
  have e : places i (ix4 b h r (1 : Fin 3)) = Scalar.select (IntOp.cmpi .slt (BitVec.ofNat 32 h.val) 0#32) (IntOp.addi (BitVec.ofNat 32 h.val) 16#32) (BitVec.ofNat 32 h.val) := by
    pointwise [places, wrap]
  rw [e, wrap_ofNat _ (by omega)]

theorem places_two (i : IVec S2x16x40 32) (b : Fin 2) (h : Fin 16) (r : Fin 40) (a : Fin 2048) (ha : i (ix3 b h r) = BitVec.ofNat 32 a.val) :
    places i (ix4 b h r (2 : Fin 3)) = BitVec.ofNat 32 a.val := by
  have e : places i (ix4 b h r (2 : Fin 3)) = Scalar.select (IntOp.cmpi .slt (i (ix3 b h r)) 0#32) (IntOp.addi (i (ix3 b h r)) 2048#32) (i (ix3 b h r)) := by
    pointwise [places, wrap]
  rw [e, ha, wrap_ofNat _ (by omega)]

/-- The picked rows' indices, made nonnegative. -/
theorem rows_at (i : IVec S2x16x40 32) (b : Fin 2) (h : Fin 16) (r : Fin 40) (a : Fin 2048) (ha : i (ix3 b h r) = BitVec.ofNat 32 a.val) :
    wrap 2048#32 bcast_S_S2x16x40x1 (broadcastInDim S2x16x40x1 ![0, 1, 2] bcast_S2x16x40_S2x16x40x1_0_1_2 i) (ix4 b h r (0 : Fin 1)) = BitVec.ofNat 32 a.val := by
  have e : wrap 2048#32 bcast_S_S2x16x40x1 (broadcastInDim S2x16x40x1 ![0, 1, 2] bcast_S2x16x40_S2x16x40x1_0_1_2 i) (ix4 b h r (0 : Fin 1))
      = Scalar.select (IntOp.cmpi .slt (i (ix3 b h r)) 0#32) (IntOp.addi (i (ix3 b h r)) 2048#32) (i (ix3 b h r)) := by
    pointwise [wrap]
  rw [e, ha, wrap_ofNat _ (by omega)]

/-- The sampled keys' indices, made nonnegative. -/
theorem keys_at (i : IVec S2048x40 32) (l : Fin 2048) (s : Fin 40) (a : Fin 2048) (ha : i (ix2 l s) = BitVec.ofNat 32 a.val) :
    broadcastInDim S2048x40x1 ![0, 1] bcast_S2048x40_S2048x40x1_0_1 (wrap 2048#32 bcast_S_S2048x40 i) (ix3 l s (0 : Fin 1)) = BitVec.ofNat 32 a.val := by
  have e : broadcastInDim S2048x40x1 ![0, 1] bcast_S2048x40_S2048x40x1_0_1 (wrap 2048#32 bcast_S_S2048x40 i) (ix3 l s (0 : Fin 1))
      = Scalar.select (IntOp.cmpi .slt (i (ix2 l s)) 0#32) (IntOp.addi (i (ix2 l s)) 2048#32) (i (ix2 l s)) := by
    pointwise [wrap]
  rw [e, ha, wrap_ofNat _ (by omega)]

/-- The rows taken at a position on the axis. -/
theorem takeRows_at (q : FVec Ideal S2x16x2048x64 .f32) (i : IVec S2x16x40x1 32) (b : Fin 2) (h : Fin 16) (r : Fin 40) (d : Fin 64) (a : Fin 2048)
    (ha : i (ix4 b h r (0 : Fin 1)) = BitVec.ofNat 32 a.val) :
    takeRows (F := Ideal) q i (ix4 b h r d) = q (ix4 b h a d) := by
  have e : takeRows (F := Ideal) q i (ix4 b h r d) = Scalar.select (Finset.fold IntOp.andi 1#1
        (fun x => IntOp.andi (IntOp.cmpi .sge (i (ix4 b h r x)) 0#32) (IntOp.cmpi .sle (i (ix4 b h r x)) 2047#32)) (Finset.univ : Finset (Fin 1)))
      (Host.gather gather_S2x16x2048x64_S2x16x40x1_S2x16x40x64_3_2_01_01_2_3_11164 q i (ix4 b h r d)) (Ideal.ofBits .f32 2143289344#32) := by
    pointwise [takeRows]
  have hi : (i (ix4 b h r (0 : Fin 1))).toInt = a.val := by rw [ha, toInt_word _ (by omega)]
  rw [e, takenRows_at q i b h r d a hi, Finset.univ_unique, Finset.fold_singleton]
  show Scalar.select (IntOp.andi (IntOp.andi (IntOp.cmpi .sge (i (ix4 b h r (0 : Fin 1))) 0#32) (IntOp.cmpi .sle (i (ix4 b h r (0 : Fin 1))) 2047#32)) 1#1) _ _ = _
  have h1 : IntOp.cmpi .sge (i (ix4 b h r (0 : Fin 1))) 0#32 = 1#1 := by
    simp only [IntOp.cmpi, BitVec.sle_eq_decide, hi]
    simp
  have h2 : IntOp.cmpi .sle (i (ix4 b h r (0 : Fin 1))) 2047#32 = 1#1 := by
    simp only [IntOp.cmpi, BitVec.sle_eq_decide, hi]
    have : (2047#32 : BitVec 32).toInt = 2047 := by decide
    rw [this, decide_eq_true (by omega)]
    rfl
  rw [h1, h2]
  rfl

/-- An argument with its second and third axes exchanged. -/
theorem swapped_at (x : FVec Ideal S2x2048x16x64 .f32) (b : Fin 2) (h : Fin 16) (l : Fin 2048) (d : Fin 64) :
    transpose S2x16x2048x64 [0, 2, 1, 3] x transposes_S2x2048x16x64_S2x16x2048x64_0_2_1_3 (ix4 b h l d) = x (ix4 b l h d) := by
  pointwise

theorem swappedBack_at (x : FVec Ideal S2x16x2048x64 .f32) (b : Fin 2) (h : Fin 16) (l : Fin 2048) (d : Fin 64) :
    transpose S2x2048x16x64 [0, 2, 1, 3] x transposes_S2x16x2048x64_S2x2048x16x64_0_2_1_3 (ix4 b l h d) = x (ix4 b h l d) := by
  pointwise

end Cert.ReferenceIdeal.Run

end
-- ==== Proof.ReferenceArgs.lean ====
/- The reference's transposed arguments, as they stand after the draw. -/
module

public import proofs.«01_k».proof.Proof.ReferencePlaces

@[expose] public section

set_option maxRecDepth 16384
set_option maxHeartbeats 4000000

noncomputable section

namespace Cert.ReferenceIdeal.Run

open Cert.ReferenceIdeal Cert.Lines Facts₀ Facts
open Idealize.ShloMosaic Idealize.ShloMosaic.StableHlo Idealize.ShloMosaic.TcCoe

variable (m : (ℓ : Loc nD τ sig) → Buf (Elt Ideal) ℓ) (c : Dev nD)

theorem W_q : (W (VB m c) (Proc.devRef .tc main_v0) : FVec Ideal S2x16x2048x64 .f32)
    = transpose S2x16x2048x64 [0, 2, 1, 3] (m ((c : Thread nD τ).loc main_arg0) : FVec Ideal S2x2048x16x64 .f32) transposes_S2x2048x16x64_S2x16x2048x64_0_2_1_3 := by
  rw [W_old _ main_v0 (by decide), VB, after_outside within_B _ main_v0 (Or.inl (by decide))]
  unfold opsA mainSeq
  dsimp only
  after_reads_simp

theorem W_k : (W (VB m c) (Proc.devRef .tc main_v1) : FVec Ideal S2x16x2048x64 .f32)
    = transpose S2x16x2048x64 [0, 2, 1, 3] (m ((c : Thread nD τ).loc main_arg1) : FVec Ideal S2x2048x16x64 .f32) transposes_S2x2048x16x64_S2x16x2048x64_0_2_1_3 := by
  rw [W_old _ main_v1 (by decide), VB, after_outside within_B _ main_v1 (Or.inl (by decide))]
  unfold opsA mainSeq
  dsimp only
  after_reads_simp

theorem W_v : (W (VB m c) (Proc.devRef .tc main_v2) : FVec Ideal S2x16x2048x64 .f32)
    = transpose S2x16x2048x64 [0, 2, 1, 3] (m ((c : Thread nD τ).loc main_arg2) : FVec Ideal S2x2048x16x64 .f32) transposes_S2x2048x16x64_S2x16x2048x64_0_2_1_3 := by
  rw [W_old _ main_v2 (by decide), VB, after_outside within_B _ main_v2 (Or.inl (by decide))]
  unfold opsA mainSeq
  dsimp only
  after_reads_simp

theorem W_q_at (b : Fin 2) (h : Fin 16) (l : Fin 2048) (d : Fin 64) :
    (W (VB m c) (Proc.devRef .tc main_v0) : FVec Ideal S2x16x2048x64 .f32) (ix4 b h l d) = (m ((c : Thread nD τ).loc main_arg0) : FVec Ideal S2x2048x16x64 .f32) (ix4 b l h d) := by
  rw [W_q]; exact swapped_at _ b h l d

theorem W_k_at (b : Fin 2) (h : Fin 16) (l : Fin 2048) (d : Fin 64) :
    (W (VB m c) (Proc.devRef .tc main_v1) : FVec Ideal S2x16x2048x64 .f32) (ix4 b h l d) = (m ((c : Thread nD τ).loc main_arg1) : FVec Ideal S2x2048x16x64 .f32) (ix4 b l h d) := by
  rw [W_k]; exact swapped_at _ b h l d

theorem W_v_at (b : Fin 2) (h : Fin 16) (l : Fin 2048) (d : Fin 64) :
    (W (VB m c) (Proc.devRef .tc main_v2) : FVec Ideal S2x16x2048x64 .f32) (ix4 b h l d) = (m ((c : Thread nD τ).loc main_arg2) : FVec Ideal S2x2048x16x64 .f32) (ix4 b l h d) := by
  rw [W_v]; exact swapped_at _ b h l d

theorem W_keys : (W (VB m c) (Proc.devRef .tc main_v10) : IVec S2048x40 32) = (VB m c (Proc.devRef .tc main_v10) : IVec S2048x40 32) :=
  W_old _ main_v10 (by decide)

end Cert.ReferenceIdeal.Run

end
-- ==== Proof.HostSteps.lean ====
/- Host operations at one index, for arrays of any size: the reductions along the last of four axes, and the batched
   products. -/
module

public import Idealize.ShloMosaic.Lib.Pointwise

@[expose] public section

set_option maxRecDepth 16384

noncomputable section

namespace Cert.HostSteps

open Idealize.ShloMosaic

variable {n0 n1 n2 n3 : ℕ}

/-- The scalar shape. -/
abbrev Sc : Shape := ⟨0, ![]⟩

theorem max_at (x : FVec Ideal ⟨4, ![n0, n1, n2, n3]⟩ .f32) (w : BitVec 32) (h : Shape.ReducesTo (⟨4, ![n0, n1, n2, n3]⟩ : Shape) [3] ⟨3, ![n0, n1, n2]⟩) (h0)
    (a : Fin n0) (b : Fin n1) (c : Fin n2) :
    Host.reduce (FloatOps.maximumf (F := Ideal) (φ := .f32)) x (constant Sc .f32 w : FVec Ideal Sc .f32) h h0 (ix3 a b c)
      = Finset.univ.fold max (Ideal.ofBits .f32 w) fun d : Fin n3 => (x (ix4 a b c d) : EReal) := by
  pointwise

theorem add_at (x : FVec Ideal ⟨4, ![n0, n1, n2, n3]⟩ .f32) (h : Shape.ReducesTo (⟨4, ![n0, n1, n2, n3]⟩ : Shape) [3] ⟨3, ![n0, n1, n2]⟩) (h0)
    (a : Fin n0) (b : Fin n1) (c : Fin n2) :
    Host.reduceAdd (F := Ideal) x (constant Sc .f32 0x00000000#32 : FVec Ideal Sc .f32) h h0 (ix3 a b c)
      = ∑ d : Fin n3, (x (ix4 a b c d) : EReal) := by
  pointwise

end Cert.HostSteps

end
-- ==== Proof.ReferenceValues.lean ====
/- The reference's measures, scores, exponentials and averages, each read at one index. -/
module

public import proofs.«01_k».proof.Proof.ReferenceSteps
public import proofs.«01_k».proof.Proof.HostSteps

@[expose] public section

set_option maxRecDepth 16384

noncomputable section

namespace Cert.ReferenceIdeal.Run

open Cert.ReferenceIdeal Cert.Lines Facts₀ Facts
open Idealize.ShloMosaic

/-- A key's product with a query, at a sample. -/
theorem sampled_at (q : FVec Ideal S2x16x2048x64 .f32) (k : FVec Ideal S2x16x2048x40x64 .f32) (b : Fin 2) (h : Fin 16) (l : Fin 2048) (s : Fin 40) :
    (Host.dotGeneral dot_S2x16x2048x64_S2x16x2048x40x64_S2x16x2048x40_3_4_n_3_012_012 none q k : FVec Ideal S2x16x2048x40 .f32) (ix4 b h l s)
      = ∑ x : Fin 64, (q (ix4 b h l x) * k (ix5 b h l s x) : EReal) := by
  pointwise

/-- The largest entry of a last axis. -/
theorem rowMax3 (x : FVec Ideal S2x16x2048x40 .f32) (b : Fin 2) (h : Fin 16) (l : Fin 2048) :
    Host.reduce (FloatOps.maximumf (F := Ideal) (φ := .f32)) x (constant S_ .f32 0xFF800000#32 : FVec Ideal S_ .f32) reducesTo_S2x16x2048x40_S2x16x2048_d3 h_S_ (ix3 b h l)
      = Finset.univ.fold max (Ideal.ofBits .f32 4286578688#32) fun s : Fin 40 => (x (ix4 b h l s) : EReal) :=
  HostSteps.max_at _ _ _ _ b h l

theorem rowSum3 (x : FVec Ideal S2x16x2048x40 .f32) (b : Fin 2) (h : Fin 16) (l : Fin 2048) :
    Host.reduceAdd x (constant S_ .f32 0x00000000#32 : FVec Ideal S_ .f32) reducesTo_S2x16x2048x40_S2x16x2048_d3 h_S_ (ix3 b h l)
      = ∑ s : Fin 40, (x (ix4 b h l s) : EReal) :=
  HostSteps.add_at _ _ _ b h l

theorem rowMax40 (x : FVec Ideal S2x16x40x2048 .f32) (b : Fin 2) (h : Fin 16) (l : Fin 40) :
    Host.reduce (FloatOps.maximumf (F := Ideal) (φ := .f32)) x (constant S_ .f32 0xFF800000#32 : FVec Ideal S_ .f32) reducesTo_S2x16x40x2048_S2x16x40_d3 h_S_ (ix3 b h l)
      = Finset.univ.fold max (Ideal.ofBits .f32 4286578688#32) fun s : Fin 2048 => (x (ix4 b h l s) : EReal) :=
  HostSteps.max_at _ _ _ _ b h l

theorem measure_core (g g' : FVec Ideal S2x16x2048 .f32) (b : Fin 2) (h : Fin 16) (l : Fin 2048) :
    (subf g (Host.divf g' (broadcastInDim S2x16x2048 ![] bcast_S_S2x16x2048 (constant S_ .f32 0x45000000#32))) : FVec Ideal S2x16x2048 .f32) (ix3 b h l)
      = g (ix3 b h l) - Ideal.div (g' (ix3 b h l)) (Ideal.ofBits .f32 1157627904#32) := by
  pointwise

theorem exp_core (s : FVec Ideal S2x16x40x2048 .f32) (g : FVec Ideal S2x16x40 .f32) (b : Fin 2) (h : Fin 16) (l : Fin 40) (c : Fin 2048) :
    (Host.exp (subf s (broadcastInDim S2x16x40x2048 ![0, 1, 2, 3] bcast_S2x16x40x1_S2x16x40x2048_0_1_2_3
      (broadcastInDim S2x16x40x1 ![0, 1, 2] bcast_S2x16x40_S2x16x40x1_0_1_2
        (maximumf (broadcastInDim S2x16x40 ![] bcast_S_S2x16x40 (constant S_ .f32 0xFF800000#32)) g)))) : FVec Ideal S2x16x40x2048 .f32) (ix4 b h l c)
      = Ideal.exp (s (ix4 b h l c) - max (Ideal.ofBits .f32 4286578688#32) (g (ix3 b h l))) := by
  pointwise

theorem measure_at (q : FVec Ideal S2x16x2048x64 .f32) (k : FVec Ideal S2x16x2048x40x64 .f32) (b : Fin 2) (h : Fin 16) (l : Fin 2048) :
    measure (F := Ideal) q k (ix3 b h l)
      = (Finset.univ.fold max (Ideal.ofBits .f32 4286578688#32) fun s : Fin 40 => ∑ x : Fin 64, (q (ix4 b h l x) * k (ix5 b h l s x) : EReal))
        - Ideal.div (∑ s : Fin 40, ∑ x : Fin 64, (q (ix4 b h l x) * k (ix5 b h l s x) : EReal)) (Ideal.ofBits .f32 1157627904#32) := by
  unfold measure
  have hs := sampled_at q k b h l
  generalize Host.dotGeneral dot_S2x16x2048x64_S2x16x2048x40x64_S2x16x2048x40_3_4_n_3_012_012 none q k = x at hs ⊢
  have h1 := rowMax3 x b h l
  have h2 := rowSum3 x b h l
  generalize Host.reduce (FloatOps.maximumf (F := Ideal) (φ := .f32)) x (constant S_ .f32 0xFF800000#32 : FVec Ideal S_ .f32) reducesTo_S2x16x2048x40_S2x16x2048_d3 h_S_ = g at h1 ⊢
  generalize Host.reduceAdd x (constant S_ .f32 0x00000000#32) reducesTo_S2x16x2048x40_S2x16x2048_d3 h_S_ = g' at h2 ⊢
  refine (measure_core g g' b h l).trans ?_
  rw [h1, h2]
  simp only [hs]

theorem exp_at (s : FVec Ideal S2x16x40x2048 .f32) (b : Fin 2) (h : Fin 16) (l : Fin 40) (c : Fin 2048) :
    expScores (F := Ideal) s (ix4 b h l c)
      = Ideal.exp (s (ix4 b h l c) - max (Ideal.ofBits .f32 4286578688#32) (Finset.univ.fold max (Ideal.ofBits .f32 4286578688#32) fun d : Fin 2048 => (s (ix4 b h l d) : EReal))) := by
  unfold expScores
  have h1 := rowMax40 s b h l
  generalize Host.reduce (FloatOps.maximumf (F := Ideal) (φ := .f32)) s (constant S_ .f32 0xFF800000#32 : FVec Ideal S_ .f32) reducesTo_S2x16x40x2048_S2x16x40_d3 h_S_ = g at h1 ⊢
  exact (exp_core s g b h l c).trans (congrArg (fun x : EReal => Ideal.exp (s (ix4 b h l c) - max (Ideal.ofBits .f32 4286578688#32) x)) h1)

theorem average_at (e : FVec Ideal S2x16x40x2048 .f32) (v : FVec Ideal S2x16x2048x64 .f32) (b : Fin 2) (h : Fin 16) (l : Fin 40) (d : Fin 64) :
    average (F := Ideal) e v (ix4 b h l d) = ∑ x : Fin 2048, (Ideal.div (e (ix4 b h l x)) (∑ y : Fin 2048, (e (ix4 b h l y) : EReal)) * v (ix4 b h x d) : EReal) := by
  have e' : average (F := Ideal) e v (ix4 b h l d) = ∑ x : Fin 2048, (Ideal.div (e (ix4 b h l x))
      (Host.reduceAdd e (constant S_ .f32 0x00000000#32) reducesTo_S2x16x40x2048_S2x16x40_d3 h_S_ (ix3 b h l)) * v (ix4 b h x d) : EReal) := by
    unfold average
    generalize Host.reduceAdd e (constant S_ .f32 0x00000000#32) reducesTo_S2x16x40x2048_S2x16x40_d3 h_S_ = g
    pointwise
  rw [e']
  refine Finset.sum_congr rfl fun x _ => ?_
  exact congrArg (fun z : EReal => Ideal.div (e (ix4 b h l x)) z * v (ix4 b h x d)) (HostSteps.add_at _ _ _ b h l)

theorem scores_at (q : FVec Ideal S2x16x40x64 .f32) (k : FVec Ideal S2x16x2048x64 .f32) (b : Fin 2) (h : Fin 16) (l : Fin 40) (c : Fin 2048) :
    scores (F := Ideal) q k (ix4 b h l c)
      = Scalar.select (Scalar.select (IntOp.cmpi .sge (IntOp.addi (BitVec.ofNat 32 l.val) 0#32) (BitVec.ofNat 32 c.val)) 0#1 1#1)
          (Ideal.ofBits .f32 4286578688#32) ((∑ x : Fin 64, (q (ix4 b h l x) * k (ix4 b h c x) : EReal)) * Ideal.ofBits .f32 1040187392#32) := by
  pointwise [scores]

end Cert.ReferenceIdeal.Run

end
-- ==== Proof.ReferenceAttend.lean ====
/- The reference's attention of the picked queries and its scatter, at one index. -/
module

public import proofs.«01_k».proof.Proof.ReferenceValues
public import proofs.«01_k».proof.Proof.ReferencePlaces
public import proofs.«01_k».proof.Proof.Order
public import proofs.«01_k».proof.Proof.Sums

@[expose] public section

set_option maxRecDepth 16384

noncomputable section

namespace Cert.ReferenceIdeal.Run

open Cert.ReferenceIdeal Cert.Lines Facts₀ Facts
open Idealize.ShloMosaic

/-- The mask: a key after the query's rank gets the filler. -/
theorem mask_eq (r : Fin 40) (c : Fin 2048) (x : EReal) :
    Scalar.select (Scalar.select (IntOp.cmpi .sge (IntOp.addi (BitVec.ofNat 32 r.val) 0#32) (BitVec.ofNat 32 c.val)) 0#1 1#1) (⊥ : EReal) x
      = if r.val < c.val then ⊥ else x := by
  have h : IntOp.cmpi .sge (IntOp.addi (BitVec.ofNat 32 r.val) 0#32) (BitVec.ofNat 32 c.val) = BitVec.ofBool (decide (c.val ≤ r.val)) := by
    simp only [IntOp.cmpi, IntOp.addi, BitVec.add_zero, BitVec.sle_eq_decide, toInt_word r.val (by omega), toInt_word c.val (by omega), Nat.cast_le]
  rw [h]
  by_cases hc : r.val < c.val
  · rw [if_pos hc, decide_eq_false (by omega)]; rfl
  · rw [if_neg hc, decide_eq_true (by omega)]; rfl

/-- The attention of the query of rank `r`. -/
theorem attention_at (q : FVec Ideal S2x16x40x64 .f32) (k v : FVec Ideal S2x16x2048x64 .f32) (b : Fin 2) (h : Fin 16) (r : Fin 40) (d : Fin 64) :
    average (F := Ideal) (expScores (scores q k)) v (ix4 b h r d)
      = Sums.attend (fun c : Fin 2048 => (∑ x : Fin 64, (q (ix4 b h r x) * k (ix4 b h c x) : EReal)) * Ideal.ofBits .f32 1040187392#32)
          (fun c => v (ix4 b h c d)) r.val := by
  have hw : ∀ c : Fin 2048, (expScores (F := Ideal) (scores q k) (ix4 b h r c) : EReal)
      = Sums.weight (fun c : Fin 2048 => (∑ x : Fin 64, (q (ix4 b h r x) * k (ix4 b h c x) : EReal)) * Ideal.ofBits .f32 1040187392#32) r.val c := fun c => by
    rw [exp_at, Sums.weight, Sums.ofBits_negInf, max_eq_right bot_le]
    simp only [scores_at, Sums.ofBits_negInf, mask_eq]
  rw [average_at, Sums.attend]
  simp only [hw]

/-- The scatter's result: the update of the position's rank, or the operand where no update lands. -/
theorem placed_at (x : FVec Ideal S2x16x2048x64 .f32) (i : IVec S2x16x40 32) (u : FVec Ideal S2x16x40x64 .f32) (M : Fin 2 → Fin 16 → Fin 2048 → EReal)
    (hi : ∀ b h (r : Fin 40), i (ix3 b h r) = BitVec.ofNat 32 (Order.pos (M b h) (r.castLE (by omega))).val) (b : Fin 2) (h : Fin 16) (l : Fin 2048) (d : Fin 64) :
    Host.scatter scatter_S2x16x2048x64_S2x16x40x3_S2x16x40x64_3_012_012_3 (fun _ b => b) x (places i) u (ix4 b h l d)
      = if hr : Order.rank (M b h) l < 40 then u (ix4 b h ⟨Order.rank (M b h) l, hr⟩ d) else x (ix4 b h l d) := by
  have lands : ∀ (b' : Fin 2) (h' : Fin 16) (r : Fin 40) (d' : Fin 64),
      scatter_S2x16x2048x64_S2x16x40x3_S2x16x40x64_3_012_012_3.resultIdx? (ix4 b' h' r d') (places i) = some (ix4 b h l d)
        ↔ b' = b ∧ h' = h ∧ Order.rank (M b' h') l = r.val ∧ d' = d := fun b' h' r d' => by
    rw [scatter_lands, places_zero, places_one, places_two i b' h' r (Order.pos (M b' h') (r.castLE (by omega))) (hi b' h' r), toInt_word _ (by omega), toInt_word _ (by omega), toInt_word _ (by omega)]
    constructor
    · rintro ⟨h0, h1, h2, h3⟩
      exact ⟨Fin.ext (by omega), Fin.ext (by omega), (Order.pos_eq_iff (M b' h') (r.castLE (by omega)) l).1 (Fin.ext (by omega)), h3⟩
    · rintro ⟨h0, h1, h2, h3⟩
      have := (Order.pos_eq_iff (M b' h') (r.castLE (by omega)) l).2 h2
      exact ⟨by rw [h0], by rw [h1], by rw [this], h3⟩
  by_cases hr : Order.rank (M b h) l < 40
  · rw [dif_pos hr]
    refine Routing.scatter_set_hit _ _ _ _ _ _ (fun k hk => ?_) (ix4 b h ⟨Order.rank (M b h) l, hr⟩ d) ((lands _ _ _ _).2 ⟨rfl, rfl, rfl, rfl⟩)
    rw [eq_ix4 k] at hk ⊢
    obtain ⟨h0, h1, h2, h3⟩ := (lands _ _ _ _).1 hk
    rw [h0, h1] at h2
    rw [h0, h1, h3]
    exact congrArg (fun r => u (ix4 b h r d)) (Fin.ext h2.symm)
  · rw [dif_neg hr]
    refine Routing.scatter_set_miss _ _ _ _ _ fun k hk => hr ?_
    rw [eq_ix4 k] at hk
    obtain ⟨h0, h1, h2, h3⟩ := (lands _ _ _ _).1 hk
    rw [h0, h1] at h2
    rw [h2]
    exact Fin.isLt _

end Cert.ReferenceIdeal.Run

end
-- ==== Proof.ReferenceCumsum.lean ====
/- The reference's running sum of the values, at one index. -/
module

public import proofs.«01_k».proof.Proof.ReferenceSteps
public import proofs.«01_k».proof.Proof.Sums
public import Idealize.ShloMosaic.Lib.Pointwise

@[expose] public section

set_option maxRecDepth 16384

noncomputable section

namespace Cert.ReferenceIdeal.Run

open Cert.ReferenceIdeal Cert.Lines Facts₀ Facts
open Idealize.ShloMosaic

/-- Folding by addition is the sum. -/
theorem foldl_add_map {α : Type} (l : List α) (g : α → EReal) (v : EReal) : l.foldl (fun r n => r + g n) v = v + (l.map g).sum := by
  induction l generalizing v with
  | nil => simp
  | cons a t ih => rw [List.foldl_cons, ih, List.map_cons, List.sum_cons, add_assoc]

/-- A window of `M + 1` entries ending at `l`, padded below by zeros, sums the entries up to `l`. -/
theorem window_sum {M : ℕ} (f : Fin (M + 1) → EReal) (l : Fin (M + 1)) :
    (∑ c : Fin (M + 1), if M ≤ l.val + c.val then Sums.ext f (l.val + c.val - M) else 0) = Sums.upto f (l.val + 1) := by
  rw [Fin.sum_univ_eq_sum_range (fun c : ℕ => if M ≤ l.val + c then Sums.ext f (l.val + c - M) else 0) (M + 1)]
  have hl := l.2
  rw [show Finset.range (M + 1) = Finset.range ((M - l.val) + (l.val + 1)) from congrArg _ (by omega), Finset.sum_range_add, Finset.sum_eq_zero, zero_add, Sums.upto]
  · refine Finset.sum_congr rfl fun x hx => ?_
    have hx' := Finset.mem_range.1 hx
    rw [if_pos (by omega)]
    congr 1
    omega
  · intro x hx
    have hx' := Finset.mem_range.1 hx
    rw [if_neg (by omega)]

/-- A running sum along the third axis, printed as a padded window. -/
theorem running {B H M N D : ℕ} (hN : N = M + 1) {u : Shape} (v : (⟨4, ![B, H, N, D]⟩ : Shape).Idx → EReal) (z : u.Idx → EReal) (hu : 0 < u.numel) (hz : z (Shape.Idx.first hu) = 0)
    (hw : (⟨4, ![B, H, N, D]⟩ : Shape).ReduceWindows (![1, 1, N, 1] : Fin 4 → ℕ) ![1, 1, 1, 1] ![0, 0, M, 0] ![0, 0, 0, 0] ⟨4, ![B, H, N, D]⟩)
    (b : Fin B) (h : Fin H) (l : Fin N) (d : Fin D) :
    Host.reduceWindow (· + ·) ![1, 1, N, 1] ![1, 1, 1, 1] ![0, 0, M, 0] ![0, 0, 0, 0] v z hw hu (ix4 b h l d)
      = Sums.upto (fun i => v (ix4 b h i d)) (l.val + 1) := by
  subst hN
  unfold Host.reduceWindow
  dsimp only
  refine (foldl_add_map _ _ _).trans ?_
  rw [hz, zero_add, ← Fin.sum_univ_def, ← window_sum]
  let G : (⟨4, ![1, 1, M + 1, 1]⟩ : Shape).Idx → EReal := fun w =>
    if M ≤ l.val + (w 2).val then Sums.ext (fun i => v (ix4 b h i d)) (l.val + (w 2).val - M) else 0
  have hG : ∑ w : (⟨4, ![1, 1, M + 1, 1]⟩ : Shape).Idx, G w
      = ∑ c : Fin (M + 1), if M ≤ l.val + c.val then Sums.ext (fun i => v (ix4 b h i d)) (l.val + c.val - M) else 0 := by
    rw [sum_idx4]
    simp only [Finset.univ_unique, Finset.sum_singleton]
    rfl
  rw [← hG, ← Equiv.sum_comp (⟨4, ![1, 1, M + 1, 1]⟩ : Shape).rowMajor.symm G]
  refine Finset.sum_congr rfl fun n _ => ?_
  let w := (⟨4, ![1, 1, M + 1, 1]⟩ : Shape).rowMajor.symm n
  have hl := l.2
  have w0 : (w 0).val = 0 := by have : (w 0).val < 1 := (w 0).2; omega
  have w1 : (w 1).val = 0 := by have : (w 1).val < 1 := (w 1).2; omega
  have w2 : (w 2).val < M + 1 := (w 2).2
  have w3 : (w 3).val = 0 := by have : (w 3).val < 1 := (w 3).2; omega
  show _ = if M ≤ l.val + (w 2).val then Sums.ext (fun i => v (ix4 b h i d)) (l.val + (w 2).val - M) else 0
  by_cases hc : M ≤ l.val + (w 2).val
  · rw [if_pos hc, Sums.ext, dif_pos (show l.val + (w 2).val - M < M + 1 from by omega)]
    refine (dif_pos fun a => ?_).trans ?_
    · fin_cases a
      · show 0 ≤ b.val * 1 + (w 0).val ∧ b.val * 1 + (w 0).val - 0 < B
        omega
      · show 0 ≤ h.val * 1 + (w 1).val ∧ h.val * 1 + (w 1).val - 0 < H
        omega
      · show M ≤ l.val * 1 + (w 2).val ∧ l.val * 1 + (w 2).val - M < M + 1
        omega
      · show 0 ≤ d.val * 1 + (w 3).val ∧ d.val * 1 + (w 3).val - 0 < D
        omega
    · refine congrArg v (funext fun a => Fin.ext ?_)
      fin_cases a
      · show b.val * 1 + (w 0).val - 0 = b.val
        omega
      · show h.val * 1 + (w 1).val - 0 = h.val
        omega
      · show l.val * 1 + (w 2).val - M = l.val + (w 2).val - M
        omega
      · show d.val * 1 + (w 3).val - 0 = d.val
        omega
  · rw [if_neg hc]
    refine dif_neg fun hin => hc ?_
    have h2 : M ≤ l.val * 1 + (w 2).val ∧ _ := hin 2
    omega

/-- The window sum, as the fold. -/
theorem windowAdd_eq {s t u : Shape} (window strides lo hi : Fin s.rank → ℕ) (x : FVec Ideal s .f32) (z : FVec Ideal u .f32) (h : s.ReduceWindows window strides lo hi t) (hu : 0 < u.numel) :
    (Host.reduceWindowAdd window strides lo hi x z h hu : FVec Ideal t .f32)
      = Host.reduceWindow (α := EReal) (fun x y => x + y) window strides lo hi x (fun _ : (⟨0, ![]⟩ : Shape).Idx => z (Shape.Idx.first hu)) h (by decide) := rfl

/-- The reference's running sum of the values. -/
theorem runningSum_at (v : FVec Ideal S2x16x2048x64 .f32) (z : FVec Ideal S_ .f32) (hz : z (Shape.Idx.first h_S_) = (0 : EReal)) (b : Fin 2) (h : Fin 16) (l : Fin 2048) (d : Fin 64) :
    (Host.reduceWindowAdd ![1, 1, 2048, 1] ![1, 1, 1, 1] ![0, 0, 2047, 0] ![0, 0, 0, 0] v z
      reduceWindows_S2x16x2048x64_S2x16x2048x64_w1s1p0_0_w1s1p0_0_w2048s1p2047_0_w1s1p0_0 h_S_ : FVec Ideal S2x16x2048x64 .f32) (ix4 b h l d)
      = Sums.upto (fun i => (v (ix4 b h i d) : EReal)) (l.val + 1) := by
  have hw := reduceWindows_S2x16x2048x64_S2x16x2048x64_w1s1p0_0_w1s1p0_0_w2048s1p2047_0_w1s1p0_0
  rw [windowAdd_eq]
  exact running (B := 2) (H := 16) (M := 2047) (N := 2048) (D := 64) (by decide) v _ _ hz hw b h l d

end Cert.ReferenceIdeal.Run

end
-- ==== Proof.ReferenceTop.lean ====
/- The reference's selected queries: the forty whose measures are greatest, greatest first, equal measures by position. -/
module

public import proofs.«01_k».proof.Proof.ReferenceSteps
public import proofs.«01_k».proof.Proof.Order
public import Idealize.ShloMosaic.Lib.SortPrefix
public import Idealize.ShloMosaic.Lib.Pointwise

@[expose] public section

set_option maxRecDepth 16384

noncomputable section

namespace Cert.ReferenceIdeal.Run

open Cert.ReferenceIdeal Cert.Lines Facts₀ Facts
open Idealize.ShloMosaic

/-- A stable sort of positions in order depends on its comparison only of a later position with an earlier one. -/
theorem stableSort_later {n : ℕ} (R R' : Fin n → Fin n → Bool) (h : ∀ a b, a < b → R b a = R' b a) :
    ∀ l : List (Fin n), l.Pairwise (· < ·) → stableSort R l = stableSort R' l := by
  intro l hl
  induction l with
  | nil => rfl
  | cons a l ih =>
    rw [List.pairwise_cons] at hl
    show insertBefore R a (stableSort R l) = insertBefore R' a (stableSort R' l)
    rw [ih hl.2]
    exact insertBefore_congr R R' a _ fun b hb => h a b (hl.1 b ((perm_stableSort R' l).mem_iff.mp hb))

theorem sortedFrom_later {n : ℕ} (R R' : Fin n → Fin n → Bool) (h : ∀ a b, a < b → R b a = R' b a) (k : Fin n) :
    sortedFrom R k = sortedFrom R' k := by
  have e : sortPositions n R = sortPositions n R' := stableSort_later R R' h _ (List.pairwise_lt_finRange n)
  unfold sortedFrom
  simp only [e, List.get_eq_getElem, Fin.val_cast]

open Classical in
theorem sorted_rank {n k : ℕ} (w : Fin n → EReal) (hk : k ≤ n) (r : Fin k) :
    sortedFrom (fun a b : Fin n => decide (w b < w a)) (r.castLE hk) = Order.pos w (r.castLE hk) := by
  rw [sortedFrom_later _ (fun a b => decide (Order.Before w a b))]
  · refine StrictTotalBefore.sortedFrom_eq_of_prefix (B := fun a b => decide (Order.Before w a b)) ⟨?_, ?_, ?_⟩ hk (fun r => Order.pos w (r.castLE hk)) ?_ ?_ ?_ r
    · intro a; simp only [decide_eq_false_iff_not]; exact Order.Before.irrefl w a
    · intro a b c h h'
      simp only [decide_eq_true_eq] at h h' ⊢
      exact Order.Before.trans w h h'
    · intro a b h
      simp only [decide_eq_true_eq]
      exact Order.Before.total w h
    · intro i j e
      have e' := congrArg (Order.rank w) e
      simp only [Order.rank_pos] at e'
      exact Fin.ext e'
    · intro i j hij
      simp only [decide_eq_false_iff_not]
      intro hb
      have := Order.rank_lt_of_before w hb
      simp only [Order.rank_pos, Fin.val_castLE] at this
      omega
    · intro i p hp
      simp only [decide_eq_false_iff_not]
      intro hb
      have h1 := Order.rank_lt_of_before w hb
      simp only [Order.rank_pos, Fin.val_castLE] at h1
      exact hp ⟨Order.rank w p, by omega⟩ ((Order.pos_eq_iff w _ p).mpr rfl)
  · intro a b hab
    refine decide_eq_decide.mpr ⟨fun h => Or.inl h, fun h => ?_⟩
    rcases h with h | ⟨-, h⟩
    · exact h
    · exact absurd h (by omega)

/-- The positions a top-k over the last axis returns, from the sort by the given order. -/
theorem topK_positions {α : Type} {B H n k : ℕ} (hk : k ≤ n) (gt : α → α → BitVec 1) (x : (⟨3, ![B, H, n]⟩ : Shape).Idx → α)
    (hs : (⟨3, ![B, H, n]⟩ : Shape).Slices (fun _ => 0) ⟨3, ![B, H, k]⟩) (b : Fin B) (h : Fin H) (r : Fin k) :
    (Host.topK ⟨3, ![B, H, k]⟩ 2 gt x hs).2 (ix3 b h r)
      = BitVec.ofNat 32 (sortedFrom (fun a c : Fin n => gt (x (ix3 b h a)) (x (ix3 b h c)) == 1#1) (r.castLE hk)).val := by
  have ea : ∀ a : Fin n, (ix3 b h (r.castLE hk) : (⟨3, ![B, H, n]⟩ : Shape).Idx).along (2 : Fin 3) a = ix3 b h a := fun a => by
    funext q
    fin_cases q <;> rfl
  unfold Host.topK extractStridedSlice
  dsimp only
  rw [show (fun a : Fin 3 => (⟨0 + ((ix3 b h r : (⟨3, ![B, H, k]⟩ : Shape).Idx) (a.cast hs.1.symm)).val, Nat.lt_of_lt_of_le (Nat.add_lt_add_left (Fin.isLt _) _) (hs.2 a)⟩ : Fin ((⟨3, ![B, H, n]⟩ : Shape).size a)))
      = (ix3 b h (r.castLE hk) : (⟨3, ![B, H, n]⟩ : Shape).Idx) from by
    funext q
    fin_cases q <;> exact Fin.ext (Nat.zero_add _)]
  unfold Host.sort2
  rw [dif_pos (show 2 < (⟨3, ![B, H, n]⟩ : Shape).rank from Nat.lt_succ_self 2)]
  show BitVec.ofNat 32 ((sortedFrom (fun a c : Fin n => gt (x ((ix3 b h (r.castLE hk) : (⟨3, ![B, H, n]⟩ : Shape).Idx).along (2 : Fin 3) a)) (x ((ix3 b h (r.castLE hk) : (⟨3, ![B, H, n]⟩ : Shape).Idx).along (2 : Fin 3) c)) == 1#1) (r.castLE hk))).val = _
  rw [show (fun a c : Fin n => gt (x ((ix3 b h (r.castLE hk) : (⟨3, ![B, H, n]⟩ : Shape).Idx).along (2 : Fin 3) a)) (x ((ix3 b h (r.castLE hk) : (⟨3, ![B, H, n]⟩ : Shape).Idx).along (2 : Fin 3) c)) == 1#1)
    = (fun a c : Fin n => gt (x (ix3 b h a)) (x (ix3 b h c)) == 1#1) from by funext a c; rw [ea, ea]]

/-- The picked query of rank `r` is the position of that rank. -/
theorem top_at (x : FVec Ideal S2x16x2048 .f32) (b : Fin 2) (h : Fin 16) (r : Fin 40) :
    (Host.topK S2x16x40 2 (FloatOps.cmpfTotal (F := Ideal) (φ := .f32) .gt) x sliceFits_S2x16x2048_S2x16x40).2 (ix3 b h r)
      = BitVec.ofNat 32 (Order.pos (fun l : Fin 2048 => (x (ix3 b h l) : EReal)) (r.castLE (by omega))).val := by
  rw [← sorted_rank]
  refine (topK_positions (by omega) _ _ _ b h r).trans ?_
  refine congrArg (fun R : Fin 2048 → Fin 2048 → Bool => BitVec.ofNat 32 (sortedFrom R (r.castLE (by omega))).val) ?_
  funext a c
  generalize x (ix3 b h a) = p
  generalize x (ix3 b h c) = q
  show (BitVec.ofBool (decide ((q : EReal) < p)) == 1#1) = decide ((q : EReal) < p)
  cases decide ((q : EReal) < p) <;> rfl

end Cert.ReferenceIdeal.Run

end
-- ==== Proof.ReferenceResult.lean ====
/- The reference's result at one index, on real queries and keys: the attention of the picked queries, the running sum elsewhere. -/
module

public import proofs.«01_k».proof.Proof.ReferenceArgs
public import proofs.«01_k».proof.Proof.ReferenceAttend
public import proofs.«01_k».proof.Proof.ReferenceCumsum
public import proofs.«01_k».proof.Proof.ReferenceTop

@[expose] public section

set_option maxRecDepth 16384

noncomputable section

namespace Cert.ReferenceIdeal.Run

open Cert.ReferenceIdeal Cert.Lines Facts₀ Facts
open Idealize.ShloMosaic Idealize.ShloMosaic.StableHlo Idealize.ShloMosaic.TcCoe

/-- The product of a query and a key. -/
def prod (q k : S2x2048x16x64.Idx → ℝ) (b : Fin 2) (h : Fin 16) (l j : Fin 2048) : ℝ := ∑ y : Fin 64, k (ix4 b j h y) * q (ix4 b l h y)

/-- The measure of a query from its sampled products. -/
def sampled (idx : Fin 40 → Fin 2048) (p : Fin 2048 → ℝ) : EReal :=
  (Finset.univ.fold max ⊥ fun s => (p (idx s) : EReal)) - Ideal.div (∑ s, (p (idx s) : EReal)) (Ideal.ofBits .f32 0x45000000#32)

/-- The measures of a head's queries. -/
def measures (q k : S2x2048x16x64.Idx → ℝ) (idx : Fin 2048 → Fin 40 → Fin 2048) (b : Fin 2) (h : Fin 16) (l : Fin 2048) : EReal :=
  sampled (idx l) (prod q k b h l)

/-- What the result holds at one index. -/
def outAt (q k : S2x2048x16x64.Idx → ℝ) (v : S2x2048x16x64.Idx → EReal) (idx : Fin 2048 → Fin 40 → Fin 2048) (b : Fin 2) (l : Fin 2048) (h : Fin 16) (d : Fin 64) : EReal :=
  if Order.rank (measures q k idx b h) l < 40 then
    Sums.attend (fun c : Fin 40 => (∑ x : Fin 64, (q (ix4 b l h x) : EReal) * (k (ix4 b (c.castLE (by omega)) h x) : EReal)) * Ideal.ofBits .f32 1040187392#32)
      (fun c : Fin 40 => v (ix4 b (c.castLE (by omega)) h d)) (Order.rank (measures q k idx b h) l)
  else Sums.upto (fun i : Fin 2048 => v (ix4 b i h d)) (l.val + 1)

theorem ofBits_eighth : Ideal.ofBits .f32 1040187392#32 = (((1 : ℝ) / 8 : ℝ) : EReal) := by
  have h : BitVec.extractLsb' 31 1 1040187392#32 = 0#1 := by decide
  simp only [Ideal.ofBits, Ideal.ieee]
  norm_num [h, Nat.shiftRight_eq_div_pow]

/-- On reals, the attention over all keys is the one over the first forty. -/
theorem attend_forty (q : Fin 64 → ℝ) (k : Fin 2048 → Fin 64 → ℝ) (v : Fin 2048 → EReal) (r : ℕ) (hr : r < 40) :
    Sums.attend (fun c : Fin 2048 => (∑ x : Fin 64, (q x : EReal) * (k c x : EReal)) * Ideal.ofBits .f32 1040187392#32) v r
      = Sums.attend (fun c : Fin 40 => (∑ x : Fin 64, (q x : EReal) * (k (c.castLE (by omega)) x : EReal)) * Ideal.ofBits .f32 1040187392#32)
          (fun c : Fin 40 => v (c.castLE (by omega))) r := by
  have e : ∀ c : Fin 2048, (∑ x : Fin 64, (q x : EReal) * (k c x : EReal)) * Ideal.ofBits .f32 1040187392#32 = (((∑ x : Fin 64, q x * k c x) * (1 / 8) : ℝ) : EReal) := fun c => by
    rw [ofBits_eighth, EReal.coe_mul, Sums.coe_sum]
    simp only [EReal.coe_mul]
  simp only [e]
  exact Sums.attend_prefix (by omega) (fun c => (∑ x : Fin 64, q x * k c x) * (1 / 8)) v r hr

/-- The sampled keys. -/
def keyRows (tk : FVec Ideal S2x16x2048x64 .f32) (keys : IVec S2048x40 32) : FVec Ideal S2x16x2048x40x64 .f32 :=
  Host.gather gather_S2x16x2048x64_S2048x40x1_S2x16x2048x40x64_014_2_n_n_2_2_216164 tk
    (broadcastInDim S2048x40x1 ![0, 1] bcast_S2048x40_S2048x40x1_0_1 (wrap 2048#32 bcast_S_S2048x40 keys))

/-- The picked queries' positions. -/
def top (tq tk : FVec Ideal S2x16x2048x64 .f32) (keys : IVec S2048x40 32) : IVec S2x16x40 32 :=
  (Host.topK S2x16x40 2 (FloatOps.cmpfTotal (F := Ideal) (φ := .f32) .gt) (measure (F := Ideal) tq (keyRows tk keys)) sliceFits_S2x16x2048_S2x16x40).2

/-- The picked queries. -/
def picked (tq tk : FVec Ideal S2x16x2048x64 .f32) (keys : IVec S2048x40 32) : FVec Ideal S2x16x40x64 .f32 :=
  takeRows tq (wrap 2048#32 bcast_S_S2x16x40x1 (broadcastInDim S2x16x40x1 ![0, 1, 2] bcast_S2x16x40_S2x16x40x1_0_1_2 (top tq tk keys)))

/-- Their attention. -/
def attended (tq tk tv : FVec Ideal S2x16x2048x64 .f32) (keys : IVec S2048x40 32) : FVec Ideal S2x16x40x64 .f32 :=
  average (expScores (scores (picked tq tk keys) tk)) tv

/-- The running sums of the values. -/
def runningSums (tv : FVec Ideal S2x16x2048x64 .f32) : FVec Ideal S2x16x2048x64 .f32 :=
  Host.reduceWindowAdd ![1, 1, 2048, 1] ![1, 1, 1, 1] ![0, 0, 2047, 0] ![0, 0, 0, 0] tv
    (broadcastInDim S_ ![] bcast_S_S_ (constant S_ .f32 0x00000000#32)) reduceWindows_S2x16x2048x64_S2x16x2048x64_w1s1p0_0_w1s1p0_0_w2048s1p2047_0_w1s1p0_0 h_S_

/-- The whole result. -/
def whole (tq tk tv : FVec Ideal S2x16x2048x64 .f32) (keys : IVec S2048x40 32) : FVec Ideal S2x2048x16x64 .f32 :=
  transpose S2x2048x16x64 [0, 2, 1, 3] (Host.scatter scatter_S2x16x2048x64_S2x16x40x3_S2x16x40x64_3_012_012_3 (fun _ b => b)
    (runningSums tv) (places (top tq tk keys)) (attended tq tk tv keys)) transposes_S2x16x2048x64_S2x2048x16x64_0_2_1_3

section Pure

variable (tq tk tv : FVec Ideal S2x16x2048x64 .f32) (keys : IVec S2048x40 32) (q k : S2x2048x16x64.Idx → ℝ) (v : S2x2048x16x64.Idx → EReal)
  (idx : Fin 2048 → Fin 40 → Fin 2048)
  (hq : ∀ b h l d, tq (ix4 b h l d) = (q (ix4 b l h d) : EReal)) (hk : ∀ b h l d, tk (ix4 b h l d) = (k (ix4 b l h d) : EReal))
  (hv : ∀ b h l d, tv (ix4 b h l d) = v (ix4 b l h d))
  (hidx : ∀ l s, keys (ix2 l s) = BitVec.ofNat 32 (idx l s).val)

include hk hidx in
theorem keyRows_at (b : Fin 2) (h : Fin 16) (l : Fin 2048) (s : Fin 40) (x : Fin 64) :
    keyRows tk keys (ix5 b h l s x) = (k (ix4 b (idx l s) h x) : EReal) := by
  refine (sampledKeys_at _ _ b h l s x (idx l s) ?_).trans (hk _ _ _ _)
  rw [keys_at _ l s (idx l s) (hidx l s), toInt_word _ (by omega)]

include hq hk hidx in
theorem measures_at (b : Fin 2) (h : Fin 16) (l : Fin 2048) :
    measure (F := Ideal) tq (keyRows tk keys) (ix3 b h l) = measures q k idx b h l := by
  have e : ∀ s : Fin 40, (∑ x : Fin 64, (tq (ix4 b h l x) * keyRows tk keys (ix5 b h l s x) : EReal)) = (prod q k b h l (idx l s) : EReal) := fun s => by
    rw [prod, Sums.coe_sum]
    refine Finset.sum_congr rfl fun x _ => ?_
    rw [keyRows_at tk keys k idx hk hidx, hq, EReal.coe_mul, mul_comm]
  refine (measure_at _ _ b h l).trans ?_
  rw [measures, sampled, Sums.ofBits_negInf]
  simp only [e]

include hq hk hidx in
theorem top_rank (b : Fin 2) (h : Fin 16) (r : Fin 40) :
    top tq tk keys (ix3 b h r) = BitVec.ofNat 32 (Order.pos (measures q k idx b h) (r.castLE (by omega))).val := by
  refine (top_at _ b h r).trans ?_
  exact congrArg (fun w : Fin 2048 → EReal => BitVec.ofNat 32 (Order.pos w (r.castLE (by omega))).val)
    (funext fun l => measures_at tq tk keys q k idx hq hk hidx b h l)

include hq hk hidx in
theorem picked_at (b : Fin 2) (h : Fin 16) (r : Fin 40) (x : Fin 64) :
    picked tq tk keys (ix4 b h r x) = (q (ix4 b (Order.pos (measures q k idx b h) (r.castLE (by omega))) h x) : EReal) :=
  (takeRows_at _ _ b h r x _ (rows_at _ b h r _ (top_rank tq tk keys q k idx hq hk hidx b h r))).trans (hq _ _ _ _)

include hq hk hv hidx in
theorem attended_at (b : Fin 2) (h : Fin 16) (r : Fin 40) (d : Fin 64) :
    attended tq tk tv keys (ix4 b h r d)
      = Sums.attend (fun j : Fin 40 => (∑ x : Fin 64, (q (ix4 b (Order.pos (measures q k idx b h) (r.castLE (by omega))) h x) : EReal) * (k (ix4 b (j.castLE (by omega)) h x) : EReal))
            * Ideal.ofBits .f32 1040187392#32)
          (fun j : Fin 40 => v (ix4 b (j.castLE (by omega)) h d)) r.val := by
  refine (attention_at _ _ _ b h r d).trans ?_
  simp only [picked_at tq tk keys q k idx hq hk hidx, hk, hv]
  exact attend_forty (fun x => q (ix4 b (Order.pos (measures q k idx b h) (r.castLE (by omega))) h x)) (fun j x => k (ix4 b j h x)) _ r.val r.isLt

include hv in
theorem runningSums_at (b : Fin 2) (h : Fin 16) (l : Fin 2048) (d : Fin 64) :
    runningSums tv (ix4 b h l d) = Sums.upto (fun i => v (ix4 b i h d)) (l.val + 1) := by
  refine (runningSum_at _ _ ?_ b h l d).trans ?_
  · show Ideal.ofBits .f32 0#32 = 0
    simp [Ideal.ofBits, Ideal.ieee]
  · simp only [hv]

include hq hk hv hidx in
theorem whole_at (b : Fin 2) (l : Fin 2048) (h : Fin 16) (d : Fin 64) : whole tq tk tv keys (ix4 b l h d) = outAt q k v idx b l h d := by
  refine (swappedBack_at _ b h l d).trans ((placed_at _ _ _ (measures q k idx) (fun b h r => top_rank tq tk keys q k idx hq hk hidx b h r) b h l d).trans ?_)
  rw [outAt]
  by_cases hr : Order.rank (measures q k idx b h) l < 40
  · rw [dif_pos hr, if_pos hr]
    refine (attended_at tq tk tv keys q k v idx hq hk hv hidx b h _ d).trans ?_
    rw [(Order.pos_eq_iff (measures q k idx b h) ((⟨Order.rank (measures q k idx b h) l, hr⟩ : Fin 40).castLE (by omega)) l).2 rfl]
  · rw [dif_neg hr, if_neg hr]
    exact runningSums_at tv v hv b h l d

end Pure

variable (m : (ℓ : Loc nD τ sig) → Buf (Elt Ideal) ℓ) (c : Dev nD)

/-- The result buffer holds the whole result. -/
theorem result_whole : (result m c : FVec Ideal S2x2048x16x64 .f32)
    = whole (W (VB m c) (Proc.devRef .tc main_v0)) (W (VB m c) (Proc.devRef .tc main_v1)) (W (VB m c) (Proc.devRef .tc main_v2)) (VB m c (Proc.devRef .tc main_v10)) := by
  show (W (VB m c) (Proc.devRef .tc main_v73) : FVec Ideal S2x2048x16x64 .f32) = _
  rw [step73, step71, step46, step41, step34, step25, stepTop, step23, step17, step16, step29, W_keys]
  rfl

theorem result_at (q k : S2x2048x16x64.Idx → ℝ) (v : S2x2048x16x64.Idx → EReal) (idx : Fin 2048 → Fin 40 → Fin 2048)
    (hq : (m ((c : Thread nD τ).loc main_arg0) : FVec Ideal S2x2048x16x64 .f32) = fun i => (q i : EReal))
    (hk : (m ((c : Thread nD τ).loc main_arg1) : FVec Ideal S2x2048x16x64 .f32) = fun i => (k i : EReal))
    (hv : (m ((c : Thread nD τ).loc main_arg2) : FVec Ideal S2x2048x16x64 .f32) = v)
    (hidx : ∀ l s, (VB m c (Proc.devRef .tc main_v10) : IVec S2048x40 32) (ix2 l s) = BitVec.ofNat 32 (idx l s).val)
    (b : Fin 2) (l : Fin 2048) (h : Fin 16) (d : Fin 64) :
    (result m c : FVec Ideal S2x2048x16x64 .f32) (ix4 b l h d) = outAt q k v idx b l h d :=
  (congrFun (result_whole m c) (ix4 b l h d)).trans (whole_at _ _ _ _ q k v idx
    (fun b h l d => (W_q_at m c b h l d).trans (congrFun hq _)) (fun b h l d => (W_k_at m c b h l d).trans (congrFun hk _))
    (fun b h l d => (W_v_at m c b h l d).trans (congrFun hv _)) hidx b l h d)

end Cert.ReferenceIdeal.Run

end
-- ==== Proof.Finite.lean ====
/- What the precondition says: every query entry and every key entry is a real number. -/
module

public import proofs.«01_k».proof.Pre_finite
public import proofs.«01_k».proof.Proof.Sums
public import Idealize.ShloMosaic.Lib.Pointwise

@[expose] public section

set_option maxRecDepth 16384

noncomputable section

namespace Cert.Pre_finite

open Idealize.ShloMosaic

/-- The side condition of the precondition's function. -/
theorem facts : Facts := ⟨by decide⟩

/-- An extended real whose absolute value is below infinity is a real. -/
theorem real_of_abs (x : EReal) (h : Ideal.cmp .olt (max x (-x)) (Ideal.ofBits .f32 0x7F800000#32) = 1#1) : ∃ r : ℝ, x = r := by
  rw [Sums.ofBits_inf] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x with
  | bot => simp at h'
  | coe r => exact ⟨r, rfl⟩
  | top => simp at h'

theorem and_one : ∀ a b : BitVec 1, IntOp.andi a b = 1#1 → a = 1#1 ∧ b = 1#1 := by decide

variable [Facts]

theorem reals (q k v : FVec Ideal S2x2048x16x64 .f32) (h : fn (F := Ideal) q k v = fun _ => 1#1) :
    (∃ f : S2x2048x16x64.Idx → ℝ, ∀ i, (q i : EReal) = f i) ∧ ∃ f : S2x2048x16x64.Idx → ℝ, ∀ i, (k i : EReal) = f i := by
  have e : ∀ i, Ideal.cmp .olt (max (q i : EReal) (-(q i : EReal))) (Ideal.ofBits .f32 0x7F800000#32) = 1#1
      ∧ Ideal.cmp .olt (max (k i : EReal) (-(k i : EReal))) (Ideal.ofBits .f32 0x7F800000#32) = 1#1 := fun i =>
    and_one _ _ (congrFun h i)
  exact ⟨⟨fun i => (real_of_abs _ (e i).1).choose, fun i => (real_of_abs _ (e i).1).choose_spec⟩,
    ⟨fun i => (real_of_abs _ (e i).2).choose, fun i => (real_of_abs _ (e i).2).choose_spec⟩⟩

end Cert.Pre_finite

end
-- ==== Proof.Equation.lean ====
/- The equation: on real queries and keys, the kernel's result is the reference's. -/
module

public import proofs.«01_k».proof.Proof.KernelCounts
public import proofs.«01_k».proof.Proof.KernelLayout
public import proofs.«01_k».proof.Proof.DrawRange
public import proofs.«01_k».proof.Proof.Agreement
public import proofs.«01_k».proof.Proof.ReferenceResult
public import proofs.«01_k».proof.Proof.Finite

@[expose] public section

set_option maxRecDepth 16384

noncomputable section

namespace Cert.Equation

open Cert.KernelIdeal Cert.KernelIdeal.Gen Cert.KernelIdeal.Value
open Idealize.ShloMosaic Idealize.ShloMosaic.TcCoe
open Cert.ReferenceIdeal.Run (measures sampled prod outAt)

theorem select_pos (a x y : EReal) : Scalar.select (Ideal.cmp .ogt a 0) x y = if 0 < a then x else y := by
  show Scalar.select (BitVec.ofBool (decide (0 < a))) x y = _
  by_cases h : 0 < a
  · rw [if_pos h, decide_eq_true h]; rfl
  · rw [if_neg h, decide_eq_false h]; rfl

/-- The kernel's measure, by counts, is the reference's, by samples. -/
theorem keyMeasure_eq (n : FVec Ideal S2048x2048 .f32) (q k : S2x2048x16x64.Idx → ℝ) (idx : Fin 2048 → Fin 40 → Fin 2048)
    (hn : ∀ j l, n (ix2 j l) = Sums.count (idx l) j) (b : Fin 2) (h : Fin 16) (l : Fin 2048) :
    keyMeasure n (fun i => (q i : EReal)) (fun i => (k i : EReal)) b h l = measures q k idx b h l := by
  have e : ∀ j : Fin 2048, (∑ y : Fin 64, ((k (ix4 b j h y) : EReal) * (q (ix4 b l h y) : EReal))) = ((prod q k b h l j : ℝ) : EReal) := fun j => by
    rw [prod, Sums.coe_sum]
    simp only [EReal.coe_mul]
  unfold keyMeasure measureOf
  simp only [hn, e, select_pos, Sums.ofBits_negInf]
  exact Sums.measure_eq (idx l) (prod q k b h l)

/-- The kernel's result at one index. -/
theorem kernel_at (m : (ℓ : Loc nD τ sig) → Buf (Elt Ideal) ℓ) (c : Dev nD) (q k : S2x2048x16x64.Idx → ℝ) (v : S2x2048x16x64.Idx → EReal)
    (hq : (m ((c : Thread nD τ).loc main_arg0) : FVec Ideal S2x2048x16x64 .f32) = fun i => (q i : EReal))
    (hk : (m ((c : Thread nD τ).loc main_arg1) : FVec Ideal S2x2048x16x64 .f32) = fun i => (k i : EReal))
    (hv : (m ((c : Thread nD τ).loc main_arg2) : FVec Ideal S2x2048x16x64 .f32) = v)
    (b : Fin 2) (l : Fin 2048) (h : Fin 16) (d : Fin 64) :
    (result m c : FVec Ideal S2x2048x16x64 .f32) (ix4 b l h d) = outAt q k v (key m c) b l h d := by
  have hM : ∀ b h l, keyMeasure (V m c main_v26) (m ((c : Thread nD τ).loc main_arg0)) (m ((c : Thread nD τ).loc main_arg1)) b h l = measures q k (key m c) b h l := fun b h l => by
    rw [hq, hk]
    exact keyMeasure_eq _ q k (key m c) (fun j l => V_counts_at m c (key m c) (drawn_at m c) j l) b h l
  refine (result_at m c (fun b h l => ?_) b l h d).trans ?_
  · rw [hM]
    exact Sums.measure_real (by decide) (key m c l) (prod q k b h l)
  · rw [show keyMeasure (V m c main_v26) (m ((c : Thread nD τ).loc main_arg0)) (m ((c : Thread nD τ).loc main_arg1)) b h = measures q k (key m c) b h from funext (hM b h), hq, hk, hv]
    rfl

/-- The two results agree. -/
theorem results_eq (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ) (c' : Dev Cert.ReferenceIdeal.nD)
    [Cert.Pre_finite.Facts]
    (hfin : Cert.Pre_finite.fn (F := Ideal) (m ((c : Thread nD τ).loc main_arg0)) (m ((c : Thread nD τ).loc main_arg1)) (m ((c : Thread nD τ).loc main_arg2)) = fun _ => 1#1)
    (h0 : (m' ((c' : Thread Cert.ReferenceIdeal.nD Cert.ReferenceIdeal.τ).loc Cert.ReferenceIdeal.main_arg0) : FVec Ideal S2x2048x16x64 .f32) = m ((c : Thread nD τ).loc main_arg0))
    (h1 : (m' ((c' : Thread Cert.ReferenceIdeal.nD Cert.ReferenceIdeal.τ).loc Cert.ReferenceIdeal.main_arg1) : FVec Ideal S2x2048x16x64 .f32) = m ((c : Thread nD τ).loc main_arg1))
    (h2 : (m' ((c' : Thread Cert.ReferenceIdeal.nD Cert.ReferenceIdeal.τ).loc Cert.ReferenceIdeal.main_arg2) : FVec Ideal S2x2048x16x64 .f32) = m ((c : Thread nD τ).loc main_arg2)) :
    (Cert.ReferenceIdeal.Run.result m' c' : FVec Ideal S2x2048x16x64 .f32) = (result m c : FVec Ideal S2x2048x16x64 .f32) := by
  obtain ⟨⟨q, hq⟩, ⟨k, hk⟩⟩ := Cert.Pre_finite.reals _ _ _ hfin
  have hq' := funext hq
  have hk' := funext hk
  funext i
  rw [eq_ix4 i]
  refine (Cert.ReferenceIdeal.Run.result_at m' c' q k (m ((c : Thread nD τ).loc main_arg2)) (key m c) (h0.trans hq') (h1.trans hk') h2 (fun l s => ?_) _ _ _ _).trans
    (kernel_at m c q k (m ((c : Thread nD τ).loc main_arg2)) hq' hk' rfl _ _ _ _).symm
  exact (congrFun (Cert.Draw.keys_eq m c m' c') (ix2 l s)).trans (drawn_at m c l s)

end Cert.Equation

end
-- ==== Proof.lean ====
/-
  The proof of the claim: the frames of the three programs, the preservation, and the equation between the ideal
  kernel and the ideal reference.
-/
module

public import proofs.«01_k».proof.Defs
public import proofs.«01_k».proof.Proof.Gen.Kernel
public import proofs.«01_k».proof.Proof.KernelFrame
public import proofs.«01_k».proof.Proof.Gen.KernelIdeal
public import proofs.«01_k».proof.Proof.KernelRun
public import proofs.«01_k».proof.Proof.Gen.ReferenceIdeal
public import proofs.«01_k».proof.Proof.ReferenceLine
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite.facts,
  fun m g _ => Cert.Kernel.Quiet.frame_run m g,
  fun m g _ => Cert.KernelIdeal.Value.frame_run m g,
  fun m g _ => Cert.KernelIdeal.Value.frame_run m g,
  fun m g _ => (θ_run _ _ _).mono (fun _ h => ⟨fun c => (h.1 c).2, h.2⟩) (Cert.ReferenceIdeal.Run.value_run m g),
  fun m g _ => (θ_run _ _ _).mono (fun _ h => ⟨fun c => (h.1 c).2, h.2⟩) (Cert.ReferenceIdeal.Run.value_run m g),
  trivial,
  fun m g m' g' hfin hargs => ⟨fun c => Cert.KernelIdeal.Value.result m c,
    Cert.KernelIdeal.Value.value_run m g,
    (θ_run _ _ _).mono (fun _ h => fun c => ⟨(h.1 c).1.trans
      (letI := Cert.Pre_finite.facts; Cert.Equation.results_eq m c m' c (hfin c) (hargs c).1 (hargs c).2.1 (hargs c).2.2), (h.1 c).2⟩)
      (Cert.ReferenceIdeal.Run.value_run m' g')⟩⟩

end Cert.Proof

end
